-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 ((8⁻¹ * (Real.log 2)⁻¹ : ℝ) : EReal)

def algebraic_KernelIdeal_ReferenceIdeal_on_first_tokens_pre_finite_scores [hKernelIdeal : Cert.KernelIdeal.Facts] [hReferenceIdeal : Cert.ReferenceIdeal.Facts] [hPre_finite_scores : Cert.Pre_finite_scores.Facts] [hOn_first_tokens : Cert.On_first_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 16384]⟩ : Shape).Idx, (Cert.On_first_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v74) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 16384]⟩ : Shape).Idx, (Cert.On_first_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v203) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_in_range : Cert.Pre_experts_in_range.Facts) (hOn_first_tokens : Cert.On_first_tokens.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_first_tokens_pre_finite_scores (hKernelIdeal := hKernelIdeal) (hReferenceIdeal := hReferenceIdeal) (hPre_finite_scores := hPre_finite_scores) (hOn_first_tokens := hOn_first_tokens)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
-- ==== On_first_tokens.lean ====
abbrev S16384x1024 : Shape := ⟨2, ![16384, 1024]⟩
abbrev S16384x48 : Shape := ⟨2, ![16384, 48]⟩
abbrev S4x1024x64 : Shape := ⟨3, ![4, 1024, 64]⟩
abbrev S16384x256 : Shape := ⟨2, ![16384, 256]⟩
abbrev S16384 : Shape := ⟨1, ![16384]⟩
abbrev S1x16384 : Shape := ⟨2, ![1, 16384]⟩
abbrev S_ : Shape := ⟨0, ![]⟩
abbrev S1024x16384 : Shape := ⟨2, ![1024, 16384]⟩

class Facts : Prop where
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S1024x16384_0_1 : S1x16384.BroadcastsInDim S1024x16384 (![0, 1] : Fin 2 → Fin S1024x16384.rank)

variable [Facts]

def fn {F : FTy → Type} [FloatOps F] (main_arg0 : FVec F S16384x1024 .f32) (main_arg1 : FVec F S16384x48 .f32) (main_arg2 : FVec F S4x1024x64 .f32) (main_arg3 : FVec F S4x1024x64 .f32) (main_arg4 : FVec F S16384x256 .f32) (main_arg5 : FVec F S16384x256 .f32) (main_arg6 : FVec F S16384x256 .f32) (main_arg7 : FVec F S16384x256 .f32) : IVec S1024x16384 1 :=
  let main_v0 : IVec S16384 32 := iotaInDim S16384 32 0
  let main_v1 : IVec S1x16384 32 := broadcastInDim S1x16384 ![1] bcast_S16384_S1x16384_1 main_v0
  let main_c : IVec S_ 32 := constantI S_ 32 128#32
  let main_v2 : IVec S1x16384 32 := broadcastInDim S1x16384 ![] bcast_S_S1x16384 main_c
  let main_v3 : IVec S1x16384 1 := cmpi .slt main_v1 main_v2
  let main_v4 : IVec S1024x16384 1 := broadcastInDim S1024x16384 ![0, 1] bcast_S1x16384_S1024x16384_0_1 main_v3
  main_v4
-- ==== Pre_experts_in_range.lean ====
abbrev S136 : Shape := ⟨1, ![136]⟩
abbrev S1 : Shape := ⟨1, ![1]⟩
abbrev S34816x1024 : Shape := ⟨2, ![34816, 1024]⟩
abbrev S34816x1 : Shape := ⟨2, ![34816, 1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S34816x1024 .bf16) (main_arg3 : FVec F S34816x1 .f32) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_scores.lean ====
abbrev S16384x1024 : Shape := ⟨2, ![16384, 1024]⟩
abbrev S16384x48 : Shape := ⟨2, ![16384, 48]⟩
abbrev S4x1024x64 : Shape := ⟨3, ![4, 1024, 64]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  main_v18

def fn {F : FTy → Type} [FloatOps F] (main_arg0 : FVec F S16384x1024 .f32) (main_arg1 : FVec F S16384x48 .f32) (main_arg2 : FVec F S4x1024x64 .f32) (main_arg3 : FVec F S4x1024x64 .f32) (main_arg4 : FVec F S16384x256 .f32) (main_arg5 : FVec F S16384x256 .f32) (main_arg6 : FVec F S16384x256 .f32) (main_arg7 : FVec F S16384x256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x64 .f32 := Host.absf main_arg2
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  let main_v9 : FVec F S16384x256 .f32 := Host.absf main_arg4
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg6
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_v13 main_v16
-- ==== Kernel.lean ====
abbrev S16384x1024 : Shape := ⟨2, ![16384, 1024]⟩
abbrev S16384x48 : Shape := ⟨2, ![16384, 48]⟩
abbrev S4x1024x64 : Shape := ⟨3, ![4, 1024, 64]⟩
abbrev S16384x256 : Shape := ⟨2, ![16384, 256]⟩
abbrev S1024x16384 : Shape := ⟨2, ![1024, 16384]⟩
abbrev S48x16384 : Shape := ⟨2, ![48, 16384]⟩
abbrev S4x12x16384 : Shape := ⟨3, ![4, 12, 16384]⟩
abbrev S_ : Shape := ⟨0, ![]⟩
abbrev S4x16x16384 : Shape := ⟨3, ![4, 16, 16384]⟩
abbrev S4x1024x128 : Shape := ⟨3, ![4, 1024, 128]⟩
abbrev S4x64x1024 : Shape := ⟨3, ![4, 64, 1024]⟩
abbrev S4x128x1024 : Shape := ⟨3, ![4, 128, 1024]⟩
abbrev S16384x8 : Shape := ⟨2, ![16384, 8]⟩
abbrev S1x16384x8 : Shape := ⟨3, ![1, 16384, 8]⟩
abbrev S4x16384x8 : Shape := ⟨3, ![4, 16384, 8]⟩
abbrev S4x16384x56 : Shape := ⟨3, ![4, 16384, 56]⟩
abbrev S4x16384x64 : Shape := ⟨3, ![4, 16384, 64]⟩
abbrev S16384x4x64 : Shape := ⟨3, ![16384, 4, 64]⟩
abbrev S4x16384x128 : Shape := ⟨3, ![4, 16384, 128]⟩
abbrev S4x1x16384 : Shape := ⟨3, ![4, 1, 16384]⟩
abbrev S4x7x16384 : Shape := ⟨3, ![4, 7, 16384]⟩
abbrev S4x8x16384 : Shape := ⟨3, ![4, 8, 16384]⟩
abbrev S4x64x16384 : Shape := ⟨3, ![4, 64, 16384]⟩
abbrev S4x72x16384 : Shape := ⟨3, ![4, 72, 16384]⟩
abbrev S128 : Shape := ⟨1, ![128]⟩
abbrev S1x128 : Shape := ⟨2, ![1, 128]⟩
abbrev S2048 : Shape := ⟨1, ![2048]⟩
abbrev S2048x1 : Shape := ⟨2, ![2048, 1]⟩
abbrev S2048x128 : Shape := ⟨2, ![2048, 128]⟩
abbrev S1152 : Shape := ⟨1, ![1152]⟩
abbrev S1152x1 : Shape := ⟨2, ![1152, 1]⟩
abbrev S1152x128 : Shape := ⟨2, ![1152, 128]⟩
abbrev S512x128 : Shape := ⟨2, ![512, 128]⟩
abbrev S2x16x128 : Shape := ⟨3, ![2, 16, 128]⟩
abbrev S2x1024x128 : Shape := ⟨3, ![2, 1024, 128]⟩
abbrev S2x128x1024 : Shape := ⟨3, ![2, 128, 1024]⟩
abbrev S2x16384x128 : Shape := ⟨3, ![2, 16384, 128]⟩
abbrev S2x72x16384 : Shape := ⟨3, ![2, 72, 16384]⟩
abbrev S2x256x512 : Shape := ⟨3, ![2, 256, 512]⟩
abbrev S2x1032x128 : Shape := ⟨3, ![2, 1032, 128]⟩
abbrev S2x1024x512 : Shape := ⟨3, ![2, 1024, 512]⟩
abbrev S512x512 : Shape := ⟨2, ![512, 512]⟩
abbrev S1x512 : Shape := ⟨2, ![1, 512]⟩
abbrev S256x128 : Shape := ⟨2, ![256, 128]⟩
abbrev S640x128 : Shape := ⟨2, ![640, 128]⟩
abbrev S640x512 : Shape := ⟨2, ![640, 512]⟩
abbrev S128x128 : Shape := ⟨2, ![128, 128]⟩
abbrev S128x512 : Shape := ⟨2, ![128, 512]⟩
abbrev S48x512 : Shape := ⟨2, ![48, 512]⟩
abbrev S8x512 : Shape := ⟨2, ![8, 512]⟩
abbrev S64x128 : Shape := ⟨2, ![64, 128]⟩
abbrev S64x512 : Shape := ⟨2, ![64, 512]⟩
abbrev S1x128x128 : Shape := ⟨3, ![1, 128, 128]⟩
abbrev S1x128x512 : Shape := ⟨3, ![1, 128, 512]⟩
abbrev S512 : Shape := ⟨1, ![512]⟩
abbrev S8x128 : Shape := ⟨2, ![8, 128]⟩
abbrev S1x8x128 : Shape := ⟨3, ![1, 8, 128]⟩
abbrev S1x512x128 : Shape := ⟨3, ![1, 512, 128]⟩
abbrev S1x64x128 : Shape := ⟨3, ![1, 64, 128]⟩
abbrev S1x256x128 : Shape := ⟨3, ![1, 256, 128]⟩
abbrev S256x256 : Shape := ⟨2, ![256, 256]⟩
abbrev S256 : Shape := ⟨1, ![256]⟩
abbrev S1x256 : Shape := ⟨2, ![1, 256]⟩
abbrev S256x512 : Shape := ⟨2, ![256, 512]⟩
abbrev S1x256x512 : Shape := ⟨3, ![1, 256, 512]⟩
abbrev S1x640x128 : Shape := ⟨3, ![1, 640, 128]⟩
abbrev S1x72x128 : Shape := ⟨3, ![1, 72, 128]⟩
abbrev S72x128 : Shape := ⟨2, ![72, 128]⟩
abbrev S72x512 : Shape := ⟨2, ![72, 512]⟩
abbrev S1x72x640 : Shape := ⟨3, ![1, 72, 640]⟩
abbrev S72x640 : Shape := ⟨2, ![72, 640]⟩
abbrev S1x8x512 : Shape := ⟨3, ![1, 8, 512]⟩
abbrev S16x512 : Shape := ⟨2, ![16, 512]⟩
abbrev S1x72x512 : Shape := ⟨3, ![1, 72, 512]⟩
abbrev S1x16x128 : Shape := ⟨3, ![1, 16, 128]⟩
abbrev S16x128 : Shape := ⟨2, ![16, 128]⟩

abbrev nBuf : Space → Nat
  | .hbm => 114
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x48, .f32⟩
  | .hbm, ⟨2, _⟩ => ⟨S4x1024x64, .f32⟩
  | .hbm, ⟨3, _⟩ => ⟨S4x1024x64, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S1024x16384, .f32⟩
  | .hbm, ⟨9, _⟩ => ⟨S48x16384, .f32⟩
  | .hbm, ⟨10, _⟩ => ⟨S4x12x16384, .f32⟩
  | .hbm, ⟨11, _⟩ => ⟨S_, .i32⟩
  | .hbm, ⟨12, _⟩ => ⟨S_, .f32⟩
  | .hbm, ⟨13, _⟩ => ⟨S4x16x16384, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x128, .bf16⟩
  | .hbm, ⟨18, _⟩ => ⟨S4x64x1024, .f32⟩
  | .hbm, ⟨19, _⟩ => ⟨S_, .i32⟩
  | .hbm, ⟨20, _⟩ => ⟨S_, .f32⟩
  | .hbm, ⟨21, _⟩ => ⟨S4x128x1024, .f32⟩
  | .hbm, ⟨22, _⟩ => ⟨S4x128x1024, .bf16⟩
  | .hbm, ⟨23, _⟩ => ⟨S16384x8, .i32⟩
  | .hbm, ⟨24, _⟩ => ⟨S_, .i32⟩
  | .hbm, ⟨25, _⟩ => ⟨S16384x8, .i32⟩
  | .hbm, ⟨26, _⟩ => ⟨S16384x8, .i32⟩
  | .hbm, ⟨27, _⟩ => ⟨S_, .i32⟩
  | .hbm, ⟨28, _⟩ => ⟨S16384x8, .i32⟩
  | .hbm, ⟨29, _⟩ => ⟨S16384x8, .i32⟩
  | .hbm, ⟨30, _⟩ => ⟨S16384x8, .i32⟩
  | .hbm, ⟨31, _⟩ => ⟨S16384x8, .i1⟩
  | .hbm, ⟨32, _⟩ => ⟨S_, .f32⟩
  | .hbm, ⟨33, _⟩ => ⟨S_, .f32⟩
  | .hbm, ⟨34, _⟩ => ⟨S16384x8, .f32⟩
  | .hbm, ⟨35, _⟩ => ⟨S16384x8, .f32⟩
  | .hbm, ⟨36, _⟩ => ⟨S16384x8, .f32⟩
  | .hbm, ⟨37, _⟩ => ⟨S1x16384x8, .f32⟩
  | .hbm, ⟨38, _⟩ => ⟨S4x16384x8, .f32⟩
  | .hbm, ⟨39, _⟩ => ⟨S_, .f32⟩
  | .hbm, ⟨40, _⟩ => ⟨S4x16384x56, .f32⟩
  | .hbm, ⟨41, _⟩ => ⟨S_, .f32⟩
  | .hbm, ⟨42, _⟩ => ⟨S4x16384x64, .f32⟩
  | .hbm, ⟨43, _⟩ => ⟨S16384x4x64, .f32⟩
  | .hbm, ⟨44, _⟩ => ⟨S4x16384x64, .f32⟩
  | .hbm, ⟨45, _⟩ => ⟨S4x16384x8, .f32⟩
  | .hbm, ⟨46, _⟩ => ⟨S4x16384x128, .f32⟩
  | .hbm, ⟨47, _⟩ => ⟨S4x16384x128, .bf16⟩
  | .hbm, ⟨48, _⟩ => ⟨S16384x4x64, .f32⟩
  | .hbm, ⟨49, _⟩ => ⟨S4x16384x64, .f32⟩
  | .hbm, ⟨50, _⟩ => ⟨S4x16384x128, .f32⟩
  | .hbm, ⟨51, _⟩ => ⟨S4x16384x128, .bf16⟩
  | .hbm, ⟨52, _⟩ => ⟨S_, .f32⟩
  | .hbm, ⟨53, _⟩ => ⟨S4x1x16384, .f32⟩
  | .hbm, ⟨54, _⟩ => ⟨S_, .f32⟩
  | .hbm, ⟨55, _⟩ => ⟨S4x7x16384, .f32⟩
  | .hbm, ⟨56, _⟩ => ⟨S4x8x16384, .f32⟩
  | .hbm, ⟨57, _⟩ => ⟨S16384x4x64, .f32⟩
  | .hbm, ⟨58, _⟩ => ⟨S4x64x16384, .f32⟩
  | .hbm, ⟨59, _⟩ => ⟨S4x72x16384, .f32⟩
  | .hbm, ⟨60, _⟩ => ⟨S4x72x16384, .bf16⟩
  | .hbm, ⟨61, _⟩ => ⟨S_, .f32⟩
  | .hbm, ⟨62, _⟩ => ⟨S4x1x16384, .f32⟩
  | .hbm, ⟨63, _⟩ => ⟨S_, .f32⟩
  | .hbm, ⟨64, _⟩ => ⟨S4x7x16384, .f32⟩
  | .hbm, ⟨65, _⟩ => ⟨S4x8x16384, .f32⟩
  | .hbm, ⟨66, _⟩ => ⟨S16384x4x64, .f32⟩
  | .hbm, ⟨67, _⟩ => ⟨S4x64x16384, .f32⟩
  | .hbm, ⟨68, _⟩ => ⟨S4x72x16384, .f32⟩
  | .hbm, ⟨69, _⟩ => ⟨S4x72x16384, .bf16⟩
  | .hbm, ⟨70, _⟩ => ⟨S128, .i32⟩
  | .hbm, ⟨71, _⟩ => ⟨S1x128, .i32⟩
  | .hbm, ⟨72, _⟩ => ⟨S2048, .i32⟩
  | .hbm, ⟨73, _⟩ => ⟨S2048x1, .i32⟩
  | .hbm, ⟨74, _⟩ => ⟨S_, .i32⟩
  | .hbm, ⟨75, _⟩ => ⟨S2048x1, .i32⟩
  | .hbm, ⟨76, _⟩ => ⟨S2048x1, .i32⟩
  | .hbm, ⟨77, _⟩ => ⟨S_, .i32⟩
  | .hbm, ⟨78, _⟩ => ⟨S2048x1, .i32⟩
  | .hbm, ⟨79, _⟩ => ⟨S2048x1, .i32⟩
  | .hbm, ⟨80, _⟩ => ⟨S_, .i32⟩
  | .hbm, ⟨81, _⟩ => ⟨S2048x1, .i32⟩
  | .hbm, ⟨82, _⟩ => ⟨S2048x1, .i32⟩
  | .hbm, ⟨83, _⟩ => ⟨S_, .i32⟩
  | .hbm, ⟨84, _⟩ => ⟨S2048x1, .i32⟩
  | .hbm, ⟨85, _⟩ => ⟨S2048x1, .i32⟩
  | .hbm, ⟨86, _⟩ => ⟨S2048x128, .i32⟩
  | .hbm, ⟨87, _⟩ => ⟨S2048x128, .i32⟩
  | .hbm, ⟨88, _⟩ => ⟨S2048x128, .i1⟩
  | .hbm, ⟨89, _⟩ => ⟨S_, .f32⟩
  | .hbm, ⟨90, _⟩ => ⟨S_, .f32⟩
  | .hbm, ⟨91, _⟩ => ⟨S2048x128, .f32⟩
  | .hbm, ⟨92, _⟩ => ⟨S2048x128, .f32⟩
  | .hbm, ⟨93, _⟩ => ⟨S2048x128, .f32⟩
  | .hbm, ⟨94, _⟩ => ⟨S2048x128, .f32⟩
  | .hbm, ⟨95, _⟩ => ⟨S1152, .i32⟩
  | .hbm, ⟨96, _⟩ => ⟨S1152x1, .i32⟩
  | .hbm, ⟨97, _⟩ => ⟨S1152x128, .i32⟩
  | .hbm, ⟨98, _⟩ => ⟨S1152x128, .i32⟩
  | .hbm, ⟨99, _⟩ => ⟨S1152x128, .i1⟩
  | .hbm, ⟨100, _⟩ => ⟨S_, .i32⟩
  | .hbm, ⟨101, _⟩ => ⟨S1x128, .i32⟩
  | .hbm, ⟨102, _⟩ => ⟨S1x128, .i32⟩
  | .hbm, ⟨103, _⟩ => ⟨S1152x128, .i32⟩
  | .hbm, ⟨104, _⟩ => ⟨S1152x128, .i32⟩
  | .hbm, ⟨105, _⟩ => ⟨S1152x128, .i1⟩
  | .hbm, ⟨106, _⟩ => ⟨S1152x128, .i1⟩
  | .hbm, ⟨107, _⟩ => ⟨S_, .f32⟩
  | .hbm, ⟨108, _⟩ => ⟨S_, .f32⟩
  | .hbm, ⟨109, _⟩ => ⟨S1152x128, .f32⟩
  | .hbm, ⟨110, _⟩ => ⟨S1152x128, .f32⟩
  | .hbm, ⟨111, _⟩ => ⟨S1152x128, .f32⟩
  | .hbm, ⟨112, _⟩ => ⟨S1152x128, .f32⟩
  | .hbm, ⟨113, _⟩ => ⟨S1024x16384, .bf16⟩
  | .local _ .vmem, ⟨0, _⟩ => ⟨S512x128, .f32⟩
  | .local _ .vmem, ⟨1, _⟩ => ⟨S512x128, .f32⟩
  | .local _ .vmem, ⟨2, _⟩ => ⟨S2x16x128, .f32⟩
  | .local _ .vmem, ⟨3, _⟩ => ⟨S2x16x128, .f32⟩
  | .local _ .vmem, ⟨4, _⟩ => ⟨S2048x128, .f32⟩
  | .local _ .vmem, ⟨5, _⟩ => ⟨S1152x128, .f32⟩
  | .local _ .vmem, ⟨6, _⟩ => ⟨S2x1024x128, .bf16⟩
  | .local _ .vmem, ⟨7, _⟩ => ⟨S2x128x1024, .bf16⟩
  | .local _ .vmem, ⟨8, _⟩ => ⟨S2x16384x128, .bf16⟩
  | .local _ .vmem, ⟨9, _⟩ => ⟨S2x72x16384, .bf16⟩
  | .local _ .vmem, ⟨10, _⟩ => ⟨S2x16384x128, .bf16⟩
  | .local _ .vmem, ⟨11, _⟩ => ⟨S2x72x16384, .bf16⟩
  | .local _ .vmem, ⟨12, _⟩ => ⟨S512x128, .bf16⟩
  | .local _ .vmem, ⟨13, _⟩ => ⟨S512x128, .bf16⟩
  | .local _ .vmem, ⟨14, _⟩ => ⟨S2x256x512, .f32⟩
  | .local _ .vmem, ⟨15, _⟩ => ⟨S2x1032x128, .f32⟩
  | .local _ .vmem, ⟨16, _⟩ => ⟨S2x1024x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_cst_16 : Ref sig .tc := ⟨.hbm, 90, rfl⟩
abbrev main_call4_v0 : Ref sig .tc := ⟨.hbm, 91, rfl⟩
abbrev main_call4_v1 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_17 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_cst_19 : Ref sig .tc := ⟨.hbm, 108, rfl⟩
abbrev main_call5_v0 : Ref sig .tc := ⟨.hbm, 109, rfl⟩
abbrev main_call5_v1 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg1 : BitVec 32 := BitVec.ofNat 32 (i 1).val
  let c128_i32_6 : BitVec 32 := 128#32
  let v35 : BitVec 32 := Scalar.muli arg1 c128_i32_6
  v35
def k0_mult2 (i : grid0.Coords) : BitVec 32 :=
  let arg1 : BitVec 32 := BitVec.ofNat 32 (i 1).val
  let c128_i32_7 : BitVec 32 := 128#32
  let v39 : BitVec 32 := Scalar.muli arg1 c128_i32_7
  let c512_i32 : BitVec 32 := 512#32
  let v40 : BitVec 32 := Scalar.subi v39 c512_i32
  let c0_i32_8 : BitVec 32 := 0#32
  let v41 : BitVec 32 := Scalar.maxsi v40 c0_i32_8
  v41
def k0_mult3 (i : grid0.Coords) : BitVec 32 :=
  let c512_i32_11 : BitVec 32 := 512#32
  let arg1 : BitVec 32 := BitVec.ofNat 32 (i 1).val
  let c128_i32_9 : BitVec 32 := 128#32
  let v43 : BitVec 32 := Scalar.muli arg1 c128_i32_9
  let c512_i32_10 : BitVec 32 := 512#32
  let v44 : BitVec 32 := Scalar.minsi v43 c512_i32_10
  let v45 : BitVec 32 := Scalar.subi c512_i32_11 v44
  v45
def k0_off1 (i : grid0.Coords) : Fin 2 → Nat :=
  let c512_i32_11 : BitVec 32 := 512#32
  let arg1 : BitVec 32 := BitVec.ofNat 32 (i 1).val
  let c128_i32_9 : BitVec 32 := 128#32
  let v43 : BitVec 32 := Scalar.muli arg1 c128_i32_9
  let c512_i32_10 : BitVec 32 := 512#32
  let v44 : BitVec 32 := Scalar.minsi v43 c512_i32_10
  let v45 : BitVec 32 := Scalar.subi c512_i32_11 v44
  let v46 : BitVec 32 := v45
  let v47 : Index := Scalar.indexCast v46
  let c0 : Index := 0#32
  ![v47.toNat, 0]
def k0_cond1 (i : grid0.Coords) : BitVec 1 :=
  let arg1 : BitVec 32 := BitVec.ofNat 32 (i 1).val
  let c1_i32_22 : BitVec 32 := 1#32
  let v80 : BitVec 32 := Scalar.addi arg1 c1_i32_22
  let c128_i32_23 : BitVec 32 := 128#32
  let v81 : BitVec 32 := Scalar.muli v80 c128_i32_23
  let c32_i32 : BitVec 32 := 32#32
  let v82 : BitVec 32 := Scalar.subi v81 c32_i32
  let c0_i32_24 : BitVec 32 := 0#32
  let v84 : BitVec 1 := Scalar.cmpi .sgt v82 c0_i32_24
  let v85 : BitVec 32 := Scalar.extui v84
  let c0_i32_25 : BitVec 32 := 0#32
  let v86 : BitVec 1 := Scalar.cmpi .slt v82 c0_i32_25
  let v87 : BitVec 32 := Scalar.extui v86
  let v88 : BitVec 32 := Scalar.subi v85 v87
  let c16_i32 : BitVec 32 := 16#32
  let c0_i32_26 : BitVec 32 := 0#32
  let v89 : BitVec 1 := Scalar.cmpi .sgt c16_i32 c0_i32_26
  let v90 : BitVec 32 := Scalar.extui v89
  let c0_i32_27 : BitVec 32 := 0#32
  let v91 : BitVec 1 := Scalar.cmpi .slt c16_i32 c0_i32_27
  let v92 : BitVec 32 := Scalar.extui v91
  let v93 : BitVec 32 := Scalar.subi v90 v92
  let v94 : BitVec 1 := Scalar.cmpi .ne v88 v93
  let v95 : BitVec 32 := Scalar.remsi v82 c16_i32
  let c0_i32_28 : BitVec 32 := 0#32
  let v96 : BitVec 1 := Scalar.cmpi .ne v95 c0_i32_28
  let v97 : BitVec 1 := Scalar.andi v94 v96
  let v83 : BitVec 32 := Scalar.divsi v82 c16_i32
  let c1_i32_29 : BitVec 32 := 1#32
  let v98 : BitVec 32 := Scalar.subi v83 c1_i32_29
  let v99 : BitVec 32 := Scalar.select v97 v98 v83
  let c512_i32_30 : BitVec 32 := 512#32
  let v100 : BitVec 1 := Scalar.cmpi .slt v99 c512_i32_30
  let v101 : BitVec 32 := Scalar.extui v100
  let c0_i32_31 : BitVec 32 := 0#32
  let v102 : BitVec 1 := Scalar.cmpi .ne v101 c0_i32_31
  v102

def k0_mult4 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c0_i32_257 : BitVec 32 := 0#32
  let v708 : BitVec 32 := Scalar.addi v38 c0_i32_257
  v708
def k0_off2 (i : grid0.Coords) (c0_i32_257 : BitVec 32) : Fin 2 → Nat :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let v708 : BitVec 32 := Scalar.addi v38 c0_i32_257
  let v709 : BitVec 32 := v708
  let v710 : Index := Scalar.indexCast v709
  let c0_258 : Index := 0#32
  ![v710.toNat, 0]
def k0_mult5 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c128_i32_275 : BitVec 32 := 128#32
  let v734 : BitVec 32 := Scalar.addi v38 c128_i32_275
  v734
def k0_mult6 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c256_i32 : BitVec 32 := 256#32
  let v760 : BitVec 32 := Scalar.addi v38 c256_i32
  v760
def k0_mult7 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c384_i32 : BitVec 32 := 384#32
  let v786 : BitVec 32 := Scalar.addi v38 c384_i32
  v786
def k0_mult8 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c0_i32_257 : BitVec 32 := 0#32
  let v708 : BitVec 32 := Scalar.addi v38 c0_i32_257
  v708
def k0_off3 (i : grid0.Coords) (c0_i32_257 : BitVec 32) : Fin 2 → Nat :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let v708 : BitVec 32 := Scalar.addi v38 c0_i32_257
  let v709 : BitVec 32 := v708
  let v710 : Index := Scalar.indexCast v709
  let c0_258 : Index := 0#32
  ![v710.toNat, 0]
def k0_mult9 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c128_i32_275 : BitVec 32 := 128#32
  let v734 : BitVec 32 := Scalar.addi v38 c128_i32_275
  v734
def k0_mult10 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c256_i32 : BitVec 32 := 256#32
  let v760 : BitVec 32 := Scalar.addi v38 c256_i32
  v760
def k0_mult11 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c384_i32 : BitVec 32 := 384#32
  let v786 : BitVec 32 := Scalar.addi v38 c384_i32
  v786
def k0_mult12 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c512_i32_325 : BitVec 32 := 512#32
  let v812 : BitVec 32 := Scalar.addi v38 c512_i32_325
  v812
def k0_mult13 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c640_i32 : BitVec 32 := 640#32
  let v838 : BitVec 32 := Scalar.addi v38 c640_i32
  v838
def k0_mult14 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c768_i32 : BitVec 32 := 768#32
  let v864 : BitVec 32 := Scalar.addi v38 c768_i32
  v864
def k0_mult15 (i : grid0.Coords) : BitVec 32 :=
  let c1024_i32 : BitVec 32 := 1024#32
  let arg1 : BitVec 32 := BitVec.ofNat 32 (i 1).val
  let c8_i32 : BitVec 32 := 8#32
  let v37 : BitVec 32 := Scalar.muli arg1 c8_i32
  let v38 : BitVec 32 := Scalar.subi c1024_i32 v37
  let c896_i32 : BitVec 32 := 896#32
  let v890 : BitVec 32 := Scalar.addi v38 c896_i32
  v890
def k0_off4 (i : grid0.Coords) : Fin 3 → Nat :=
  let c0_119 : Index := 0#32
  let arg1 : BitVec 32 := BitVec.ofNat 32 (i 1).val
  let c128_i32_6 : BitVec 32 := 128#32
  let v35 : BitVec 32 := Scalar.muli arg1 c128_i32_6
  let v36 : BitVec 32 := v35
  let v335 : Index := Scalar.indexCast v36
  let c0_120 : Index := 0#32
  ![0, v335.toNat, 0]
def k0_off5 (i : grid0.Coords) : Fin 3 → Nat :=
  let c1_122 : Index := 1#32
  let arg1 : BitVec 32 := BitVec.ofNat 32 (i 1).val
  let c128_i32_6 : BitVec 32 := 128#32
  let v35 : BitVec 32 := Scalar.muli arg1 c128_i32_6
  let v36 : BitVec 32 := v35
  let v340 : Index := Scalar.indexCast v36
  let c0_123 : Index := 0#32
  ![1, v340.toNat, 0]
def k0_off6 (i : grid0.Coords) : Fin 3 → Nat :=
  let c0_125 : Index := 0#32
  let arg1 : BitVec 32 := BitVec.ofNat 32 (i 1).val
  let c128_i32_7 : BitVec 32 := 128#32
  let v39 : BitVec 32 := Scalar.muli arg1 c128_i32_7
  let c512_i32 : BitVec 32 := 512#32
  let v40 : BitVec 32 := Scalar.subi v39 c512_i32
  let c0_i32_8 : BitVec 32 := 0#32
  let v41 : BitVec 32 := Scalar.maxsi v40 c0_i32_8
  let v42 : BitVec 32 := v41
  let v345 : Index := Scalar.indexCast v42
  let c0_126 : Index := 0#32
  ![0, v345.toNat, 0]
def k0_off7 (i : grid0.Coords) : Fin 3 → Nat :=
  let c1_128 : Index := 1#32
  let arg1 : BitVec 32 := BitVec.ofNat 32 (i 1).val
  let c128_i32_7 : BitVec 32 := 128#32
  let v39 : BitVec 32 := Scalar.muli arg1 c128_i32_7
  let c512_i32 : BitVec 32 := 512#32
  let v40 : BitVec 32 := Scalar.subi v39 c512_i32
  let c0_i32_8 : BitVec 32 := 0#32
  let v41 : BitVec 32 := Scalar.maxsi v40 c0_i32_8
  let v42 : BitVec 32 := v41
  let v350 : Index := Scalar.indexCast v42
  let c0_129 : Index := 0#32
  ![1, v350.toNat, 0]
def k0_off8 (i : grid0.Coords) : Fin 3 → Nat :=
  let c0_132 : Index := 0#32
  let c0_133 : Index := 0#32
  let arg1 : BitVec 32 := BitVec.ofNat 32 (i 1).val
  let c128_i32_6 : BitVec 32 := 128#32
  let v35 : BitVec 32 := Scalar.muli arg1 c128_i32_6
  let v36 : BitVec 32 := v35
  let v357 : Index := Scalar.indexCast v36
  ![0, 0, v357.toNat]
def k0_off9 (i : grid0.Coords) : Fin 3 → Nat :=
  let c0_136 : Index := 0#32
  let c0_137 : Index := 0#32
  let arg1 : BitVec 32 := BitVec.ofNat 32 (i 1).val
  let c128_i32_7 : BitVec 32 := 128#32
  let v39 : BitVec 32 := Scalar.muli arg1 c128_i32_7
  let c512_i32 : BitVec 32 := 512#32
  let v40 : BitVec 32 := Scalar.subi v39 c512_i32
  let c0_i32_8 : BitVec 32 := 0#32
  let v41 : BitVec 32 := Scalar.maxsi v40 c0_i32_8
  let v42 : BitVec 32 := v41
  let v371 : Index := Scalar.indexCast v42
  ![0, 0, v371.toNat]
def k0_off10 (i : grid0.Coords) : Fin 3 → Nat :=
  let c1_140 : Index := 1#32
  let c0_141 : Index := 0#32
  let arg1 : BitVec 32 := BitVec.ofNat 32 (i 1).val
  let c128_i32_6 : BitVec 32 := 128#32
  let v35 : BitVec 32 := Scalar.muli arg1 c128_i32_6
  let v36 : BitVec 32 := v35
  let v381 : Index := Scalar.indexCast v36
  ![1, 0, v381.toNat]
def k0_off11 (i : grid0.Coords) : Fin 3 → Nat :=
  let c1_144 : Index := 1#32
  let c0_145 : Index := 0#32
  let arg1 : BitVec 32 := BitVec.ofNat 32 (i 1).val
  let c128_i32_7 : BitVec 32 := 128#32
  let v39 : BitVec 32 := Scalar.muli arg1 c128_i32_7
  let c512_i32 : BitVec 32 := 512#32
  let v40 : BitVec 32 := Scalar.subi v39 c512_i32
  let c0_i32_8 : BitVec 32 := 0#32
  let v41 : BitVec 32 := Scalar.maxsi v40 c0_i32_8
  let v42 : BitVec 32 := v41
  let v395 : Index := Scalar.indexCast v42
  ![1, 0, v395.toNat]
@[reducible] def k0_t1_loop (i : grid0.Coords) : Scf.Loop 32 :=
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_208 : BitVec 32 := 1#32
  ⟨c0_i32_206, v507, c1_i32_208⟩
def k0_mult16 (i : grid0.Coords) (k0_t1 : Fin (k0_t1_loop i).trips) : BitVec 32 :=
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c512_i32_256 : BitVec 32 := 512#32
  let v707 : BitVec 32 := Scalar.muli v706 c512_i32_256
  v707
def k0_off12 (i : grid0.Coords) (k0_t1 : Fin (k0_t1_loop i).trips) : Fin 3 → Nat :=
  let c0_257 : Index := 0#32
  let c0_258 : Index := 0#32
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c512_i32_256 : BitVec 32 := 512#32
  let v707 : BitVec 32 := Scalar.muli v706 c512_i32_256
  let v708 : BitVec 32 := v707
  let v711 : Index := Scalar.indexCast v708
  ![0, 0, v711.toNat]
def k0_mult17 (i : grid0.Coords) (k0_t1 : Fin (k0_t1_loop i).trips) : BitVec 32 :=
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c2_i32_262 : BitVec 32 := 2#32
  let v717 : BitVec 32 := Scalar.addi v706 c2_i32_262
  let c512_i32_263 : BitVec 32 := 512#32
  let v718 : BitVec 32 := Scalar.muli v717 c512_i32_263
  v718
def k0_off13 (i : grid0.Coords) (k0_t1 : Fin (k0_t1_loop i).trips) : Fin 3 → Nat :=
  let c0_264 : Index := 0#32
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c2_i32_262 : BitVec 32 := 2#32
  let v717 : BitVec 32 := Scalar.addi v706 c2_i32_262
  let c512_i32_263 : BitVec 32 := 512#32
  let v718 : BitVec 32 := Scalar.muli v717 c512_i32_263
  let v719 : BitVec 32 := v718
  let v720 : Index := Scalar.indexCast v719
  let c0_265 : Index := 0#32
  ![0, v720.toNat, 0]
def k0_mult18 (i : grid0.Coords) (k0_t1 : Fin (k0_t1_loop i).trips) : BitVec 32 :=
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c2_i32_266 : BitVec 32 := 2#32
  let v723 : BitVec 32 := Scalar.addi v706 c2_i32_266
  let c8_i32_267 : BitVec 32 := 8#32
  let v724 : BitVec 32 := Scalar.muli v723 c8_i32_267
  v724
def k0_off14 (i : grid0.Coords) (k0_t1 : Fin (k0_t1_loop i).trips) : Fin 3 → Nat :=
  let c0_268 : Index := 0#32
  let c2_i32_255 : BitVec 32 := 2#32
  let c0_i32_206 : BitVec 32 := 0#32
  let c1_i32_208 : BitVec 32 := 1#32
  let arg24 : BitVec 32 := Scf.iv c0_i32_206 c1_i32_208 k0_t1
  let v706 : BitVec 32 := Scalar.muli c2_i32_255 arg24
  let c2_i32_266 : BitVec 32 := 2#32
  let v723 : BitVec 32 := Scalar.addi v706 c2_i32_266
  let c8_i32_267 : BitVec 32 := 8#32
  let v724 : BitVec 32 := Scalar.muli v723 c8_i32_267
  let v725 : BitVec 32 := v724
  let v726 : Index := Scalar.indexCast v725
  let c0_269 : Index := 0#32
  ![0, v726.toNat, 0]
def k0_mult19 (i : grid0.Coords) (k0_t1 : Fin (k0_t1_loop i).trips) : BitVec 32 :=
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c512_i32_280 : BitVec 32 := 512#32
  let v752 : BitVec 32 := Scalar.muli v751 c512_i32_280
  v752
def k0_off15 (i : grid0.Coords) (k0_t1 : Fin (k0_t1_loop i).trips) : Fin 3 → Nat :=
  let c0_281 : Index := 0#32
  let c0_282 : Index := 0#32
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c512_i32_280 : BitVec 32 := 512#32
  let v752 : BitVec 32 := Scalar.muli v751 c512_i32_280
  let v753 : BitVec 32 := v752
  let v756 : Index := Scalar.indexCast v753
  ![0, 0, v756.toNat]
def k0_mult20 (i : grid0.Coords) (k0_t1 : Fin (k0_t1_loop i).trips) : BitVec 32 :=
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c2_i32_286 : BitVec 32 := 2#32
  let v762 : BitVec 32 := Scalar.addi v751 c2_i32_286
  let c512_i32_287 : BitVec 32 := 512#32
  let v763 : BitVec 32 := Scalar.muli v762 c512_i32_287
  v763
def k0_off16 (i : grid0.Coords) (k0_t1 : Fin (k0_t1_loop i).trips) : Fin 3 → Nat :=
  let c0_288 : Index := 0#32
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c2_i32_286 : BitVec 32 := 2#32
  let v762 : BitVec 32 := Scalar.addi v751 c2_i32_286
  let c512_i32_287 : BitVec 32 := 512#32
  let v763 : BitVec 32 := Scalar.muli v762 c512_i32_287
  let v764 : BitVec 32 := v763
  let v765 : Index := Scalar.indexCast v764
  let c0_289 : Index := 0#32
  ![0, v765.toNat, 0]
def k0_mult21 (i : grid0.Coords) (k0_t1 : Fin (k0_t1_loop i).trips) : BitVec 32 :=
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c2_i32_290 : BitVec 32 := 2#32
  let v768 : BitVec 32 := Scalar.addi v751 c2_i32_290
  let c8_i32_291 : BitVec 32 := 8#32
  let v769 : BitVec 32 := Scalar.muli v768 c8_i32_291
  v769
def k0_off17 (i : grid0.Coords) (k0_t1 : Fin (k0_t1_loop i).trips) : Fin 3 → Nat :=
  let c0_292 : Index := 0#32
  let c2_i32_278 : BitVec 32 := 2#32
  let c0_i32_206 : BitVec 32 := 0#32
  let c1_i32_208 : BitVec 32 := 1#32
  let arg24 : BitVec 32 := Scf.iv c0_i32_206 c1_i32_208 k0_t1
  let v750 : BitVec 32 := Scalar.muli c2_i32_278 arg24
  let c1_i32_279 : BitVec 32 := 1#32
  let v751 : BitVec 32 := Scalar.addi v750 c1_i32_279
  let c2_i32_290 : BitVec 32 := 2#32
  let v768 : BitVec 32 := Scalar.addi v751 c2_i32_290
  let c8_i32_291 : BitVec 32 := 8#32
  let v769 : BitVec 32 := Scalar.muli v768 c8_i32_291
  let v770 : BitVec 32 := v769
  let v771 : Index := Scalar.indexCast v770
  let c0_293 : Index := 0#32
  ![0, v771.toNat, 0]
def k0_mult22 (i : grid0.Coords) (k0_t1 : Fin (k0_t1_loop i).trips) : BitVec 32 :=
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c512_i32_303 : BitVec 32 := 512#32
  let v796 : BitVec 32 := Scalar.muli v795 c512_i32_303
  v796
def k0_off18 (i : grid0.Coords) (k0_t1 : Fin (k0_t1_loop i).trips) : Fin 3 → Nat :=
  let c1_304 : Index := 1#32
  let c0_305 : Index := 0#32
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c512_i32_303 : BitVec 32 := 512#32
  let v796 : BitVec 32 := Scalar.muli v795 c512_i32_303
  let v797 : BitVec 32 := v796
  let v800 : Index := Scalar.indexCast v797
  ![1, 0, v800.toNat]
def k0_mult23 (i : grid0.Coords) (k0_t1 : Fin (k0_t1_loop i).trips) : BitVec 32 :=
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c2_i32_309 : BitVec 32 := 2#32
  let v806 : BitVec 32 := Scalar.addi v795 c2_i32_309
  let c512_i32_310 : BitVec 32 := 512#32
  let v807 : BitVec 32 := Scalar.muli v806 c512_i32_310
  v807
def k0_off19 (i : grid0.Coords) (k0_t1 : Fin (k0_t1_loop i).trips) : Fin 3 → Nat :=
  let c1_311 : Index := 1#32
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c2_i32_309 : BitVec 32 := 2#32
  let v806 : BitVec 32 := Scalar.addi v795 c2_i32_309
  let c512_i32_310 : BitVec 32 := 512#32
  let v807 : BitVec 32 := Scalar.muli v806 c512_i32_310
  let v808 : BitVec 32 := v807
  let v809 : Index := Scalar.indexCast v808
  let c0_312 : Index := 0#32
  ![1, v809.toNat, 0]
def k0_mult24 (i : grid0.Coords) (k0_t1 : Fin (k0_t1_loop i).trips) : BitVec 32 :=
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c2_i32_313 : BitVec 32 := 2#32
  let v812 : BitVec 32 := Scalar.addi v795 c2_i32_313
  let c8_i32_314 : BitVec 32 := 8#32
  let v813 : BitVec 32 := Scalar.muli v812 c8_i32_314
  v813
def k0_off20 (i : grid0.Coords) (k0_t1 : Fin (k0_t1_loop i).trips) : Fin 3 → Nat :=
  let c1_315 : Index := 1#32
  let c2_i32_302 : BitVec 32 := 2#32
  let c0_i32_206 : BitVec 32 := 0#32
  let c1_i32_208 : BitVec 32 := 1#32
  let arg24 : BitVec 32 := Scf.iv c0_i32_206 c1_i32_208 k0_t1
  let v795 : BitVec 32 := Scalar.muli c2_i32_302 arg24
  let c2_i32_313 : BitVec 32 := 2#32
  let v812 : BitVec 32 := Scalar.addi v795 c2_i32_313
  let c8_i32_314 : BitVec 32 := 8#32
  let v813 : BitVec 32 := Scalar.muli v812 c8_i32_314
  let v814 : BitVec 32 := v813
  let v815 : Index := Scalar.indexCast v814
  let c0_316 : Index := 0#32
  ![1, v815.toNat, 0]
def k0_mult25 (i : grid0.Coords) (k0_t1 : Fin (k0_t1_loop i).trips) : BitVec 32 :=
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c512_i32_327 : BitVec 32 := 512#32
  let v841 : BitVec 32 := Scalar.muli v840 c512_i32_327
  v841
def k0_off21 (i : grid0.Coords) (k0_t1 : Fin (k0_t1_loop i).trips) : Fin 3 → Nat :=
  let c1_328 : Index := 1#32
  let c0_329 : Index := 0#32
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c512_i32_327 : BitVec 32 := 512#32
  let v841 : BitVec 32 := Scalar.muli v840 c512_i32_327
  let v842 : BitVec 32 := v841
  let v845 : Index := Scalar.indexCast v842
  ![1, 0, v845.toNat]
def k0_mult26 (i : grid0.Coords) (k0_t1 : Fin (k0_t1_loop i).trips) : BitVec 32 :=
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c2_i32_333 : BitVec 32 := 2#32
  let v851 : BitVec 32 := Scalar.addi v840 c2_i32_333
  let c512_i32_334 : BitVec 32 := 512#32
  let v852 : BitVec 32 := Scalar.muli v851 c512_i32_334
  v852
def k0_off22 (i : grid0.Coords) (k0_t1 : Fin (k0_t1_loop i).trips) : Fin 3 → Nat :=
  let c1_335 : Index := 1#32
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c2_i32_333 : BitVec 32 := 2#32
  let v851 : BitVec 32 := Scalar.addi v840 c2_i32_333
  let c512_i32_334 : BitVec 32 := 512#32
  let v852 : BitVec 32 := Scalar.muli v851 c512_i32_334
  let v853 : BitVec 32 := v852
  let v854 : Index := Scalar.indexCast v853
  let c0_336 : Index := 0#32
  ![1, v854.toNat, 0]
def k0_mult27 (i : grid0.Coords) (k0_t1 : Fin (k0_t1_loop i).trips) : BitVec 32 :=
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c2_i32_337 : BitVec 32 := 2#32
  let v857 : BitVec 32 := Scalar.addi v840 c2_i32_337
  let c8_i32_338 : BitVec 32 := 8#32
  let v858 : BitVec 32 := Scalar.muli v857 c8_i32_338
  v858
def k0_off23 (i : grid0.Coords) (k0_t1 : Fin (k0_t1_loop i).trips) : Fin 3 → Nat :=
  let c1_339 : Index := 1#32
  let c2_i32_325 : BitVec 32 := 2#32
  let c0_i32_206 : BitVec 32 := 0#32
  let c1_i32_208 : BitVec 32 := 1#32
  let arg24 : BitVec 32 := Scf.iv c0_i32_206 c1_i32_208 k0_t1
  let v839 : BitVec 32 := Scalar.muli c2_i32_325 arg24
  let c1_i32_326 : BitVec 32 := 1#32
  let v840 : BitVec 32 := Scalar.addi v839 c1_i32_326
  let c2_i32_337 : BitVec 32 := 2#32
  let v857 : BitVec 32 := Scalar.addi v840 c2_i32_337
  let c8_i32_338 : BitVec 32 := 8#32
  let v858 : BitVec 32 := Scalar.muli v857 c8_i32_338
  let v859 : BitVec 32 := v858
  let v860 : Index := Scalar.indexCast v859
  let c0_340 : Index := 0#32
  ![1, v860.toNat, 0]
@[reducible] def k0_t2_loop (i : grid0.Coords) : Scf.Loop 32 :=
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let v504 : BitVec 32 := Scalar.addi c0_i32_206 v503
  let c1_i32_209 : BitVec 32 := 1#32
  ⟨v507, v504, c1_i32_209⟩
def k0_mult28 (i : grid0.Coords) (k0_t2 : Fin (k0_t2_loop i).trips) : BitVec 32 :=
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c512_i32_256 : BitVec 32 := 512#32
  let v707 : BitVec 32 := Scalar.muli v706 c512_i32_256
  v707
def k0_off24 (i : grid0.Coords) (k0_t2 : Fin (k0_t2_loop i).trips) : Fin 3 → Nat :=
  let c0_257 : Index := 0#32
  let c0_258 : Index := 0#32
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c512_i32_256 : BitVec 32 := 512#32
  let v707 : BitVec 32 := Scalar.muli v706 c512_i32_256
  let v708 : BitVec 32 := v707
  let v711 : Index := Scalar.indexCast v708
  ![0, 0, v711.toNat]
def k0_mult29 (i : grid0.Coords) (k0_t2 : Fin (k0_t2_loop i).trips) : BitVec 32 :=
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c2_i32_262 : BitVec 32 := 2#32
  let v717 : BitVec 32 := Scalar.addi v706 c2_i32_262
  let c512_i32_263 : BitVec 32 := 512#32
  let v718 : BitVec 32 := Scalar.muli v717 c512_i32_263
  v718
def k0_off25 (i : grid0.Coords) (k0_t2 : Fin (k0_t2_loop i).trips) : Fin 3 → Nat :=
  let c0_264 : Index := 0#32
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c2_i32_262 : BitVec 32 := 2#32
  let v717 : BitVec 32 := Scalar.addi v706 c2_i32_262
  let c512_i32_263 : BitVec 32 := 512#32
  let v718 : BitVec 32 := Scalar.muli v717 c512_i32_263
  let v719 : BitVec 32 := v718
  let v720 : Index := Scalar.indexCast v719
  let c0_265 : Index := 0#32
  ![0, v720.toNat, 0]
def k0_mult30 (i : grid0.Coords) (k0_t2 : Fin (k0_t2_loop i).trips) : BitVec 32 :=
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c2_i32_266 : BitVec 32 := 2#32
  let v723 : BitVec 32 := Scalar.addi v706 c2_i32_266
  let c8_i32_267 : BitVec 32 := 8#32
  let v724 : BitVec 32 := Scalar.muli v723 c8_i32_267
  v724
def k0_off26 (i : grid0.Coords) (k0_t2 : Fin (k0_t2_loop i).trips) : Fin 3 → Nat :=
  let c0_268 : Index := 0#32
  let c2_i32_255 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v706 : BitVec 32 := Scalar.muli c2_i32_255 arg24
  let c2_i32_266 : BitVec 32 := 2#32
  let v723 : BitVec 32 := Scalar.addi v706 c2_i32_266
  let c8_i32_267 : BitVec 32 := 8#32
  let v724 : BitVec 32 := Scalar.muli v723 c8_i32_267
  let v725 : BitVec 32 := v724
  let v726 : Index := Scalar.indexCast v725
  let c0_269 : Index := 0#32
  ![0, v726.toNat, 0]
def k0_mult31 (i : grid0.Coords) (k0_t2 : Fin (k0_t2_loop i).trips) : BitVec 32 :=
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c512_i32_280 : BitVec 32 := 512#32
  let v752 : BitVec 32 := Scalar.muli v751 c512_i32_280
  v752
def k0_off27 (i : grid0.Coords) (k0_t2 : Fin (k0_t2_loop i).trips) : Fin 3 → Nat :=
  let c0_281 : Index := 0#32
  let c0_282 : Index := 0#32
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c512_i32_280 : BitVec 32 := 512#32
  let v752 : BitVec 32 := Scalar.muli v751 c512_i32_280
  let v753 : BitVec 32 := v752
  let v756 : Index := Scalar.indexCast v753
  ![0, 0, v756.toNat]
def k0_mult32 (i : grid0.Coords) (k0_t2 : Fin (k0_t2_loop i).trips) : BitVec 32 :=
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c2_i32_286 : BitVec 32 := 2#32
  let v762 : BitVec 32 := Scalar.addi v751 c2_i32_286
  let c512_i32_287 : BitVec 32 := 512#32
  let v763 : BitVec 32 := Scalar.muli v762 c512_i32_287
  v763
def k0_off28 (i : grid0.Coords) (k0_t2 : Fin (k0_t2_loop i).trips) : Fin 3 → Nat :=
  let c0_288 : Index := 0#32
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c2_i32_286 : BitVec 32 := 2#32
  let v762 : BitVec 32 := Scalar.addi v751 c2_i32_286
  let c512_i32_287 : BitVec 32 := 512#32
  let v763 : BitVec 32 := Scalar.muli v762 c512_i32_287
  let v764 : BitVec 32 := v763
  let v765 : Index := Scalar.indexCast v764
  let c0_289 : Index := 0#32
  ![0, v765.toNat, 0]
def k0_mult33 (i : grid0.Coords) (k0_t2 : Fin (k0_t2_loop i).trips) : BitVec 32 :=
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c2_i32_290 : BitVec 32 := 2#32
  let v768 : BitVec 32 := Scalar.addi v751 c2_i32_290
  let c8_i32_291 : BitVec 32 := 8#32
  let v769 : BitVec 32 := Scalar.muli v768 c8_i32_291
  v769
def k0_off29 (i : grid0.Coords) (k0_t2 : Fin (k0_t2_loop i).trips) : Fin 3 → Nat :=
  let c0_292 : Index := 0#32
  let c2_i32_278 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v750 : BitVec 32 := Scalar.muli c2_i32_278 arg24
  let c1_i32_279 : BitVec 32 := 1#32
  let v751 : BitVec 32 := Scalar.addi v750 c1_i32_279
  let c2_i32_290 : BitVec 32 := 2#32
  let v768 : BitVec 32 := Scalar.addi v751 c2_i32_290
  let c8_i32_291 : BitVec 32 := 8#32
  let v769 : BitVec 32 := Scalar.muli v768 c8_i32_291
  let v770 : BitVec 32 := v769
  let v771 : Index := Scalar.indexCast v770
  let c0_293 : Index := 0#32
  ![0, v771.toNat, 0]
def k0_mult34 (i : grid0.Coords) (k0_t2 : Fin (k0_t2_loop i).trips) : BitVec 32 :=
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c512_i32_303 : BitVec 32 := 512#32
  let v796 : BitVec 32 := Scalar.muli v795 c512_i32_303
  v796
def k0_off30 (i : grid0.Coords) (k0_t2 : Fin (k0_t2_loop i).trips) : Fin 3 → Nat :=
  let c1_304 : Index := 1#32
  let c0_305 : Index := 0#32
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c512_i32_303 : BitVec 32 := 512#32
  let v796 : BitVec 32 := Scalar.muli v795 c512_i32_303
  let v797 : BitVec 32 := v796
  let v800 : Index := Scalar.indexCast v797
  ![1, 0, v800.toNat]
def k0_mult35 (i : grid0.Coords) (k0_t2 : Fin (k0_t2_loop i).trips) : BitVec 32 :=
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c2_i32_309 : BitVec 32 := 2#32
  let v806 : BitVec 32 := Scalar.addi v795 c2_i32_309
  let c512_i32_310 : BitVec 32 := 512#32
  let v807 : BitVec 32 := Scalar.muli v806 c512_i32_310
  v807
def k0_off31 (i : grid0.Coords) (k0_t2 : Fin (k0_t2_loop i).trips) : Fin 3 → Nat :=
  let c1_311 : Index := 1#32
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c2_i32_309 : BitVec 32 := 2#32
  let v806 : BitVec 32 := Scalar.addi v795 c2_i32_309
  let c512_i32_310 : BitVec 32 := 512#32
  let v807 : BitVec 32 := Scalar.muli v806 c512_i32_310
  let v808 : BitVec 32 := v807
  let v809 : Index := Scalar.indexCast v808
  let c0_312 : Index := 0#32
  ![1, v809.toNat, 0]
def k0_mult36 (i : grid0.Coords) (k0_t2 : Fin (k0_t2_loop i).trips) : BitVec 32 :=
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c2_i32_313 : BitVec 32 := 2#32
  let v812 : BitVec 32 := Scalar.addi v795 c2_i32_313
  let c8_i32_314 : BitVec 32 := 8#32
  let v813 : BitVec 32 := Scalar.muli v812 c8_i32_314
  v813
def k0_off32 (i : grid0.Coords) (k0_t2 : Fin (k0_t2_loop i).trips) : Fin 3 → Nat :=
  let c1_315 : Index := 1#32
  let c2_i32_302 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v795 : BitVec 32 := Scalar.muli c2_i32_302 arg24
  let c2_i32_313 : BitVec 32 := 2#32
  let v812 : BitVec 32 := Scalar.addi v795 c2_i32_313
  let c8_i32_314 : BitVec 32 := 8#32
  let v813 : BitVec 32 := Scalar.muli v812 c8_i32_314
  let v814 : BitVec 32 := v813
  let v815 : Index := Scalar.indexCast v814
  let c0_316 : Index := 0#32
  ![1, v815.toNat, 0]
def k0_mult37 (i : grid0.Coords) (k0_t2 : Fin (k0_t2_loop i).trips) : BitVec 32 :=
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c512_i32_327 : BitVec 32 := 512#32
  let v841 : BitVec 32 := Scalar.muli v840 c512_i32_327
  v841
def k0_off33 (i : grid0.Coords) (k0_t2 : Fin (k0_t2_loop i).trips) : Fin 3 → Nat :=
  let c1_328 : Index := 1#32
  let c0_329 : Index := 0#32
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c512_i32_327 : BitVec 32 := 512#32
  let v841 : BitVec 32 := Scalar.muli v840 c512_i32_327
  let v842 : BitVec 32 := v841
  let v845 : Index := Scalar.indexCast v842
  ![1, 0, v845.toNat]
def k0_mult38 (i : grid0.Coords) (k0_t2 : Fin (k0_t2_loop i).trips) : BitVec 32 :=
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c2_i32_333 : BitVec 32 := 2#32
  let v851 : BitVec 32 := Scalar.addi v840 c2_i32_333
  let c512_i32_334 : BitVec 32 := 512#32
  let v852 : BitVec 32 := Scalar.muli v851 c512_i32_334
  v852
def k0_off34 (i : grid0.Coords) (k0_t2 : Fin (k0_t2_loop i).trips) : Fin 3 → Nat :=
  let c1_335 : Index := 1#32
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c2_i32_333 : BitVec 32 := 2#32
  let v851 : BitVec 32 := Scalar.addi v840 c2_i32_333
  let c512_i32_334 : BitVec 32 := 512#32
  let v852 : BitVec 32 := Scalar.muli v851 c512_i32_334
  let v853 : BitVec 32 := v852
  let v854 : Index := Scalar.indexCast v853
  let c0_336 : Index := 0#32
  ![1, v854.toNat, 0]
def k0_mult39 (i : grid0.Coords) (k0_t2 : Fin (k0_t2_loop i).trips) : BitVec 32 :=
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c2_i32_337 : BitVec 32 := 2#32
  let v857 : BitVec 32 := Scalar.addi v840 c2_i32_337
  let c8_i32_338 : BitVec 32 := 8#32
  let v858 : BitVec 32 := Scalar.muli v857 c8_i32_338
  v858
def k0_off35 (i : grid0.Coords) (k0_t2 : Fin (k0_t2_loop i).trips) : Fin 3 → Nat :=
  let c1_339 : Index := 1#32
  let c2_i32_325 : BitVec 32 := 2#32
  let c0_i32_206 : BitVec 32 := 0#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_205 : BitVec 32 := 1#32
  let v502 : BitVec 32 := Scalar.subi v423 c1_i32_205
  let v503 : BitVec 32 := Scalar.subi v502 c0_i32_206
  let c1_i32_207 : BitVec 32 := 1#32
  let v505 : BitVec 32 := Scalar.divsi v503 c1_i32_207
  let v506 : BitVec 32 := Scalar.muli v505 c1_i32_207
  let v507 : BitVec 32 := Scalar.addi c0_i32_206 v506
  let c1_i32_209 : BitVec 32 := 1#32
  let arg24 : BitVec 32 := Scf.iv v507 c1_i32_209 k0_t2
  let v839 : BitVec 32 := Scalar.muli c2_i32_325 arg24
  let c1_i32_326 : BitVec 32 := 1#32
  let v840 : BitVec 32 := Scalar.addi v839 c1_i32_326
  let c2_i32_337 : BitVec 32 := 2#32
  let v857 : BitVec 32 := Scalar.addi v840 c2_i32_337
  let c8_i32_338 : BitVec 32 := 8#32
  let v858 : BitVec 32 := Scalar.muli v857 c8_i32_338
  let v859 : BitVec 32 := v858
  let v860 : Index := Scalar.indexCast v859
  let c0_340 : Index := 0#32
  ![1, v860.toNat, 0]
def k0_mult40 (i : grid0.Coords) : BitVec 32 :=
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c512_i32_211 : BitVec 32 := 512#32
  let v512 : BitVec 32 := Scalar.muli v511 c512_i32_211
  v512
def k0_off36 (i : grid0.Coords) : Fin 3 → Nat :=
  let c0_212 : Index := 0#32
  let c0_213 : Index := 0#32
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c512_i32_211 : BitVec 32 := 512#32
  let v512 : BitVec 32 := Scalar.muli v511 c512_i32_211
  let v513 : BitVec 32 := v512
  let v516 : Index := Scalar.indexCast v513
  ![0, 0, v516.toNat]
def k0_mult41 (i : grid0.Coords) : BitVec 32 :=
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c1_i32_221 : BitVec 32 := 1#32
  let v533 : BitVec 32 := Scalar.addi v511 c1_i32_221
  let c512_i32_222 : BitVec 32 := 512#32
  let v534 : BitVec 32 := Scalar.muli v533 c512_i32_222
  v534
def k0_off37 (i : grid0.Coords) : Fin 3 → Nat :=
  let c0_223 : Index := 0#32
  let c0_224 : Index := 0#32
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c1_i32_221 : BitVec 32 := 1#32
  let v533 : BitVec 32 := Scalar.addi v511 c1_i32_221
  let c512_i32_222 : BitVec 32 := 512#32
  let v534 : BitVec 32 := Scalar.muli v533 c512_i32_222
  let v535 : BitVec 32 := v534
  let v538 : Index := Scalar.indexCast v535
  ![0, 0, v538.toNat]
def k0_mult42 (i : grid0.Coords) : BitVec 32 :=
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c512_i32_233 : BitVec 32 := 512#32
  let v609 : BitVec 32 := Scalar.muli v511 c512_i32_233
  v609
def k0_off38 (i : grid0.Coords) : Fin 3 → Nat :=
  let c1_234 : Index := 1#32
  let c0_235 : Index := 0#32
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c512_i32_233 : BitVec 32 := 512#32
  let v609 : BitVec 32 := Scalar.muli v511 c512_i32_233
  let v610 : BitVec 32 := v609
  let v613 : Index := Scalar.indexCast v610
  ![1, 0, v613.toNat]
def k0_mult43 (i : grid0.Coords) : BitVec 32 :=
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c1_i32_243 : BitVec 32 := 1#32
  let v630 : BitVec 32 := Scalar.addi v511 c1_i32_243
  let c512_i32_244 : BitVec 32 := 512#32
  let v631 : BitVec 32 := Scalar.muli v630 c512_i32_244
  v631
def k0_off39 (i : grid0.Coords) : Fin 3 → Nat :=
  let c1_245 : Index := 1#32
  let c0_246 : Index := 0#32
  let c2_i32 : BitVec 32 := 2#32
  let arg1 : BitVec 32 := BitVec.ofNat 32 (i 1).val
  let c128_i32_147 : BitVec 32 := 128#32
  let v403 : BitVec 32 := Scalar.muli arg1 c128_i32_147
  let c1024_i32_148 : BitVec 32 := 1024#32
  let v404 : BitVec 32 := Scalar.addi v403 c1024_i32_148
  let c1_i32_149 : BitVec 32 := 1#32
  let v405 : BitVec 32 := Scalar.subi v404 c1_i32_149
  let c0_i32_151 : BitVec 32 := 0#32
  let v407 : BitVec 1 := Scalar.cmpi .sgt v405 c0_i32_151
  let v408 : BitVec 32 := Scalar.extui v407
  let c0_i32_152 : BitVec 32 := 0#32
  let v409 : BitVec 1 := Scalar.cmpi .slt v405 c0_i32_152
  let v410 : BitVec 32 := Scalar.extui v409
  let v411 : BitVec 32 := Scalar.subi v408 v410
  let c1024_i32_150 : BitVec 32 := 1024#32
  let c0_i32_153 : BitVec 32 := 0#32
  let v412 : BitVec 1 := Scalar.cmpi .sgt c1024_i32_150 c0_i32_153
  let v413 : BitVec 32 := Scalar.extui v412
  let c0_i32_154 : BitVec 32 := 0#32
  let v414 : BitVec 1 := Scalar.cmpi .slt c1024_i32_150 c0_i32_154
  let v415 : BitVec 32 := Scalar.extui v414
  let v416 : BitVec 32 := Scalar.subi v413 v415
  let v417 : BitVec 1 := Scalar.cmpi .ne v411 v416
  let v418 : BitVec 32 := Scalar.remsi v405 c1024_i32_150
  let c0_i32_155 : BitVec 32 := 0#32
  let v419 : BitVec 1 := Scalar.cmpi .ne v418 c0_i32_155
  let v420 : BitVec 1 := Scalar.andi v417 v419
  let v406 : BitVec 32 := Scalar.divsi v405 c1024_i32_150
  let c1_i32_156 : BitVec 32 := 1#32
  let v421 : BitVec 32 := Scalar.subi v406 c1_i32_156
  let v422 : BitVec 32 := Scalar.select v420 v421 v406
  let c1_i32_157 : BitVec 32 := 1#32
  let v423 : BitVec 32 := Scalar.maxsi v422 c1_i32_157
  let c1_i32_210 : BitVec 32 := 1#32
  let v510 : BitVec 32 := Scalar.subi v423 c1_i32_210
  let v511 : BitVec 32 := Scalar.muli c2_i32 v510
  let c1_i32_243 : BitVec 32 := 1#32
  let v630 : BitVec 32 := Scalar.addi v511 c1_i32_243
  let c512_i32_244 : BitVec 32 := 512#32
  let v631 : BitVec 32 := Scalar.muli v630 c512_i32_244
  let v632 : BitVec 32 := v631
  let v635 : Index := Scalar.indexCast v632
  ![1, 0, v635.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2x16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S2x72x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S2x16384x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2x72x16384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | "scale" => some ((8⁻¹ * (Real.log 2)⁻¹ : ℝ) : EReal)
  | _ => none
-- ==== ReferenceIdeal.lean ====
abbrev S16384x1024 : Shape := ⟨2, ![16384, 1024]⟩
abbrev S16384x48 : Shape := ⟨2, ![16384, 48]⟩
abbrev S4x1024x64 : Shape := ⟨3, ![4, 1024, 64]⟩
abbrev S16384x256 : Shape := ⟨2, ![16384, 256]⟩
abbrev S16384x4x4x64 : Shape := ⟨4, ![16384, 4, 4, 64]⟩
abbrev S_ : Shape := ⟨0, ![]⟩
abbrev S16384x4x4x3 : Shape := ⟨4, ![16384, 4, 4, 3]⟩
abbrev S1023 : Shape := ⟨1, ![1023]⟩
abbrev S1023x1 : Shape := ⟨2, ![1023, 1]⟩
abbrev S256 : Shape := ⟨1, ![256]⟩
abbrev S1x256 : Shape := ⟨2, ![1, 256]⟩
abbrev S1023x256 : Shape := ⟨2, ![1023, 256]⟩
abbrev S16384 : Shape := ⟨1, ![16384]⟩
abbrev S4x1023x64 : Shape := ⟨3, ![4, 1023, 64]⟩
abbrev S4x1023x16384x4 : Shape := ⟨4, ![4, 1023, 16384, 4]⟩
abbrev S4x4x16384x1023 : Shape := ⟨4, ![4, 4, 16384, 1023]⟩
abbrev S1x1023 : Shape := ⟨2, ![1, 1023]⟩
abbrev S16384x1 : Shape := ⟨2, ![16384, 1]⟩
abbrev S16384x1023 : Shape := ⟨2, ![16384, 1023]⟩
abbrev S4x4x16384 : Shape := ⟨3, ![4, 4, 16384]⟩
abbrev S4x4x16384x1 : Shape := ⟨4, ![4, 4, 16384, 1]⟩
abbrev S4x64x4x16384 : Shape := ⟨4, ![4, 64, 4, 16384]⟩
abbrev S4x16384x1023 : Shape := ⟨3, ![4, 16384, 1023]⟩
abbrev S4x16384x256 : Shape := ⟨3, ![4, 16384, 256]⟩
abbrev S1x16384x256 : Shape := ⟨3, ![1, 16384, 256]⟩
abbrev S4x16384x16 : Shape := ⟨3, ![4, 16384, 16]⟩
abbrev S16384x4x64 : Shape := ⟨3, ![16384, 4, 64]⟩
abbrev S4x16384x64 : Shape := ⟨3, ![4, 16384, 64]⟩
abbrev S4x256x64x64 : Shape := ⟨4, ![4, 256, 64, 64]⟩
abbrev S4 : Shape := ⟨1, ![4]⟩
abbrev S4x1x1 : Shape := ⟨3, ![4, 1, 1]⟩
abbrev S4x16384x16x1 : Shape := ⟨4, ![4, 16384, 16, 1]⟩
abbrev S4x16384x16x2 : Shape := ⟨4, ![4, 16384, 16, 2]⟩
abbrev S4x16384x16x64x64 : Shape := ⟨5, ![4, 16384, 16, 64, 64]⟩
abbrev S4x16384x1024x64 : Shape := ⟨4, ![4, 16384, 1024, 64]⟩
abbrev S64 : Shape := ⟨1, ![64]⟩
abbrev S1x1x1x64 : Shape := ⟨4, ![1, 1, 1, 64]⟩
abbrev S4x16384x16x64 : Shape := ⟨4, ![4, 16384, 16, 64]⟩
abbrev S4x16384x1024 : Shape := ⟨3, ![4, 16384, 1024]⟩
abbrev S4x16384x1024x4 : Shape := ⟨4, ![4, 16384, 1024, 4]⟩
abbrev S4x4x16384x1024 : Shape := ⟨4, ![4, 4, 16384, 1024]⟩
abbrev S1x16384x1 : Shape := ⟨3, ![1, 16384, 1]⟩
abbrev S4x1x16384x1024 : Shape := ⟨4, ![4, 1, 16384, 1024]⟩
abbrev S1x16384 : Shape := ⟨2, ![1, 16384]⟩
abbrev S16384x16384 : Shape := ⟨2, ![16384, 16384]⟩
abbrev S4x16384x16384x4 : Shape := ⟨4, ![4, 16384, 16384, 4]⟩
abbrev S4x4x16384x16384 : Shape := ⟨4, ![4, 4, 16384, 16384]⟩
abbrev S16384x4x4x1 : Shape := ⟨4, ![16384, 4, 4, 1]⟩
abbrev S1024x16384 : Shape := ⟨2, ![1024, 16384]⟩

abbrev nBuf : Space → Nat
  | .hbm => 286
  | .vmem => 0
  | .smem => 0
  | _ => 0

abbrev hbmTy0_0 (i : Nat) : BufTy := match i % 128 with
  | 0 => ⟨S16384x1024, .f32⟩
  | 1 => ⟨S16384x48, .f32⟩
  | 2 => ⟨S4x1024x64, .f32⟩
  | 3 => ⟨S4x1024x64, .f32⟩
  | 4 => ⟨S16384x256, .f32⟩
  | 5 => ⟨S16384x256, .f32⟩
  | 6 => ⟨S16384x256, .f32⟩
  | 7 => ⟨S16384x256, .f32⟩
  | 8 => ⟨S16384x4x4x64, .f32⟩
  | 9 => ⟨S_, .f32⟩
  | 10 => ⟨S16384x4x4x64, .f32⟩
  | 11 => ⟨S16384x4x4x64, .f32⟩
  | 12 => ⟨S16384x4x4x3, .f32⟩
  | 13 => ⟨S1023, .i32⟩
  | 14 => ⟨S1023x1, .i32⟩
  | 15 => ⟨S_, .i32⟩
  | 16 => ⟨S1023x1, .i32⟩
  | 17 => ⟨S1023x1, .i32⟩
  | 18 => ⟨S256, .i32⟩
  | 19 => ⟨S1x256, .i32⟩
  | 20 => ⟨S_, .i32⟩
  | 21 => ⟨S1x256, .i32⟩
  | 22 => ⟨S1x256, .i32⟩
  | 23 => ⟨S_, .i32⟩
  | 24 => ⟨S1x256, .i32⟩
  | 25 => ⟨S1x256, .i32⟩
  | 26 => ⟨S1023x256, .i32⟩
  | 27 => ⟨S1023x256, .i32⟩
  | 28 => ⟨S1023x256, .i1⟩
  | 29 => ⟨S_, .i32⟩
  | 30 => ⟨S1023x1, .i32⟩
  | 31 => ⟨S1023x1, .i32⟩
  | 32 => ⟨S1023x256, .i32⟩
  | 33 => ⟨S1023x256, .i32⟩
  | 34 => ⟨S1023x256, .i1⟩
  | 35 => ⟨S1023x256, .i1⟩
  | 36 => ⟨S1023x256, .f32⟩
  | 37 => ⟨S1023, .i32⟩
  | 38 => ⟨S_, .i32⟩
  | 39 => ⟨S1023, .i32⟩
  | 40 => ⟨S1023, .i32⟩
  | 41 => ⟨S_, .i32⟩
  | 42 => ⟨S1023, .i32⟩
  | 43 => ⟨S1023, .i32⟩
  | 44 => ⟨S_, .i32⟩
  | 45 => ⟨S1023, .i32⟩
  | 46 => ⟨S1023, .i32⟩
  | 47 => ⟨S256, .i32⟩
  | 48 => ⟨S16384, .i32⟩
  | 49 => ⟨S4x1023x64, .f32⟩
  | 50 => ⟨S4x1023x16384x4, .f32⟩
  | 51 => ⟨S4x4x16384x1023, .f32⟩
  | 52 => ⟨S1x1023, .i32⟩
  | 53 => ⟨S16384x1, .i32⟩
  | 54 => ⟨S16384x1023, .i32⟩
  | 55 => ⟨S16384x1023, .i32⟩
  | 56 => ⟨S16384x1023, .i1⟩
  | 57 => ⟨S_, .f32⟩
  | 58 => ⟨S_, .f32⟩
  | 59 => ⟨S4x4x16384x1023, .i1⟩
  | 60 => ⟨S4x4x16384x1023, .f32⟩
  | 61 => ⟨S4x4x16384x1023, .f32⟩
  | 62 => ⟨S_, .f32⟩
  | 63 => ⟨S4x4x16384, .f32⟩
  | 64 => ⟨S_, .f32⟩
  | 65 => ⟨S4x4x16384, .f32⟩
  | 66 => ⟨S4x4x16384, .f32⟩
  | 67 => ⟨S4x4x16384x1, .f32⟩
  | 68 => ⟨S4x4x16384x1023, .f32⟩
  | 69 => ⟨S4x4x16384x1023, .f32⟩
  | 70 => ⟨S4x4x16384x1023, .f32⟩
  | 71 => ⟨S_, .f32⟩
  | 72 => ⟨S4x4x16384, .f32⟩
  | 73 => ⟨S4x4x16384x1, .f32⟩
  | 74 => ⟨S4x4x16384x1023, .f32⟩
  | 75 => ⟨S4x4x16384x1023, .f32⟩
  | 76 => ⟨S_, .f32⟩
  | 77 => ⟨S_, .f32⟩
  | 78 => ⟨S4x4x16384x1023, .i1⟩
  | 79 => ⟨S4x4x16384x1023, .f32⟩
  | 80 => ⟨S4x4x16384x1023, .f32⟩
  | 81 => ⟨S4x1023x64, .f32⟩
  | 82 => ⟨S4x64x4x16384, .f32⟩
  | 83 => ⟨S16384x4x4x64, .f32⟩
  | 84 => ⟨S_, .f32⟩
  | 85 => ⟨S4x16384x1023, .f32⟩
  | 86 => ⟨S4x16384x256, .f32⟩
  | 87 => ⟨S_, .i32⟩
  | 88 => ⟨S_, .i32⟩
  | 89 => ⟨S16384, .i32⟩
  | 90 => ⟨S16384, .i32⟩
  | 91 => ⟨S16384, .i32⟩
  | 92 => ⟨S_, .i32⟩
  | 93 => ⟨S16384, .i32⟩
  | 94 => ⟨S16384, .i1⟩
  | 95 => ⟨S16384, .i32⟩
  | 96 => ⟨S16384, .i32⟩
  | 97 => ⟨S_, .i32⟩
  | 98 => ⟨S16384, .i32⟩
  | 99 => ⟨S16384, .i1⟩
  | 100 => ⟨S16384, .i1⟩
  | 101 => ⟨S_, .i32⟩
  | 102 => ⟨S16384, .i32⟩
  | 103 => ⟨S16384, .i32⟩
  | 104 => ⟨S16384, .i32⟩
  | 105 => ⟨S1x256, .i32⟩
  | 106 => ⟨S_, .i32⟩
  | 107 => ⟨S1x256, .i32⟩
  | 108 => ⟨S1x256, .i1⟩
  | 109 => ⟨S1x256, .i32⟩
  | 110 => ⟨S16384x1, .i32⟩
  | 111 => ⟨S16384x256, .i32⟩
  | 112 => ⟨S16384x256, .i32⟩
  | 113 => ⟨S16384x256, .i1⟩
  | 114 => ⟨S16384x256, .i1⟩
  | 115 => ⟨S16384x256, .i1⟩
  | 116 => ⟨S1x256, .i32⟩
  | 117 => ⟨S16384x1, .i32⟩
  | 118 => ⟨S_, .i32⟩
  | 119 => ⟨S16384x1, .i32⟩
  | 120 => ⟨S16384x1, .i32⟩
  | 121 => ⟨S16384x256, .i32⟩
  | 122 => ⟨S16384x256, .i32⟩
  | 123 => ⟨S16384x256, .i1⟩
  | 124 => ⟨S16384x256, .i1⟩
  | 125 => ⟨S1x256, .i32⟩
  | 126 => ⟨S_, .i32⟩
  | 127 => ⟨S1x256, .i32⟩
  | _ => ⟨S16384x1024, .f32⟩

abbrev hbmTy0_1 (i : Nat) : BufTy := match i % 128 with
  | 0 => ⟨S1x256, .i32⟩
  | 1 => ⟨S16384x1, .i32⟩
  | 2 => ⟨S16384x256, .i32⟩
  | 3 => ⟨S16384x256, .i32⟩
  | 4 => ⟨S16384x256, .i1⟩
  | 5 => ⟨S_, .f32⟩
  | 6 => ⟨S_, .f32⟩
  | 7 => ⟨S16384x256, .f32⟩
  | 8 => ⟨S16384x256, .f32⟩
  | 9 => ⟨S16384x256, .f32⟩
  | 10 => ⟨S16384x256, .f32⟩
  | 11 => ⟨S1x16384x256, .f32⟩
  | 12 => ⟨S4x16384x256, .f32⟩
  | 13 => ⟨S4x16384x256, .f32⟩
  | 14 => ⟨S_, .f32⟩
  | 15 => ⟨S_, .f32⟩
  | 16 => ⟨S4x16384x256, .i1⟩
  | 17 => ⟨S4x16384x256, .f32⟩
  | 18 => ⟨S4x16384x256, .f32⟩
  | 19 => ⟨S4x16384x16, .f32⟩
  | 20 => ⟨S4x16384x16, .i32⟩
  | 21 => ⟨S16384x4x64, .f32⟩
  | 22 => ⟨S4x16384x64, .f32⟩
  | 23 => ⟨S4x256x64x64, .f32⟩
  | 24 => ⟨S16384x4x64, .f32⟩
  | 25 => ⟨S4x16384x64, .f32⟩
  | 26 => ⟨S4x256x64x64, .f32⟩
  | 27 => ⟨S4, .i32⟩
  | 28 => ⟨S4x1x1, .i32⟩
  | 29 => ⟨S_, .i32⟩
  | 30 => ⟨S4x1x1, .i32⟩
  | 31 => ⟨S4x1x1, .i1⟩
  | 32 => ⟨S_, .i32⟩
  | 33 => ⟨S4x1x1, .i32⟩
  | 34 => ⟨S4x1x1, .i32⟩
  | 35 => ⟨S4x1x1, .i32⟩
  | 36 => ⟨S_, .i32⟩
  | 37 => ⟨S4x16384x16, .i32⟩
  | 38 => ⟨S4x16384x16, .i1⟩
  | 39 => ⟨S_, .i32⟩
  | 40 => ⟨S4x16384x16, .i32⟩
  | 41 => ⟨S4x16384x16, .i32⟩
  | 42 => ⟨S4x16384x16, .i32⟩
  | 43 => ⟨S4x16384x16, .i32⟩
  | 44 => ⟨S4x16384x16x1, .i32⟩
  | 45 => ⟨S4x16384x16x1, .i32⟩
  | 46 => ⟨S4x16384x16x2, .i32⟩
  | 47 => ⟨S4x16384x16x64x64, .f32⟩
  | 48 => ⟨S4x16384x1024x64, .f32⟩
  | 49 => ⟨S_, .i32⟩
  | 50 => ⟨S4x1x1, .i32⟩
  | 51 => ⟨S4x1x1, .i1⟩
  | 52 => ⟨S_, .i32⟩
  | 53 => ⟨S4x1x1, .i32⟩
  | 54 => ⟨S4x1x1, .i32⟩
  | 55 => ⟨S4x1x1, .i32⟩
  | 56 => ⟨S_, .i32⟩
  | 57 => ⟨S4x16384x16, .i32⟩
  | 58 => ⟨S4x16384x16, .i1⟩
  | 59 => ⟨S_, .i32⟩
  | 60 => ⟨S4x16384x16, .i32⟩
  | 61 => ⟨S4x16384x16, .i32⟩
  | 62 => ⟨S4x16384x16, .i32⟩
  | 63 => ⟨S4x16384x16, .i32⟩
  | 64 => ⟨S4x16384x16x1, .i32⟩
  | 65 => ⟨S4x16384x16x1, .i32⟩
  | 66 => ⟨S4x16384x16x2, .i32⟩
  | 67 => ⟨S4x16384x16x64x64, .f32⟩
  | 68 => ⟨S4x16384x1024x64, .f32⟩
  | 69 => ⟨S4x16384x16x1, .i32⟩
  | 70 => ⟨S_, .i32⟩
  | 71 => ⟨S4x16384x16x1, .i32⟩
  | 72 => ⟨S4x16384x16x1, .i32⟩
  | 73 => ⟨S64, .i32⟩
  | 74 => ⟨S1x1x1x64, .i32⟩
  | 75 => ⟨S4x16384x16x64, .i32⟩
  | 76 => ⟨S4x16384x16x64, .i32⟩
  | 77 => ⟨S4x16384x16x64, .i32⟩
  | 78 => ⟨S4x16384x1024, .i32⟩
  | 79 => ⟨S4x16384x1024x4, .f32⟩
  | 80 => ⟨S4x4x16384x1024, .f32⟩
  | 81 => ⟨S1x16384x1, .i32⟩
  | 82 => ⟨S4x16384x1024, .i32⟩
  | 83 => ⟨S4x16384x1024, .i1⟩
  | 84 => ⟨S4x1x16384x1024, .i1⟩
  | 85 => ⟨S_, .f32⟩
  | 86 => ⟨S_, .f32⟩
  | 87 => ⟨S4x4x16384x1024, .i1⟩
  | 88 => ⟨S4x4x16384x1024, .f32⟩
  | 89 => ⟨S4x4x16384x1024, .f32⟩
  | 90 => ⟨S_, .f32⟩
  | 91 => ⟨S4x4x16384, .f32⟩
  | 92 => ⟨S_, .f32⟩
  | 93 => ⟨S4x4x16384, .f32⟩
  | 94 => ⟨S4x4x16384, .f32⟩
  | 95 => ⟨S4x4x16384x1, .f32⟩
  | 96 => ⟨S4x4x16384x1024, .f32⟩
  | 97 => ⟨S4x4x16384x1024, .f32⟩
  | 98 => ⟨S4x4x16384x1024, .f32⟩
  | 99 => ⟨S_, .f32⟩
  | 100 => ⟨S4x4x16384, .f32⟩
  | 101 => ⟨S4x4x16384x1, .f32⟩
  | 102 => ⟨S4x4x16384x1024, .f32⟩
  | 103 => ⟨S4x4x16384x1024, .f32⟩
  | 104 => ⟨S16384x4x4x64, .f32⟩
  | 105 => ⟨S1x16384, .i32⟩
  | 106 => ⟨S16384x1, .i32⟩
  | 107 => ⟨S16384x16384, .i32⟩
  | 108 => ⟨S16384x16384, .i32⟩
  | 109 => ⟨S16384x16384, .i1⟩
  | 110 => ⟨S1x16384, .i32⟩
  | 111 => ⟨S16384x1, .i32⟩
  | 112 => ⟨S_, .i32⟩
  | 113 => ⟨S16384x1, .i32⟩
  | 114 => ⟨S16384x1, .i32⟩
  | 115 => ⟨S16384x16384, .i32⟩
  | 116 => ⟨S16384x16384, .i32⟩
  | 117 => ⟨S16384x16384, .i1⟩
  | 118 => ⟨S16384x16384, .i1⟩
  | 119 => ⟨S16384x4x64, .f32⟩
  | 120 => ⟨S4x16384x16384x4, .f32⟩
  | 121 => ⟨S4x4x16384x16384, .f32⟩
  | 122 => ⟨S_, .f32⟩
  | 123 => ⟨S_, .f32⟩
  | 124 => ⟨S4x4x16384x16384, .i1⟩
  | 125 => ⟨S4x4x16384x16384, .f32⟩
  | 126 => ⟨S4x4x16384x16384, .f32⟩
  | 127 => ⟨S_, .f32⟩
  | _ => ⟨S16384x1024, .f32⟩

abbrev hbmTy0_2 (i : Nat) : BufTy := match i % 128 with
  | 0 => ⟨S4x4x16384, .f32⟩
  | 1 => ⟨S_, .f32⟩
  | 2 => ⟨S4x4x16384, .f32⟩
  | 3 => ⟨S4x4x16384, .f32⟩
  | 4 => ⟨S4x4x16384x1, .f32⟩
  | 5 => ⟨S4x4x16384x16384, .f32⟩
  | 6 => ⟨S4x4x16384x16384, .f32⟩
  | 7 => ⟨S4x4x16384x16384, .f32⟩
  | 8 => ⟨S_, .f32⟩
  | 9 => ⟨S4x4x16384, .f32⟩
  | 10 => ⟨S4x4x16384x1, .f32⟩
  | 11 => ⟨S4x4x16384x16384, .f32⟩
  | 12 => ⟨S4x4x16384x16384, .f32⟩
  | 13 => ⟨S16384x4x64, .f32⟩
  | 14 => ⟨S4x64x4x16384, .f32⟩
  | 15 => ⟨S16384x4x4x64, .f32⟩
  | 16 => ⟨S16384x4x4x1, .f32⟩
  | 17 => ⟨S16384x4x4x64, .f32⟩
  | 18 => ⟨S16384x4x4x64, .f32⟩
  | 19 => ⟨S16384x4x4x1, .f32⟩
  | 20 => ⟨S16384x4x4x64, .f32⟩
  | 21 => ⟨S16384x4x4x64, .f32⟩
  | 22 => ⟨S16384x4x4x64, .f32⟩
  | 23 => ⟨S16384x4x4x1, .f32⟩
  | 24 => ⟨S16384x4x4x64, .f32⟩
  | 25 => ⟨S16384x4x4x64, .f32⟩
  | 26 => ⟨S16384x4x4x64, .f32⟩
  | 27 => ⟨S16384x1024, .f32⟩
  | 28 => ⟨S1024x16384, .f32⟩
  | 29 => ⟨S1024x16384, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v59 : Ref sig .tc := ⟨.hbm, 104, rfl⟩
abbrev main_v60 : Ref sig .tc := ⟨.hbm, 105, rfl⟩
abbrev main_c_13 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_14 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_15 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_16 : Ref sig .tc := ⟨.hbm, 133, rfl⟩
abbrev main_cst_17 : Ref sig .tc := ⟨.hbm, 134, rfl⟩
abbrev main_call3_v0 : Ref sig .tc := ⟨.hbm, 135, rfl⟩
abbrev main_call3_v1 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_18 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v90 : Ref sig .tc := ⟨.hbm, 146, rfl⟩
abbrev main_values : Ref sig .tc := ⟨.hbm, 147, rfl⟩
abbrev main_indices : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_19 : Ref sig .tc := ⟨.hbm, 157, rfl⟩
abbrev main_v99 : Ref sig .tc := ⟨.hbm, 158, rfl⟩
abbrev main_v100 : Ref sig .tc := ⟨.hbm, 159, rfl⟩
abbrev main_c_20 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_c_21 : Ref sig .tc := ⟨.hbm, 164, rfl⟩
abbrev main_v104 : Ref sig .tc := ⟨.hbm, 165, rfl⟩
abbrev main_v105 : Ref sig .tc := ⟨.hbm, 166, rfl⟩
abbrev main_c_22 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_c_23 : Ref sig .tc := ⟨.hbm, 177, rfl⟩
abbrev main_v115 : Ref sig .tc := ⟨.hbm, 178, rfl⟩
abbrev main_v116 : Ref sig .tc := ⟨.hbm, 179, rfl⟩
abbrev main_c_24 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_25 : Ref sig .tc := ⟨.hbm, 184, rfl⟩
abbrev main_v120 : Ref sig .tc := ⟨.hbm, 185, rfl⟩
abbrev main_v121 : Ref sig .tc := ⟨.hbm, 186, rfl⟩
abbrev main_c_26 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_c_27 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_28 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v146 : Ref sig .tc := ⟨.hbm, 217, rfl⟩
abbrev main_cst_29 : Ref sig .tc := ⟨.hbm, 218, rfl⟩
abbrev main_v147 : Ref sig .tc := ⟨.hbm, 219, rfl⟩
abbrev main_cst_30 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_cst_31 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_c_32 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_cst_33 : Ref sig .tc := ⟨.hbm, 250, rfl⟩
abbrev main_call6_v0 : Ref sig .tc := ⟨.hbm, 251, rfl⟩
abbrev main_call6_v1 : Ref sig .tc := ⟨.hbm, 252, rfl⟩
abbrev main_call6_v2 : Ref sig .tc := ⟨.hbm, 253, rfl⟩
abbrev main_v175 : Ref sig .tc := ⟨.hbm, 254, rfl⟩
abbrev main_cst_34 : Ref sig .tc := ⟨.hbm, 255, rfl⟩
abbrev main_v176 : Ref sig .tc := ⟨.hbm, 256, rfl⟩
abbrev main_cst_35 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_cst_36 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩

abbrev nD : Nat := 1
abbrev τ : Topo := Topo.v7x

variable {F : FTy → Type} [FloatOps F]
-- ==== Kernel2.lean ====
abbrev S136 : Shape := ⟨1, ![136]⟩
abbrev S1 : Shape := ⟨1, ![1]⟩
abbrev S34816x1024 : Shape := ⟨2, ![34816, 1024]⟩
abbrev S34816x1 : Shape := ⟨2, ![34816, 1]⟩
abbrev S8x1024x3584 : Shape := ⟨3, ![8, 1024, 3584]⟩
abbrev S8x3584x1024 : Shape := ⟨3, ![8, 3584, 1024]⟩
abbrev S256x1024 : Shape := ⟨2, ![256, 1024]⟩
abbrev S256x1 : Shape := ⟨2, ![256, 1]⟩
abbrev S1x1024x3584 : Shape := ⟨3, ![1, 1024, 3584]⟩
abbrev S1x3584x1024 : Shape := ⟨3, ![1, 3584, 1024]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 9
  | .vmem => 12
  | .smem => 2
  | _ => 0

abbrev bufTy : (tb : Table) → Fin (tcTables nBuf tb) → BufTy
  | .hbm, ⟨0, _⟩ => ⟨S34816x1024, .bf16⟩
  | .hbm, ⟨1, _⟩ => ⟨S34816x1, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S34816x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x3584, .bf16⟩
  | .local _ .vmem, ⟨5, _⟩ => ⟨S1x1024x3584, .bf16⟩
  | .local _ .vmem, ⟨6, _⟩ => ⟨S1x1024x3584, .bf16⟩
  | .local _ .vmem, ⟨7, _⟩ => ⟨S1x1024x3584, .bf16⟩
  | .local _ .vmem, ⟨8, _⟩ => ⟨S1x3584x1024, .bf16⟩
  | .local _ .vmem, ⟨9, _⟩ => ⟨S1x3584x1024, .bf16⟩
  | .local _ .vmem, ⟨10, _⟩ => ⟨S256x1024, .bf16⟩
  | .local _ .vmem, ⟨11, _⟩ => ⟨S256x1024, .bf16⟩
  | .local _ .smem, ⟨0, _⟩ => ⟨S136, .i32⟩
  | .local _ .smem, ⟨1, _⟩ => ⟨S1, .i32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3584x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S136 : Shape := ⟨1, ![136]⟩
abbrev S1 : Shape := ⟨1, ![1]⟩
abbrev S34816x1024 : Shape := ⟨2, ![34816, 1024]⟩
abbrev S34816x1 : Shape := ⟨2, ![34816, 1]⟩
abbrev S8x1024x3584 : Shape := ⟨3, ![8, 1024, 3584]⟩
abbrev S8x3584x1024 : Shape := ⟨3, ![8, 3584, 1024]⟩
abbrev S136x256x1024 : Shape := ⟨3, ![136, 256, 1024]⟩
abbrev S_ : Shape := ⟨0, ![]⟩
abbrev S136x1 : Shape := ⟨2, ![136, 1]⟩
abbrev S136x1024x3584 : Shape := ⟨3, ![136, 1024, 3584]⟩
abbrev S136x3584x1024 : Shape := ⟨3, ![136, 3584, 1024]⟩
abbrev S136x256x3584 : Shape := ⟨3, ![136, 256, 3584]⟩
abbrev S136x256x1 : Shape := ⟨3, ![136, 256, 1]⟩
abbrev S136x1x1 : Shape := ⟨3, ![136, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S34816x1024, .bf16⟩
  | .hbm, ⟨3, _⟩ => ⟨S34816x1, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S136x256x1024, .bf16⟩
  | .hbm, ⟨8, _⟩ => ⟨S136x256x1024, .f32⟩
  | .hbm, ⟨9, _⟩ => ⟨S_, .i32⟩
  | .hbm, ⟨10, _⟩ => ⟨S136, .i32⟩
  | .hbm, ⟨11, _⟩ => ⟨S136, .i1⟩
  | .hbm, ⟨12, _⟩ => ⟨S_, .i32⟩
  | .hbm, ⟨13, _⟩ => ⟨S136, .i32⟩
  | .hbm, ⟨14, _⟩ => ⟨S136, .i32⟩
  | .hbm, ⟨15, _⟩ => ⟨S136, .i32⟩
  | .hbm, ⟨16, _⟩ => ⟨S136x1, .i32⟩
  | .hbm, ⟨17, _⟩ => ⟨S136x1024x3584, .f32⟩
  | .hbm, ⟨18, _⟩ => ⟨S_, .i32⟩
  | .hbm, ⟨19, _⟩ => ⟨S136, .i32⟩
  | .hbm, ⟨20, _⟩ => ⟨S136, .i1⟩
  | .hbm, ⟨21, _⟩ => ⟨S_, .i32⟩
  | .hbm, ⟨22, _⟩ => ⟨S136, .i32⟩
  | .hbm, ⟨23, _⟩ => ⟨S136, .i32⟩
  | .hbm, ⟨24, _⟩ => ⟨S136, .i32⟩
  | .hbm, ⟨25, _⟩ => ⟨S136x1, .i32⟩
  | .hbm, ⟨26, _⟩ => ⟨S136x1024x3584, .f32⟩
  | .hbm, ⟨27, _⟩ => ⟨S_, .i32⟩
  | .hbm, ⟨28, _⟩ => ⟨S136, .i32⟩
  | .hbm, ⟨29, _⟩ => ⟨S136, .i1⟩
  | .hbm, ⟨30, _⟩ => ⟨S_, .i32⟩
  | .hbm, ⟨31, _⟩ => ⟨S136, .i32⟩
  | .hbm, ⟨32, _⟩ => ⟨S136, .i32⟩
  | .hbm, ⟨33, _⟩ => ⟨S136, .i32⟩
  | .hbm, ⟨34, _⟩ => ⟨S136x1, .i32⟩
  | .hbm, ⟨35, _⟩ => ⟨S136x3584x1024, .f32⟩
  | .hbm, ⟨36, _⟩ => ⟨S136x256x3584, .f32⟩
  | .hbm, ⟨37, _⟩ => ⟨S136x256x3584, .f32⟩
  | .hbm, ⟨38, _⟩ => ⟨S136x256x3584, .f32⟩
  | .hbm, ⟨39, _⟩ => ⟨S_, .f32⟩
  | .hbm, ⟨40, _⟩ => ⟨S136x256x3584, .f32⟩
  | .hbm, ⟨41, _⟩ => ⟨S136x256x3584, .f32⟩
  | .hbm, ⟨42, _⟩ => ⟨S_, .f32⟩
  | .hbm, ⟨43, _⟩ => ⟨S136x256x3584, .f32⟩
  | .hbm, ⟨44, _⟩ => ⟨S136x256x3584, .f32⟩
  | .hbm, ⟨45, _⟩ => ⟨S136x256x3584, .f32⟩
  | .hbm, ⟨46, _⟩ => ⟨S136x256x3584, .f32⟩
  | .hbm, ⟨47, _⟩ => ⟨S136x256x3584, .f32⟩
  | .hbm, ⟨48, _⟩ => ⟨S136x256x1024, .f32⟩
  | .hbm, ⟨49, _⟩ => ⟨S136x256x1, .f32⟩
  | .hbm, ⟨50, _⟩ => ⟨S136x256x1024, .f32⟩
  | .hbm, ⟨51, _⟩ => ⟨S136x256x1024, .f32⟩
  | .hbm, ⟨52, _⟩ => ⟨S136, .i32⟩
  | .hbm, ⟨53, _⟩ => ⟨S136x1x1, .i32⟩
  | .hbm, ⟨54, _⟩ => ⟨S_, .i32⟩
  | .hbm, ⟨55, _⟩ => ⟨S136x1x1, .i32⟩
  | .hbm, ⟨56, _⟩ => ⟨S136x1x1, .i1⟩
  | .hbm, ⟨57, _⟩ => ⟨S_, .f32⟩
  | .hbm, ⟨58, _⟩ => ⟨S_, .f32⟩
  | .hbm, ⟨59, _⟩ => ⟨S136x256x1024, .i1⟩
  | .hbm, ⟨60, _⟩ => ⟨S136x256x1024, .f32⟩
  | .hbm, ⟨61, _⟩ => ⟨S136x256x1024, .f32⟩
  | .hbm, ⟨62, _⟩ => ⟨S34816x1024, .f32⟩
  | .hbm, ⟨63, _⟩ => ⟨S34816x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S3072 : Shape := ⟨1, ![3072]⟩
abbrev S1024x2816 : Shape := ⟨2, ![1024, 2816]⟩
abbrev S2816x1024 : Shape := ⟨2, ![2816, 1024]⟩
abbrev S2x8x3584x1024 : Shape := ⟨4, ![2, 8, 3584, 1024]⟩
abbrev S_ : Shape := ⟨0, ![]⟩
abbrev S1x1024 : Shape := ⟨2, ![1, 1024]⟩
abbrev S8x1024 : Shape := ⟨2, ![8, 1024]⟩
abbrev S57344x1024 : Shape := ⟨2, ![57344, 1024]⟩
abbrev S28672x1024 : Shape := ⟨2, ![28672, 1024]⟩
abbrev S512x1024 : Shape := ⟨2, ![512, 1024]⟩
abbrev S896x1024 : Shape := ⟨2, ![896, 1024]⟩
abbrev S512 : Shape := ⟨1, ![512]⟩
abbrev S512x1 : Shape := ⟨2, ![512, 1]⟩
abbrev S512x2816 : Shape := ⟨2, ![512, 2816]⟩

abbrev nBuf : Space → Nat
  | .hbm => 28
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S3072, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x8x3584x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x1024, .f32⟩
  | .hbm, ⟨22, _⟩ => ⟨S1024x2816, .bf16⟩
  | .hbm, ⟨23, _⟩ => ⟨S1024x2816, .bf16⟩
  | .hbm, ⟨24, _⟩ => ⟨S2816x1024, .bf16⟩
  | .hbm, ⟨25, _⟩ => ⟨S57344x1024, .f32⟩
  | .hbm, ⟨26, _⟩ => ⟨S16384x1024, .f32⟩
  | .hbm, ⟨27, _⟩ => ⟨S28672x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S896x1024, .f32⟩
  | .local _ .vmem, ⟨7, _⟩ => ⟨S896x1024, .f32⟩
  | .local _ .vmem, ⟨8, _⟩ => ⟨S512x1024, .f32⟩
  | .local _ .vmem, ⟨9, _⟩ => ⟨S512x1024, .f32⟩
  | .local _ .vmem, ⟨10, _⟩ => ⟨S896x1024, .bf16⟩
  | .local _ .vmem, ⟨11, _⟩ => ⟨S896x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S896x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S896x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1024 : Shape := ⟨1, ![1024]⟩
abbrev S3072 : Shape := ⟨1, ![3072]⟩
abbrev S1024x2816 : Shape := ⟨2, ![1024, 2816]⟩
abbrev S2816x1024 : Shape := ⟨2, ![2816, 1024]⟩
abbrev S2x8x3584x1024 : Shape := ⟨4, ![2, 8, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x8x3584x1024 : Shape := ⟨4, ![1, 8, 3584, 1024]⟩
abbrev S8x3584x1024 : Shape := ⟨3, ![8, 3584, 1024]⟩
abbrev S28672x1024 : Shape := ⟨2, ![28672, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S3072, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x8x3584x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S1x8x3584x1024, .f32⟩
  | .hbm, ⟨70, _⟩ => ⟨S8x3584x1024, .f32⟩
  | .hbm, ⟨71, _⟩ => ⟨S28672x1024, .f32⟩
  | .hbm, ⟨72, _⟩ => ⟨S28672x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== Proof.Frame.IdealParts.lean ====
module

public import proofs.«01_k».proof.Proof.Gen.KernelIdeal.Skeleton

@[expose] public section

/-! The printed parts of the kernel that name no constant are their skeletons, stated at the parts' own arguments. -/

namespace Cert.KernelIdeal

open Cert.KernelIdeal.Gen
open Idealize.ShloMosaic

variable {F : FTy → Type} [FloatOps F]

set_option maxRecDepth 65536 in
/-- `k0_part2` is its skeleton. -/
theorem k0_part2_eq_skeleton : k0_part2 (F := F) = k0_part2_skel (F := F) := rfl
set_option maxRecDepth 65536 in
/-- `k0_part3` is its skeleton. -/
theorem k0_part3_eq_skeleton : k0_part3 (F := F) = k0_part3_skel (F := F) := rfl
set_option maxRecDepth 65536 in
/-- `k0_part4` is its skeleton. -/
theorem k0_part4_eq_skeleton : k0_part4 (F := F) = k0_part4_skel (F := F) := rfl
set_option maxRecDepth 65536 in
/-- `k0_part5` is its skeleton. -/
theorem k0_part5_eq_skeleton : k0_part5 (F := F) = k0_part5_skel (F := F) := rfl
set_option maxRecDepth 65536 in
/-- `k0_part6` is its skeleton. -/
theorem k0_part6_eq_skeleton : k0_part6 (F := F) = k0_part6_skel (F := F) := rfl
set_option maxRecDepth 65536 in
/-- `k0_part7` is its skeleton. -/
theorem k0_part7_eq_skeleton : k0_part7 (F := F) = k0_part7_skel (F := F) := rfl
set_option maxRecDepth 65536 in
/-- `k0_part8` is its skeleton. -/
theorem k0_part8_eq_skeleton : k0_part8 (F := F) = k0_part8_skel (F := F) := rfl
set_option maxRecDepth 65536 in
/-- `k0_part9` is its skeleton. -/
theorem k0_part9_eq_skeleton : k0_part9 (F := F) = k0_part9_skel (F := F) := rfl
set_option maxRecDepth 65536 in
/-- `k0_part10` is its skeleton. -/
theorem k0_part10_eq_skeleton : k0_part10 (F := F) = k0_part10_skel (F := F) := rfl
set_option maxRecDepth 65536 in
/-- `k0_part11` is its skeleton. -/
theorem k0_part11_eq_skeleton : k0_part11 (F := F) = k0_part11_skel (F := F) := rfl
set_option maxRecDepth 65536 in
/-- `k0_part13` is its skeleton. -/
theorem k0_part13_eq_skeleton : k0_part13 (F := F) = k0_part13_skel (F := F) := rfl
set_option maxRecDepth 65536 in
/-- `k0_part14` is its skeleton. -/
theorem k0_part14_eq_skeleton : k0_part14 (F := F) = k0_part14_skel (F := F) := rfl
set_option maxRecDepth 65536 in
/-- `k0_part15` is its skeleton. -/
theorem k0_part15_eq_skeleton : k0_part15 (F := F) = k0_part15_skel (F := F) := rfl
set_option maxRecDepth 65536 in
/-- `k0_part16` is its skeleton. -/
theorem k0_part16_eq_skeleton : k0_part16 (F := F) = k0_part16_skel (F := F) := rfl
set_option maxRecDepth 65536 in
/-- `k0_part17` is its skeleton. -/
theorem k0_part17_eq_skeleton : k0_part17 (F := F) = k0_part17_skel (F := F) := rfl
set_option maxRecDepth 65536 in
/-- `k0_part18` is its skeleton. -/
theorem k0_part18_eq_skeleton : k0_part18 (F := F) = k0_part18_skel (F := F) := rfl
set_option maxRecDepth 65536 in
/-- `k0_part19` is its skeleton. -/
theorem k0_part19_eq_skeleton : k0_part19 (F := F) = k0_part19_skel (F := F) := rfl
set_option maxRecDepth 65536 in
/-- `k0_part20` is its skeleton. -/
theorem k0_part20_eq_skeleton : k0_part20 (F := F) = k0_part20_skel (F := F) := rfl
set_option maxRecDepth 65536 in
/-- `k0_part21` is its skeleton. -/
theorem k0_part21_eq_skeleton : k0_part21 (F := F) = k0_part21_skel (F := F) := rfl
set_option maxRecDepth 65536 in
/-- `k0_part22` is its skeleton. -/
theorem k0_part22_eq_skeleton : k0_part22 (F := F) = k0_part22_skel (F := F) := rfl
set_option maxRecDepth 65536 in
/-- `k0_part23` is its skeleton. -/
theorem k0_part23_eq_skeleton : k0_part23 (F := F) = k0_part23_skel (F := F) := rfl
set_option maxRecDepth 65536 in
/-- `k0_part24` is its skeleton. -/
theorem k0_part24_eq_skeleton : k0_part24 (F := F) = k0_part24_skel (F := F) := rfl
set_option maxRecDepth 65536 in
/-- `k0_part25` is its skeleton. -/
theorem k0_part25_eq_skeleton : k0_part25 (F := F) = k0_part25_skel (F := F) := rfl
set_option maxRecDepth 65536 in
/-- `k0_part26` is its skeleton. -/
theorem k0_part26_eq_skeleton : k0_part26 (F := F) = k0_part26_skel (F := F) := rfl
set_option maxRecDepth 65536 in
/-- `k0_part27` is its skeleton. -/
theorem k0_part27_eq_skeleton : k0_part27 (F := F) = k0_part27_skel (F := F) := rfl
set_option maxRecDepth 65536 in
/-- `k0_part28` is its skeleton. -/
theorem k0_part28_eq_skeleton : k0_part28 (F := F) = k0_part28_skel (F := F) := rfl
set_option maxRecDepth 65536 in
/-- `k0_part29` is its skeleton. -/
theorem k0_part29_eq_skeleton : k0_part29 (F := F) = k0_part29_skel (F := F) := rfl
set_option maxRecDepth 65536 in
/-- `k0_part30` is its skeleton. -/
theorem k0_part30_eq_skeleton : k0_part30 (F := F) = k0_part30_skel (F := F) := rfl
set_option maxRecDepth 65536 in
/-- `k0_part31` is its skeleton. -/
theorem k0_part31_eq_skeleton : k0_part31 (F := F) = k0_part31_skel (F := F) := rfl
set_option maxRecDepth 65536 in
/-- `k0_part32` is its skeleton. -/
theorem k0_part32_eq_skeleton : k0_part32 (F := F) = k0_part32_skel (F := F) := rfl
set_option maxRecDepth 65536 in
/-- `k0_part33` is its skeleton. -/
theorem k0_part33_eq_skeleton : k0_part33 (F := F) = k0_part33_skel (F := F) := rfl
set_option maxRecDepth 65536 in
/-- `k0_part34` is its skeleton. -/
theorem k0_part34_eq_skeleton : k0_part34 (F := F) = k0_part34_skel (F := F) := rfl
set_option maxRecDepth 65536 in
/-- `k0_part35` is its skeleton. -/
theorem k0_part35_eq_skeleton : k0_part35 (F := F) = k0_part35_skel (F := F) := rfl
set_option maxRecDepth 65536 in
/-- `k0_part36` is its skeleton. -/
theorem k0_part36_eq_skeleton : k0_part36 (F := F) = k0_part36_skel (F := F) := rfl
set_option maxRecDepth 65536 in
/-- `k0_part37` is its skeleton. -/
theorem k0_part37_eq_skeleton : k0_part37 (F := F) = k0_part37_skel (F := F) := rfl
set_option maxRecDepth 65536 in
/-- `k0_part38` is its skeleton. -/
theorem k0_part38_eq_skeleton : k0_part38 (F := F) = k0_part38_skel (F := F) := rfl
set_option maxRecDepth 65536 in
/-- `k0_part39` is its skeleton. -/
theorem k0_part39_eq_skeleton : k0_part39 (F := F) = k0_part39_skel (F := F) := rfl
set_option maxRecDepth 65536 in
/-- `k0_part40` is its skeleton. -/
theorem k0_part40_eq_skeleton : k0_part40 (F := F) = k0_part40_skel (F := F) := rfl
set_option maxRecDepth 65536 in
/-- `k0_part49` is its skeleton. -/
theorem k0_part49_eq_skeleton : k0_part49 (F := F) = k0_part49_skel (F := F) := rfl
set_option maxRecDepth 65536 in
/-- `k0_part50` is its skeleton. -/
theorem k0_part50_eq_skeleton : k0_part50 (F := F) = k0_part50_skel (F := F) := rfl
set_option maxRecDepth 65536 in
/-- `k0_part51` is its skeleton. -/
theorem k0_part51_eq_skeleton : k0_part51 (F := F) = k0_part51_skel (F := F) := rfl
set_option maxRecDepth 65536 in
/-- `k0_part52` is its skeleton. -/
theorem k0_part52_eq_skeleton : k0_part52 (F := F) = k0_part52_skel (F := F) := rfl
set_option maxRecDepth 65536 in
/-- `k0_part53` is its skeleton. -/
theorem k0_part53_eq_skeleton : k0_part53 (F := F) = k0_part53_skel (F := F) := rfl
set_option maxRecDepth 65536 in
/-- `k0_part54` is its skeleton. -/
theorem k0_part54_eq_skeleton : k0_part54 (F := F) = k0_part54_skel (F := F) := rfl
set_option maxRecDepth 65536 in
/-- `k0_part55` is its skeleton. -/
theorem k0_part55_eq_skeleton : k0_part55 (F := F) = k0_part55_skel (F := F) := rfl
set_option maxRecDepth 65536 in
/-- `k0_part56` is its skeleton. -/
theorem k0_part56_eq_skeleton : k0_part56 (F := F) = k0_part56_skel (F := F) := rfl

end Cert.KernelIdeal
-- ==== Proof.Frame.KernelIdealCells.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.LoopRemainder
public import proofs.«01_k».proof.Proof.Frame.IdealParts

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The part of it that `M` views held at `f`. -/
abbrev ptv (c : Dev nD) {sp : Space} {S : Shape} {e : EltTy} (M : Memref sig .tc sp S e) (f : Bf (F := F) c M) : sProp 𝕄 :=
  M.view.loc (c : Thread nD τ) ↦[M.view.set]{fullShare} f

end Cert.Proof.KernelIdeal

end
-- ==== Proof.Frame.KernelIdealLoop.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.LoopRemainder
public import proofs.«01_k».proof.Proof.Frame.KernelIdealCells

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- The loop over pairs of key chunks: before every trip the selected branch's keys and values are held as they were, the
    selection table and the eight score and weight buffers at something. -/
@[instance_reducible, sl_loop] noncomputable def loopInv_k0_t1 (c : Dev nD) (i : grid0.Coords) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (f8 : Bf (F := F) c arg8) (f9 : Bf (F := F) c arg9)
    (v54 : FVec F S48x512 .bf16) (v55 : FVec F S8x512 .f32) (v65 : FVec F S64x512 .bf16) (v77 : FVec F S64x512 .bf16) (v364 : FVec F S72x512 .f32) (v380 : FVec F S1x512 .f32) (v388 : FVec F S72x512 .f32) (v423 : BitVec 32) (v437 : FVec F S1x512 .f32) (v451 : FVec F S1x512 .f32) (v452 : FVec F S1x512 .f32) (v462 : FVec F S1x512 .f32) (v476 : FVec F S1x512 .f32) (v490 : FVec F S1x512 .f32) (v491 : FVec F S1x512 .f32)
    (init : FVec F S1x512 .f32 × FVec F S1x512 .f32 × FVec F S72x512 .f32 × FVec F S1x512 .f32 × FVec F S1x512 .f32 × FVec F S1x512 .f32 × FVec F S1x512 .f32 × FVec F S72x512 .f32 × FVec F S1x512 .f32 × FVec F S1x512 .f32) :
    Cert.KernelIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v65 v77 v364 v380 v388 v423 v437 v451 v452 v462 v476 v490 v491 init where
  inv _ _ := iprop(ptv c arg8 f8 ∗ ptv c arg9 f9 ∗ (∃ f, pt c arg13 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f))
  step k acc := by
    obtain ⟨a25, a26, a27, a28, a29, a30, a31, a32, a33, a34⟩ := acc
    unfold Cert.KernelIdeal.Gen.k0_t1_body
    iintro ⟨H8, H9, ⟨%f13, H13⟩, ⟨%f16, H16⟩, ⟨%f17, H17⟩, ⟨%f18, H18⟩, ⟨%f19, H19⟩, ⟨%f20, H20⟩, ⟨%f21, H21⟩, ⟨%f22, H22⟩, ⟨%f23, H23⟩⟩
    sl_exec_parts
    sl_step
    isplitl [H8]; · iexact H8
    isplitl [H9]; · iexact H9
    isplitl [H13]; · iexists _; iexact H13
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Proof.KernelIdeal

end
-- ==== Proof.Frame.KernelIdealBody.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Frame.KernelIdealLoop

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

set_option maxHeartbeats 4000000 in
/-- The kernel's body on whole buffers, from any contents: it runs to its return, hands the ten inputs back as they were, and
    leaves the result's buffer and the scratch buffers at something. Both ways of the conditional on the grid point are run. -/
theorem body_runs (c : Dev nD) (i : grid0.Coords) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (K : PUnit → sProp 𝕄) :
    iprop(ptv c arg2 f2 ∗ ptv c arg3 f3 ∗ ptv c arg4 f4 ∗ ptv c arg5 f5 ∗ ptv c arg6 f6 ∗ ptv c arg7 f7 ∗ ptv c arg8 f8 ∗ ptv c arg9 f9 ∗ ptv c arg10 f10 ∗ ptv c arg11 f11 ∗ (∃ f, ptv c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)
        ∗ (iprop(ptv c arg2 f2 ∗ ptv c arg3 f3 ∗ ptv c arg4 f4 ∗ ptv c arg5 f5 ∗ ptv c arg6 f6 ∗ ptv c arg7 f7 ∗ ptv c arg8 f8 ∗ ptv c arg9 f9 ∗ ptv c arg10 f10 ∗ ptv c arg11 f11 ∗ (∃ f, ptv c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)) -∗ K ⟨⟩))
      ⊢ wp frame (wpE (defs₀ (F := F)) Variants.none c none) Set.univ (cc0_nsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  iintro ⟨H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, Hk⟩
  sl_unfold [cc0_nsa_attention]
  by_cases hc : k0_cond1 i = 1#1
  · sl_exec_parts (disch := first | exact hc | exact k0_t1_ok i)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23
  · sl_exec_parts (disch := first | exact hc | exact k0_t1_ok i)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

/-- The same, over the buffers' contents as the kernel reads them. -/
theorem body_owned (c : Dev nD) (i : grid0.Coords) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (x2 : Vec F S512x128 .f32) (x3 : Vec F S2x16x128 .f32) (x4 : Vec F S2048x128 .f32) (x5 : Vec F S1152x128 .f32) (x6 : Vec F S2x1024x128 .bf16) (x7 : Vec F S2x128x1024 .bf16) (x8 : Vec F S2x16384x128 .bf16) (x9 : Vec F S2x72x16384 .bf16) (x10 : Vec F S2x16384x128 .bf16) (x11 : Vec F S2x72x16384 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)) -∗ K ⟨⟩))
      ⊢ wp frame (wpE (defs₀ (F := F)) Variants.none c none) Set.univ (cc0_nsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, H13, H14, H15, H16, H17, H18, H19, H20, H21, H22, H23, Hk⟩
  iapply (body_runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f2 f3 f4 f5 f6 f7 f8 f9 f10 f11 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, H8, H9, H10, H11, ⟨%g12, H12⟩, H13, H14, H15, H16, H17, H18, H19, H20, H21, H22, H23⟩
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _, _; isplitr; swap; · iexact H12
    ipureintro; rfl
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Cert.Proof.KernelIdeal

end
-- ==== Proof.Frame.KernelIdealRun.lean ====
module

public import proofs.«01_k».proof.Proof.Frame.KernelIdealBody

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them; after the body each input's buffer at its block; of the
    result's buffer nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d

/-- The window whose contents after the body are forgotten: the result's. -/
abbrev fgt : Fin cfg0.W → Bool := fun w => w.val == 10

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

set_option maxHeartbeats 2000000 in
/-- The body at any point, from `body_runs`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3, after0_4, after0_5, after0_6, after0_7, after0_8, after0_9]
  unfold Pipeline.ΦA
  rw [scopedRest0_eq]
  iintro ⟨⟨⟨S13, S14, S15, S16, S17, S18, S19, S20, S21, S22, S23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, H10⟩⟩
  iapply (body_owned c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  iintro ⟨H0, H1, H2, H3, H4, H5, H6, H7, H8, H9, ⟨%X', H10⟩, S13, S14, S15, S16, S17, S18, S19, S20, S21, S22, S23⟩
  isplitl [Hg S13 S14 S15 S16 S17 S18 S19 S20 S21 S22 S23]
  · isplitr [Hg]
    · isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      iexact S23
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation with the result's buffer forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxRecDepth 8192 in
/-- Every weakly fair execution of the program ends, with every input array as it was and every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Proof.KernelIdeal

end
-- ==== Proof.Value.Body.lean ====
module

public import proofs.«01_k».proof.Proof.Gen.KernelIdeal.Frame
public import proofs.«01_k».proof.Proof.Gen.KernelIdeal.Points
public import proofs.«01_k».proof.Proof.Gen.KernelIdeal.Launch
public import proofs.«01_k».proof.Proof.Frame.KernelIdealCells

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

theorem cond1_first (i : grid0.Coords) (hi : (i 1).val = 0) : k0_cond1 i = 1#1 := by
  unfold k0_cond1; rw [hi]; decide

theorem trips_first (i : grid0.Coords) (hi : (i 1).val = 0) : (k0_t1_loop i).trips = 0 := by
  unfold k0_t1_loop; rw [hi]; decide

set_option maxHeartbeats 4000000 in
/-- The body at a point of the first tile of queries: the stores it leaves in the result's buffer, and that it leaves them. The
    past is empty there, so the conditional takes its first branch and the loop over pairs of chunks makes no trip. -/
def kernel_first (c : Dev nD) (i : grid0.Coords) (hi : (i 1).val = 0) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { L : List (View.Piece (Elt F) S512x128 .bf16) // ∀ K : PUnit → sProp 𝕄,
    iprop(ptv c arg2 f2 ∗ ptv c arg3 f3 ∗ ptv c arg4 f4 ∗ ptv c arg5 f5 ∗ ptv c arg6 f6 ∗ ptv c arg7 f7 ∗ ptv c arg8 f8 ∗ ptv c arg9 f9 ∗ ptv c arg10 f10 ∗ ptv c arg11 f11 ∗ (∃ f, ptv c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)
        ∗ (iprop(ptv c arg2 f2 ∗ ptv c arg3 f3 ∗ ptv c arg4 f4 ∗ ptv c arg5 f5 ∗ ptv c arg6 f6 ∗ ptv c arg7 f7 ∗ ptv c arg8 f8 ∗ ptv c arg9 f9 ∗ ptv c arg10 f10 ∗ ptv c arg11 f11 ∗ (∃ f, ptv c arg12 (arg12.view.writes (Elt F) f L)) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)) -∗ K ⟨⟩))
      ⊢ wp frame (wpE (defs₀ (F := F)) Variants.none c none) Set.univ (cc0_nsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  have hc : k0_cond1 i = 1#1 := cond1_first i hi
  have htr : (k0_t1_loop i).trips = 0 := trips_first i hi
  refine ⟨?_, fun K => ?_⟩
  rotate_left
  iintro ⟨H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, Hk⟩
  sl_unfold [cc0_nsa_attention]
  sl_exec_parts (disch := first | exact hc | exact k0_t1_ok i)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

end Cert.Proof.KernelIdeal

end
-- ==== Proof.Value.Math.lean ====
module

public import Idealize.ShloMosaic.Lib.Pointwise
public import Idealize.ShloMosaic.Lib.MatmulPlain

@[expose] public section

noncomputable section

namespace Cert.Proof.Value

open Idealize.ShloMosaic

/-- The weighted mean of the first `n` values, with the softmax of the first `n` scores for its weights. -/
def mean (n : ℕ) (s : ℕ → ℝ) (V : ℕ → EReal) : EReal :=
  ∑ k ∈ Finset.range n, ((Real.exp (s k) / ∑ j ∈ Finset.range n, Real.exp (s j) : ℝ) : EReal) * V k

theorem mean_congr {n : ℕ} {s s' : ℕ → ℝ} {V V' : ℕ → EReal} (hs : ∀ k < n, s k = s' k) (hV : ∀ k < n, V k = V' k) :
    mean n s V = mean n s' V' := by
  unfold mean
  have e : ∑ j ∈ Finset.range n, Real.exp (s j) = ∑ j ∈ Finset.range n, Real.exp (s' j) :=
    Finset.sum_congr rfl fun j hj => by rw [hs j (Finset.mem_range.mp hj)]
  refine Finset.sum_congr rfl fun k hk => ?_
  rw [e, hs k (Finset.mem_range.mp hk), hV k (Finset.mem_range.mp hk)]

theorem sum_pos_pos {n : ℕ} (hn : 0 < n) (s : ℕ → ℝ) : 0 < ∑ j ∈ Finset.range n, Real.exp (s j) :=
  Finset.sum_pos (fun _ _ => Real.exp_pos _) ⟨0, Finset.mem_range.mpr hn⟩

/-- A sum over the places `z`, each of which holds a position, of what is there at the positions below `n`. -/
theorem sum_places {ι M : Type} [Fintype ι] [AddCommMonoid M] (n : ℕ) (pos : ι → ℕ)
    (hinj : ∀ z z', pos z < n → pos z = pos z' → z = z') (hsur : ∀ p < n, ∃ z, pos z = p)
    (f : ι → M) (g : ℕ → M) (hf : ∀ z, f z = if pos z < n then g (pos z) else 0) : ∑ z, f z = ∑ k ∈ Finset.range n, g k := by
  classical
  rw [Finset.sum_congr rfl fun z _ => hf z, ← Finset.sum_filter]
  refine Finset.sum_bij (fun z _ => pos z) (fun z hz => Finset.mem_range.mpr (Finset.mem_filter.mp hz).2)
    (fun z hz z' _ e => hinj z z' (Finset.mem_filter.mp hz).2 e) (fun p hp => ?_) (fun _ _ => rfl)
  obtain ⟨z, rfl⟩ := hsur p (Finset.mem_range.mp hp)
  exact ⟨z, Finset.mem_filter.mpr ⟨Finset.mem_univ _, Finset.mem_range.mp hp⟩, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm,
      EReal.left_distrib_of_nonneg_of_ne_top (by exact_mod_cast hr) (EReal.coe_ne_top r), mul_comm, mul_comm (r : EReal)]

theorem sum_eq_bot {ι : Type} (s : Finset ι) (f : ι → EReal) (i : ι) (hi : i ∈ s) (h : f i = ⊥) : ∑ j ∈ s, f j = ⊥ := by
  classical
  rw [← Finset.add_sum_erase s f hi, h, EReal.bot_add]

/-- The greatest of finitely many scores, none of them `⊤` and one of them above `⊥`, is a real. -/
theorem fold_real {ι : Type} [Fintype ι] (b : EReal) (hb : b = ⊥) (f : ι → EReal) (hf : ∀ z, f z ≠ ⊤) (z₀ : ι) (h₀ : f z₀ ≠ ⊥) :
    ∃ μ : ℝ, Finset.fold max b f Finset.univ = (μ : EReal) := by
  have ht : Finset.fold max b f Finset.univ < ⊤ :=
    (Finset.fold_max_lt _).mpr ⟨by rw [hb]; exact bot_lt_top, fun z _ => lt_top_iff_ne_top.mpr (hf z)⟩
  have hl : ⊥ < Finset.fold max b f Finset.univ :=
    (Finset.lt_fold_max _).mpr (Or.inr ⟨z₀, Finset.mem_univ _, bot_lt_iff_ne_bot.mpr h₀⟩)
  exact ⟨_, (EReal.coe_toReal ht.ne hl.ne').symm⟩

theorem fold_bot {ι : Type} [Fintype ι] (b : EReal) (hb : b = ⊥) (f : ι → EReal) (hf : ∀ z, f z = ⊥) :
    Finset.fold max b f Finset.univ = ⊥ :=
  le_bot_iff.mp ((Finset.fold_max_le _).mpr ⟨hb.le, fun z _ => (hf z).le⟩)

theorem div_real (x : EReal) (r : ℝ) (hr : 0 < r) : Ideal.div x (r : EReal) = x * ((r⁻¹ : ℝ) : EReal) := by
  unfold Ideal.div
  rw [if_neg (by exact_mod_cast hr.ne'), EReal.coe_inv]

theorem rpow_two (a μ : ℝ) : Real.rpow 2 (a / Real.log 2 - μ) = Real.exp a * Real.exp (-(μ * Real.log 2)) := by
  have h2 : Real.log 2 ≠ 0 := (Real.log_pos (by norm_num)).ne'
  show (2 : ℝ) ^ (a / Real.log 2 - μ) = _
  rw [Real.rpow_def_of_pos (by norm_num), ← Real.exp_add]
  congr 1
  field_simp
  ring

variable {ι : Type} [Fintype ι] (n : ℕ) (hn : 0 < n) (pos : ι → ℕ)
  (hinj : ∀ z z', pos z < n → pos z = pos z' → z = z') (hsur : ∀ p < n, ∃ z, pos z = p)
include hn hinj hsur

/-- The softmax in base two over the sum of its own exponentials, that the sum of values divides by. -/
theorem mean_base_two (s : ℕ → ℝ) (V : ℕ → EReal) (x v w : ι → EReal) (μ : ℝ)
    (hx : ∀ z, x z = if pos z < n then ((s (pos z) / Real.log 2 : ℝ) : EReal) else ⊥)
    (hv : ∀ z, pos z < n → v z = V (pos z)) (hw : ∀ z, w z = 1) :
    Ideal.div (∑ z, v z * Ideal.exp2 (x z - (μ : EReal))) (∑ z, w z * Ideal.exp2 (x z - (μ : EReal))) = mean n s V := by
  set C : ℝ := Real.exp (-(μ * Real.log 2)) with hC
  have hCp : 0 < C := Real.exp_pos _
  set Z : ℝ := ∑ j ∈ Finset.range n, Real.exp (s j) with hZ
  have hZp : 0 < Z := sum_pos_pos hn s
  have he : ∀ z, Ideal.exp2 (x z - (μ : EReal)) = if pos z < n then ((Real.exp (s (pos z)) * C : ℝ) : EReal) else 0 := fun z => by
    rw [hx z]
    split_ifs
    · rw [← EReal.coe_sub, Ideal.exp2_coe, rpow_two]
    · rw [EReal.bot_sub, Ideal.exp2_bot]
  have hd : ∑ z, w z * Ideal.exp2 (x z - (μ : EReal)) = ((Z * C : ℝ) : EReal) := by
    rw [sum_places n pos hinj hsur _ (fun k => ((Real.exp (s k) * C : ℝ) : EReal)) (fun z => by rw [hw, one_mul, he]), ← coe_sum, ← Finset.sum_mul]
  have hnu : ∑ z, v z * Ideal.exp2 (x z - (μ : EReal)) = ∑ k ∈ Finset.range n, V k * ((Real.exp (s k) * C : ℝ) : EReal) :=
    sum_places n pos hinj hsur _ _ fun z => by
      rw [he]
      split_ifs with h
      · rw [hv z h]
      · rw [mul_zero]
  rw [hd, hnu, div_real _ _ (mul_pos hZp hCp), sum_mul_real _ _ _ (inv_nonneg.mpr (mul_pos hZp hCp).le)]
  refine Finset.sum_congr rfl fun k _ => ?_
  rw [mul_assoc, ← EReal.coe_mul, mul_comm]
  congr 2
  field_simp
  rw [← hZ, div_self hZp.ne']

/-- The same with each weight divided before it multiplies its value. -/
theorem mean_weights (s : ℕ → ℝ) (V : ℕ → EReal) (x v : ι → EReal) (μ : ℝ)
    (hx : ∀ z, x z = if pos z < n then ((s (pos z) / Real.log 2 : ℝ) : EReal) else ⊥) (hv : ∀ z, pos z < n → v z = V (pos z)) :
    ∑ z, v z * (Ideal.exp2 (x z - (μ : EReal)) * Ideal.div 1 (∑ z', Ideal.exp2 (x z' - (μ : EReal)))) = mean n s V := by
  set C : ℝ := Real.exp (-(μ * Real.log 2)) with hC
  have hCp : 0 < C := Real.exp_pos _
  set Z : ℝ := ∑ j ∈ Finset.range n, Real.exp (s j) with hZ
  have hZp : 0 < Z := sum_pos_pos hn s
  have he : ∀ z, Ideal.exp2 (x z - (μ : EReal)) = if pos z < n then ((Real.exp (s (pos z)) * C : ℝ) : EReal) else 0 := fun z => by
    rw [hx z]
    split_ifs
    · rw [← EReal.coe_sub, Ideal.exp2_coe, rpow_two]
    · rw [EReal.bot_sub, Ideal.exp2_bot]
  have hd : ∑ z, Ideal.exp2 (x z - (μ : EReal)) = ((Z * C : ℝ) : EReal) := by
    rw [sum_places n pos hinj hsur _ (fun k => ((Real.exp (s k) * C : ℝ) : EReal)) he, ← coe_sum, ← Finset.sum_mul]
  refine sum_places n pos hinj hsur _ _ fun z => ?_
  rw [hd, div_real _ _ (mul_pos hZp hCp), he]
  split_ifs with h
  · rw [hv z h, one_mul, ← EReal.coe_mul, mul_comm]
    congr 2
    field_simp
    rw [← hZ, div_self hZp.ne']
  · rw [zero_mul, mul_zero]

/-- The softmax in base `e`, each weight divided before it multiplies its value. -/
theorem mean_softmax (s : ℕ → ℝ) (V : ℕ → EReal) (x v : ι → EReal) (μ : ℝ)
    (hx : ∀ z, x z = if pos z < n then (s (pos z) : EReal) else ⊥)
    (hv : ∀ z, pos z < n → v z = V (pos z)) :
    ∑ z, Ideal.div (Ideal.exp (x z - (μ : EReal))) (∑ z', Ideal.exp (x z' - (μ : EReal))) * v z = mean n s V := by
  set C : ℝ := Real.exp (-μ) with hC
  have hCp : 0 < C := Real.exp_pos _
  set Z : ℝ := ∑ j ∈ Finset.range n, Real.exp (s j) with hZ
  have hZp : 0 < Z := sum_pos_pos hn s
  have he : ∀ z, Ideal.exp (x z - (μ : EReal)) = if pos z < n then ((Real.exp (s (pos z)) * C : ℝ) : EReal) else 0 := fun z => by
    rw [hx z]
    split_ifs
    · rw [← EReal.coe_sub, Ideal.exp_coe, sub_eq_add_neg, Real.exp_add]
    · rw [EReal.bot_sub, Ideal.exp_bot]
  have hd : ∑ z, Ideal.exp (x z - (μ : EReal)) = ((Z * C : ℝ) : EReal) := by
    rw [sum_places n pos hinj hsur _ (fun k => ((Real.exp (s k) * C : ℝ) : EReal)) he, ← coe_sum, ← Finset.sum_mul]
  refine sum_places n pos hinj hsur _ _ fun z => ?_
  rw [hd, div_real _ _ (mul_pos hZp hCp), he]
  split_ifs with h
  · rw [hv z h, ← EReal.coe_mul]
    congr 2
    field_simp
    rw [← hZ, div_self hZp.ne']
  · rw [zero_mul, zero_mul]

/-- A weight of the softmax. -/
theorem softmax_weight (s : ℕ → ℝ) (x : ι → EReal) (μ : ℝ) (hx : ∀ z, x z = if pos z < n then (s (pos z) : EReal) else ⊥) (z : ι) :
    Ideal.div (Ideal.exp (x z - (μ : EReal))) (∑ z', Ideal.exp (x z' - (μ : EReal)))
      = if pos z < n then ((Real.exp (s (pos z)) / ∑ j ∈ Finset.range n, Real.exp (s j) : ℝ) : EReal) else 0 := by
  set C : ℝ := Real.exp (-μ) with hC
  have hCp : 0 < C := Real.exp_pos _
  set Z : ℝ := ∑ j ∈ Finset.range n, Real.exp (s j) with hZ
  have hZp : 0 < Z := sum_pos_pos hn s
  have he : ∀ z, Ideal.exp (x z - (μ : EReal)) = if pos z < n then ((Real.exp (s (pos z)) * C : ℝ) : EReal) else 0 := fun z => by
    rw [hx z]
    split_ifs
    · rw [← EReal.coe_sub, Ideal.exp_coe, sub_eq_add_neg, Real.exp_add]
    · rw [EReal.bot_sub, Ideal.exp_bot]
  have hd : ∑ z, Ideal.exp (x z - (μ : EReal)) = ((Z * C : ℝ) : EReal) := by
    rw [sum_places n pos hinj hsur _ (fun k => ((Real.exp (s k) * C : ℝ) : EReal)) he, ← coe_sum, ← Finset.sum_mul]
  rw [hd, div_real _ _ (mul_pos hZp hCp), he]
  split_ifs with h
  · rw [← EReal.coe_mul]
    congr 1
    field_simp
  · rw [zero_mul]

omit hinj in
/-- The greatest score is a real. -/
theorem max_real (s : ℕ → ℝ) (x : ι → EReal) (b : EReal) (hb : b = ⊥)
    (hx : ∀ z, x z = if pos z < n then (s (pos z) : EReal) else ⊥) : ∃ μ : ℝ, Finset.fold max b x Finset.univ = (μ : EReal) := by
  obtain ⟨z₀, h₀⟩ := hsur 0 hn
  refine fold_real b hb x (fun z => ?_) z₀ ?_
  · rw [hx z]; split_ifs
    · exact EReal.coe_ne_top _
    · exact bot_ne_top
  · rw [hx z₀, if_pos (by omega)]; exact EReal.coe_ne_bot _

end Cert.Proof.Value

end
-- ==== Proof.Value.Pay.lean ====
module

public import proofs.«01_k».proof.Proof.Gen.KernelIdeal.Skeleton
public import proofs.«01_k».proof.Proof.Value.Math

@[expose] public section

noncomputable section

namespace Cert.Proof.KernelIdeal

open Cert.KernelIdeal Cert.KernelIdeal.Gen
open Cert.Proof.Value
open Idealize.ShloMosaic
open Idealize.ShloMosaic.TcCoe Idealize.ShloMosaic.Tactic

/-! What the kernel's steps compute, at an index, on the extended reals. -/

theorem mask_val : Named.named (F := Ideal) κ "mask" (φ := .f32) 0xF149F2CA#32 = ⊥ := IdealRules.named_const.ideal_named_scalar _ _ _ _ rfl
theorem scale_val : Named.named (F := Ideal) κ "scale" (φ := .f32) 0x3E38AA3B#32 = ((8⁻¹ * (Real.log 2)⁻¹ : ℝ) : EReal) :=
  IdealRules.named_const.ideal_named_scalar _ _ _ _ rfl
theorem ninf_val : Ideal.ofBits .f32 0xFF800000#32 = ⊥ := by simp [Ideal.ofBits, Ideal.ieee]

theorem at2 {a b : ℕ} {α : Type} (f : (⟨2, ![a, b]⟩ : Shape).Idx → α) {i i' : Fin a} {j j' : Fin b} (hi : i.val = i'.val) (hj : j.val = j'.val) :
    f (ix2 i j) = f (ix2 i' j') := by rw [Fin.ext hi, Fin.ext hj]
theorem at3 {a b c : ℕ} {α : Type} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  rw [Fin.ext hi, Fin.ext hj, Fin.ext hk]

/-- Column `l`'s token within the tile, and the row of its head's dimension `x`. -/
abbrev tok (l : Fin 512) : Fin 128 := ⟨l.val % 128, by omega⟩
/-- A value row, of the 72 the values are padded to. -/
abbrev up (y : Fin 64) : Fin 72 := ⟨y.val, by omega⟩
/-- The column of a key that marks its block. -/
abbrev tag (x : Fin 8) : Fin 128 := ⟨64 + x.val, by omega⟩
abbrev qrow (l : Fin 512) (x : Fin 128) (h : x.val < 64) : Fin 256 := ⟨64 * (l.val / 128) + x.val, by omega⟩

theorem q305 (X : Vec Ideal S256x128 .f32) (x : Fin 128) (l : Fin 512) :
    k0_pay305 X (ix2 x l) = if h : x.val < 64 then X (ix2 (qrow l x h) (tok l)) * ((8⁻¹ * (Real.log 2)⁻¹ : ℝ) : EReal) else 0 := by
  pointwise [k0_pay305, k0_pay304]
  rw [scale_val]
  generalize ((8⁻¹ * (Real.log 2)⁻¹ : ℝ) : EReal) = c
  by_cases h : x.val < 64
  · rw [dif_pos h, dif_pos h]
    have key : ∀ {u v : EReal}, u = v → u * c = v * c := fun e => by rw [e]
    by_cases h1 : l.val < 128
    · rw [dif_pos h1]; exact key (at2 X (by simp only []; omega) (by simp only []; omega))
    rw [dif_neg h1]
    by_cases h2 : l.val - 128 < 128
    · rw [dif_pos h2]; exact key (at2 X (by simp only []; omega) (by simp only []; omega))
    rw [dif_neg h2]
    by_cases h3 : l.val - 128 - 128 < 128
    · rw [dif_pos h3]; exact key (at2 X (by simp only []; omega) (by simp only []; omega))
    rw [dif_neg h3]; exact key (at2 X (by simp only []; omega) (by simp only []; omega))
  · rw [dif_neg h, dif_neg h]
theorem q307 (X : Vec Ideal S256x128 .f32) (x : Fin 128) (l : Fin 512) :
    k0_pay307 X (ix2 x l) = if h : x.val < 64 then X (ix2 (qrow l x h) (tok l)) * ((8⁻¹ * (Real.log 2)⁻¹ : ℝ) : EReal) else 0 := by
  pointwise [k0_pay307, k0_pay306]
  rw [scale_val]
  generalize ((8⁻¹ * (Real.log 2)⁻¹ : ℝ) : EReal) = c
  by_cases h : x.val < 64
  · rw [dif_pos h, dif_pos h]
    have key : ∀ {u v : EReal}, u = v → u * c = v * c := fun e => by rw [e]
    by_cases h1 : l.val < 128
    · rw [dif_pos h1]; exact key (at2 X (by simp only []; omega) (by simp only []; omega))
    rw [dif_neg h1]
    by_cases h2 : l.val - 128 < 128
    · rw [dif_pos h2]; exact key (at2 X (by simp only []; omega) (by simp only []; omega))
    rw [dif_neg h2]
    by_cases h3 : l.val - 128 - 128 < 128
    · rw [dif_pos h3]; exact key (at2 X (by simp only []; omega) (by simp only []; omega))
    rw [dif_neg h3]; exact key (at2 X (by simp only []; omega) (by simp only []; omega))
  · rw [dif_neg h, dif_neg h]
theorem m300 (X : Vec Ideal S640x128 .f32) (n : Fin 640) (l : Fin 512) : k0_pay300 X (ix2 n l) = X (ix2 n (tok l)) := by
  pointwise [k0_pay300]
  split_ifs <;> (refine at2 X ?_ ?_ <;> simp only [] <;> omega)
theorem m301 (X : Vec Ideal S128x128 .f32) (n : Fin 128) (l : Fin 512) : k0_pay301 X (ix2 n l) = X (ix2 n (tok l)) := by
  pointwise [k0_pay301]
  split_ifs <;> (refine at2 X ?_ ?_ <;> simp only [] <;> omega)

/-! The scores under a mask, column by column. -/

theorem p331 (d : Vec Ideal S128x512 .f32) (q : Vec Ideal S128x512 .bf16) (k : Vec Ideal S1x128x128 .bf16) (l : Fin 512) :
    k0_pay331 d (k0_pay327 q k) (ix2 0 l)
      = Finset.fold max (Ideal.ofBits .f32 0xFF800000#32) (fun n : Fin 128 => ∑ x, k (ix3 0 n x) * q (ix2 x l) + d (ix2 n l)) Finset.univ := by
  pointwise [k0_pay331, k0_pay327, k0_pay328]
theorem p334 (d : Vec Ideal S128x512 .f32) (q : Vec Ideal S128x512 .bf16) (k : Vec Ideal S1x128x128 .bf16) (l : Fin 512) :
    k0_pay334 d q k (ix2 0 l)
      = Finset.fold max (Ideal.ofBits .f32 0xFF800000#32) (fun n : Fin 128 => ∑ x, k (ix3 0 n x) * q (ix2 x l) + d (ix2 n l)) Finset.univ := by
  pointwise [k0_pay334, k0_pay329]
theorem p332 (d : Vec Ideal S128x512 .f32) (q : Vec Ideal S128x512 .bf16) (k : Vec Ideal S1x128x128 .bf16) (v : Vec Ideal S1x72x128 .bf16)
    (y : Fin 72) (l : Fin 512) :
    k0_pay332 d (k0_pay327 q k) v (ix2 y l)
      = ∑ n : Fin 128, v (ix3 0 y n) * Ideal.exp2 (∑ x, k (ix3 0 n x) * q (ix2 x l) + d (ix2 n l)
          - Finset.fold max (Ideal.ofBits .f32 0xFF800000#32) (fun n : Fin 128 => ∑ x, k (ix3 0 n x) * q (ix2 x l) + d (ix2 n l)) Finset.univ) := by
  pointwise [k0_pay332, k0_pay331, k0_pay327, k0_pay328]
  rfl
theorem p335 (d : Vec Ideal S128x512 .f32) (q : Vec Ideal S128x512 .bf16) (k : Vec Ideal S1x128x128 .bf16) (v : Vec Ideal S1x72x128 .bf16)
    (y : Fin 72) (l : Fin 512) :
    k0_pay335 (k0_pay329 d q k) (k0_pay334 d q k) v (ix2 y l)
      = ∑ n : Fin 128, v (ix3 0 y n) * Ideal.exp2 (∑ x, k (ix3 0 n x) * q (ix2 x l) + d (ix2 n l)
          - Finset.fold max (Ideal.ofBits .f32 0xFF800000#32) (fun n : Fin 128 => ∑ x, k (ix3 0 n x) * q (ix2 x l) + d (ix2 n l)) Finset.univ) := by
  pointwise [k0_pay335, k0_pay334, k0_pay329]
  rfl
theorem p333 (d : Vec Ideal S640x512 .f32) (q : Vec Ideal S128x512 .bf16) (k : Vec Ideal S1x640x128 .bf16) (v : Vec Ideal S1x72x640 .bf16)
    (y : Fin 64) (l : Fin 512) :
    k0_pay333 d q k v (ix2 y l)
      = Ideal.div (∑ n : Fin 640, v (ix3 0 (up y) n) * Ideal.exp2 (∑ x, k (ix3 0 n x) * q (ix2 x l) + d (ix2 n l)
          - Finset.fold max (Ideal.ofBits .f32 0xFF800000#32) (fun n : Fin 640 => ∑ x, k (ix3 0 n x) * q (ix2 x l) + d (ix2 n l)) Finset.univ))
        (∑ n : Fin 640, v (ix3 0 64 n) * Ideal.exp2 (∑ x, k (ix3 0 n x) * q (ix2 x l) + d (ix2 n l)
          - Finset.fold max (Ideal.ofBits .f32 0xFF800000#32) (fun n : Fin 640 => ∑ x, k (ix3 0 n x) * q (ix2 x l) + d (ix2 n l)) Finset.univ)) := by
  pointwise [k0_pay333]
  rfl
theorem p336 (d : Vec Ideal S640x512 .f32) (q : Vec Ideal S128x512 .bf16) (k : Vec Ideal S1x640x128 .bf16) (v : Vec Ideal S1x72x640 .bf16)
    (y : Fin 64) (l : Fin 512) :
    k0_pay336 (k0_pay330 d q k) v (ix2 y l)
      = Ideal.div (∑ n : Fin 640, v (ix3 0 (up y) n) * Ideal.exp2 (∑ x, k (ix3 0 n x) * q (ix2 x l) + d (ix2 n l)
          - Finset.fold max (Ideal.ofBits .f32 0xFF800000#32) (fun n : Fin 640 => ∑ x, k (ix3 0 n x) * q (ix2 x l) + d (ix2 n l)) Finset.univ))
        (∑ n : Fin 640, v (ix3 0 64 n) * Ideal.exp2 (∑ x, k (ix3 0 n x) * q (ix2 x l) + d (ix2 n l)
          - Finset.fold max (Ideal.ofBits .f32 0xFF800000#32) (fun n : Fin 640 => ∑ x, k (ix3 0 n x) * q (ix2 x l) + d (ix2 n l)) Finset.univ)) := by
  pointwise [k0_pay336, k0_pay330]
  rfl

/-! The past's chunks, all of it masked. -/

/-- Every element of the mask that the selection leaves is the mask's constant, where the past is empty. -/
theorem p299 (i : grid0.Coords) (hi : (i 1).val = 0) : (k0_pay299 i : FVec Ideal S256x128 .f32) = fun _ => (⊥ : EReal) := by
  funext z
  rw [show z = ix2 (z 0) (z 1) from funext fun a => by fin_cases a <;> rfl]
  pointwise [k0_pay299]
  rw [mask_val, hi]
  have h : ∀ n : Fin 256, IntOp.cmpi .slt (IntOp.muli (BitVec.ofNat 32 n.val) 64#32) (Scalar.muli (BitVec.ofNat 32 0) 128#32) = 0#1 := by
    decide
  rw [h (z 0)]; rfl
theorem p325 (i : grid0.Coords) (hi : (i 1).val = 0) (a b) (c) (d) (z : S1x256x512.Idx) :
    k0_pay325 (F := Ideal) (k0_pay299 i) a b c d z = (⊥ : EReal) := by
  rw [p299 i hi, show z = ix3 (z 0) (z 1) (z 2) from funext fun a => by fin_cases a <;> rfl]
  pointwise [k0_pay325]
  simp only [mask_val, ite_self, dite_eq_ite]
theorem p326 (i : grid0.Coords) (hi : (i 1).val = 0) (a b) (c) (d) (z : S1x256x512.Idx) :
    k0_pay326 (F := Ideal) (k0_pay299 i) a b c d z = (⊥ : EReal) := by
  rw [p299 i hi, show z = ix3 (z 0) (z 1) (z 2) from funext fun a => by fin_cases a <;> rfl]
  pointwise [k0_pay326]
  simp only [mask_val, ite_self, dite_eq_ite]

/-- A chunk's scores, where the rows of the mask are `⊥` and each key has a one against one of them. -/
theorem chunk_bot (k : Fin 128 → EReal) (b : Fin 128 → EReal) (x : Fin 128) (hk : k x = 1) (hb : b x = ⊥) : ∑ x, k x * b x = ⊥ :=
  sum_eq_bot _ _ x (Finset.mem_univ _) (by rw [hk, hb, one_mul])

section
variable (q : Vec Ideal S64x512 .bf16) (k : Vec Ideal S1x512x128 .bf16) (b : Vec Ideal S1x8x512 .f32)
  (hb : ∀ z, b z = (⊥ : EReal)) (hk : ∀ n : Fin 512, ∃ x : Fin 8, k (ix3 0 n (tag x)) = (1 : EReal))
include hb hk

theorem p337 (n : Fin 512) (l : Fin 512) : k0_pay337 k0_pay302 k0_pay303 q k b (ix2 n l) = (⊥ : EReal) := by
  obtain ⟨x, hx⟩ := hk n
  pointwise [k0_pay337]
  refine chunk_bot _ _ (tag x) hx ?_
  rw [dif_neg (by simp only []; omega), dif_pos (by simp only []; omega), dif_pos (by simp only []; omega), hb]
theorem p340 (n : Fin 512) (l : Fin 512) : k0_pay340 k0_pay302 k0_pay303 q k b (ix2 n l) = (⊥ : EReal) := p337 q k b hb hk n l
theorem p347 (n : Fin 512) (l : Fin 512) : k0_pay347 k0_pay302 k0_pay303 q k b (ix2 n l) = (⊥ : EReal) := p337 q k b hb hk n l
theorem p350 (n : Fin 512) (l : Fin 512) : k0_pay350 k0_pay302 k0_pay303 q k b (ix2 n l) = (⊥ : EReal) := p337 q k b hb hk n l

theorem p339 (l : Fin 512) : k0_pay339 k0_pay302 k0_pay303 q k b (ix2 0 l) = (⊥ : EReal) := by
  pointwise [k0_pay339]
  exact fold_bot _ ninf_val _ fun n => p337 q k b hb hk n l
theorem p342 (l : Fin 512) : k0_pay342 k0_pay302 k0_pay303 q k b (ix2 0 l) = (⊥ : EReal) := p339 q k b hb hk l
theorem p349 (l : Fin 512) : k0_pay349 k0_pay302 k0_pay303 q k b (ix2 0 l) = (⊥ : EReal) := p339 q k b hb hk l
theorem p352 (l : Fin 512) : k0_pay352 k0_pay302 k0_pay303 q k b (ix2 0 l) = (⊥ : EReal) := p339 q k b hb hk l

/-- The running maximum stays, -/
theorem p343 (m : Vec Ideal S1x512 .f32) (l : Fin 512) : k0_pay343 k0_pay302 k0_pay303 q m k b (ix2 0 l) = m (ix2 0 l) := by
  pointwise [k0_pay343]
  rw [p339 q k b hb hk l]; exact max_bot_right _
theorem p353 (m : Vec Ideal S1x512 .f32) (l : Fin 512) : k0_pay353 k0_pay302 k0_pay303 q m k b (ix2 0 l) = m (ix2 0 l) :=
  p343 q k b hb hk m l

/-- and the weights of the past are zero. -/
theorem p345 (m : Vec Ideal S1x512 .f32) (n l : Fin 512) :
    k0_pay345 (k0_pay344 k0_pay302 k0_pay303 q m k b (k0_pay338 k0_pay302 k0_pay303 q k b)) (ix2 n l) = (0 : EReal) := by
  pointwise [k0_pay345, k0_pay344, k0_pay338]
  rw [p337 q k b hb hk n l]
  exact congrArg Ideal.exp2 (EReal.bot_sub _)
theorem p354 (m : Vec Ideal S1x512 .f32) (n l : Fin 512) :
    k0_pay354 m (k0_pay348 k0_pay302 k0_pay303 q k b) (ix2 n l) = (0 : EReal) := by
  pointwise [k0_pay354, k0_pay348]
  rw [p347 q k b hb hk n l]
  exact congrArg Ideal.exp2 (EReal.bot_sub _)
theorem p370 (m c : Vec Ideal S1x512 .f32) (n l : Fin 512) :
    k0_pay370 m c (k0_pay341 k0_pay302 k0_pay303 q k b) (ix2 n l) = (0 : EReal) := by
  pointwise [k0_pay370, k0_pay341]
  rw [p340 q k b hb hk n l]
  exact congrArg Ideal.exp2 (EReal.bot_sub _)
theorem p380 (m c : Vec Ideal S1x512 .f32) (n l : Fin 512) :
    k0_pay380 m c (k0_pay351 k0_pay302 k0_pay303 q k b) (ix2 n l) = (0 : EReal) := by
  pointwise [k0_pay380, k0_pay351]
  rw [p350 q k b hb hk n l]
  exact congrArg Ideal.exp2 (EReal.bot_sub _)
end

theorem exp2_self (x : EReal) (μ : ℝ) (h : x = (μ : EReal)) : Ideal.exp2 (x - x) = 1 := by
  rw [h, ← EReal.coe_sub, sub_self, Ideal.exp2_coe]
  show ((((2 : ℝ) ^ (0 : ℝ)) : ℝ) : EReal) = 1
  rw [Real.rpow_zero]; rfl

/-- A chunk whose weights are zero leaves the accumulator. -/
theorem p368 (m m' : Vec Ideal S1x512 .f32) (acc : Vec Ideal S72x512 .f32) (v : Vec Ideal S1x72x512 .bf16) (P : Vec Ideal S512x512 .bf16)
    (l : Fin 512) (μ : ℝ) (hm : m (ix2 0 l) = (μ : EReal)) (hm' : m' (ix2 0 l) = m (ix2 0 l)) (hP : ∀ n : Fin 512, P (ix2 n l) = (0 : EReal)) (y : Fin 72) :
    k0_pay368 (k0_pay346 m m') acc v P (ix2 y l) = acc (ix2 y l) := by
  pointwise [k0_pay368, k0_pay346]
  simp only [hP, hm', mul_zero, Finset.sum_const_zero, add_zero]
  exact (congrArg (· * acc (ix2 y l)) (exp2_self _ μ hm)).trans (one_mul _)
theorem p378 (m m' : Vec Ideal S1x512 .f32) (acc : Vec Ideal S72x512 .f32) (v : Vec Ideal S1x72x512 .bf16) (P : Vec Ideal S512x512 .bf16)
    (l : Fin 512) (μ : ℝ) (hm : m (ix2 0 l) = (μ : EReal)) (hm' : m' (ix2 0 l) = m (ix2 0 l)) (hP : ∀ n : Fin 512, P (ix2 n l) = (0 : EReal)) (y : Fin 72) :
    k0_pay378 (k0_pay355 m m') acc v P (ix2 y l) = acc (ix2 y l) := p368 m m' acc v P l μ hm hm' hP y
theorem p369 (m c : Vec Ideal S1x512 .f32) (l : Fin 512) (hc : c (ix2 0 l) = (⊥ : EReal)) : k0_pay369 (F := Ideal) m c (ix2 0 l) = m (ix2 0 l) := by
  pointwise [k0_pay369]
  rw [hc]; exact max_bot_right _
theorem p379 (m c : Vec Ideal S1x512 .f32) (l : Fin 512) (hc : c (ix2 0 l) = (⊥ : EReal)) : k0_pay379 (F := Ideal) m c (ix2 0 l) = m (ix2 0 l) := p369 m c l hc
theorem p371 (m m' : Vec Ideal S1x512 .f32) (acc : Vec Ideal S72x512 .f32) (v : Vec Ideal S1x72x512 .bf16) (P : Vec Ideal S512x512 .bf16)
    (l : Fin 512) (μ : ℝ) (hm : m (ix2 0 l) = (μ : EReal)) (hm' : m' (ix2 0 l) = m (ix2 0 l)) (hP : ∀ n : Fin 512, P (ix2 n l) = (0 : EReal)) (y : Fin 64) :
    k0_pay371 m acc m' v P (ix2 y l) = Ideal.div (acc (ix2 (up y) l)) (acc (ix2 64 l)) := by
  pointwise [k0_pay371]
  simp only [hP, hm', mul_zero, Finset.sum_const_zero, add_zero]
  have e : FloatOps.exp2 (F := Ideal) (φ := .f32) (m (ix2 0 l) - m (ix2 0 l)) = (1 : EReal) := exp2_self _ μ hm
  simp only [e, one_mul]
theorem p381 (m m' : Vec Ideal S1x512 .f32) (acc : Vec Ideal S72x512 .f32) (v : Vec Ideal S1x72x512 .bf16) (P : Vec Ideal S512x512 .bf16)
    (l : Fin 512) (μ : ℝ) (hm : m (ix2 0 l) = (μ : EReal)) (hm' : m' (ix2 0 l) = m (ix2 0 l)) (hP : ∀ n : Fin 512, P (ix2 n l) = (0 : EReal)) (y : Fin 64) :
    k0_pay381 m acc m' v P (ix2 y l) = Ideal.div (acc (ix2 (up y) l)) (acc (ix2 64 l)) := p371 m m' acc v P l μ hm hm' hP y

/-! The compressed branch, for a token before the first compressed block's end: its normalizer is zero. -/

theorem t297 (i : grid0.Coords) (hi : (i 1).val = 0) (l : Fin 512) : k0_pay297 i (ix2 0 l) = BitVec.ofNat 32 (l.val % 128) := by
  have ad : ∀ n, IntOp.addi (Scalar.muli 0#32 128#32) (BitVec.ofNat 32 n) = BitVec.ofNat 32 n := fun n => by
    show Scalar.muli 0#32 128#32 + BitVec.ofNat 32 n = _
    rw [show Scalar.muli 0#32 128#32 = 0#32 from rfl, BitVec.zero_add]
  pointwise [k0_pay297, k0_pay296]
  rw [hi]
  simp only [BitVec.ofNat_eq_ofNat, ad]
  split_ifs <;> (congr 1; omega)
theorem early (n : ℕ) (hn : n < 31) (a b : EReal) : Scalar.select (IntOp.cmpi .sge (BitVec.ofNat 32 n) 31#32) a b = b := by
  have e : IntOp.cmpi .sge (BitVec.ofNat 32 n) 31#32 = 0#1 := by interval_cases n <;> decide
  rw [e]; rfl
theorem p49 (i : grid0.Coords) (hi : (i 1).val = 0) (a b : Vec Ideal S1x512 .f32) (c : Vec Ideal S1x128x512 .f32) (l : Fin 512) (hl : l.val % 128 < 31) :
    k0_pay49 (k0_pay297 i) a b c (ix2 0 l) = (0 : EReal) := by
  pointwise [k0_pay49]
  rw [t297 i hi l]
  exact early _ hl _ _
theorem p52 (i : grid0.Coords) (hi : (i 1).val = 0) (a : Vec Ideal S1x512 .f32) (l : Fin 512) (hl : l.val % 128 < 31) :
    k0_pay52 (F := Ideal) (k0_pay50 (k0_pay297 i)) a (Scalar.ofBits .f32 0x00000000#32) (ix2 0 l) = (0 : EReal) := by
  pointwise [k0_pay52, k0_pay50]
  rw [t297 i hi l]
  exact early _ hl _ _

section
variable (R : Vec Ideal S1x512 .f32) (l : Fin 512) (hR : R (ix2 0 l) = (0 : EReal)) (A : Vec Ideal S64x512 .f32)
  (E : Vec Ideal S1x128x512 .f32) (C : Vec Ideal S1x64x128 .bf16) (y : Fin 64) (hA : A (ix2 y l) = (0 : EReal))
include hR

theorem p59 : k0_pay59 R E C (ix2 y l) = (0 : EReal) := by
  pointwise [k0_pay59, k0_pay58]
  simp only [hR, mul_zero, Finset.sum_const_zero, add_zero]
include hA
theorem p64 : k0_pay64 R A E C (ix2 y l) = (0 : EReal) := by
  pointwise [k0_pay64, k0_pay63]
  simp only [hR, hA, mul_zero, Finset.sum_const_zero, add_zero]
theorem p67 : k0_pay67 R A E C (ix2 y l) = (0 : EReal) := by
  pointwise [k0_pay67, k0_pay66]
  simp only [hR, hA, mul_zero, Finset.sum_const_zero, add_zero]
theorem p72 : k0_pay72 R A E C (ix2 y l) = (0 : EReal) := by
  pointwise [k0_pay72, k0_pay71]
  simp only [hR, hA, mul_zero, Finset.sum_const_zero, add_zero]
theorem p75 : k0_pay75 R A E C (ix2 y l) = (0 : EReal) := by
  pointwise [k0_pay75, k0_pay74]
  simp only [hR, hA, mul_zero, Finset.sum_const_zero, add_zero]
theorem p80 : k0_pay80 R A E C (ix2 y l) = (0 : EReal) := by
  pointwise [k0_pay80, k0_pay79]
  simp only [hR, hA, mul_zero, Finset.sum_const_zero, add_zero]
theorem p83 : k0_pay83 R A E C (ix2 y l) = (0 : EReal) := by
  pointwise [k0_pay83, k0_pay82]
  simp only [hR, hA, mul_zero, Finset.sum_const_zero, add_zero]
theorem p88 : k0_pay88 R A E C (ix2 y l) = (0 : EReal) := by
  pointwise [k0_pay88, k0_pay87]
  simp only [hR, hA, mul_zero, Finset.sum_const_zero, add_zero]
end
theorem p53 (y : Fin 64) (l : Fin 512) : k0_pay53 (F := Ideal) (ix2 y l) = (0 : EReal) := by
  pointwise [k0_pay53]

/-! The three branches combined, at row `r` of a group's block and token `t`. -/

abbrev dd (r : Fin 256) : Fin 64 := ⟨r.val % 64, by omega⟩
abbrev col (r : Fin 256) (t : Fin 128) : Fin 512 := ⟨r.val / 64 * 128 + t.val, by omega⟩
abbrev gt (r : Fin 256) (b : Fin 3) : Fin 16 := ⟨3 * (r.val / 64) + b.val, by omega⟩

theorem comb3 {a b c d e f a' b' c' d' e' f' : EReal} (h1 : a = a') (h2 : b = b') (h3 : c = c') (h4 : d = d') (h5 : e = e') (h6 : f = f') :
    a * b + c * d + e * f = a' * b' + c' * d' + e' * f' := by
  rw [h1, h2, h3, h4, h5, h6]
theorem p377 (A W : Vec Ideal S64x512 .f32) (m : Vec Ideal S1x512 .f32) (acc : Vec Ideal S72x512 .f32) (m' : Vec Ideal S1x512 .f32) (v : Vec Ideal S1x72x512 .bf16)
    (P : Vec Ideal S512x512 .bf16) (G : Vec Ideal S1x16x128 .f32) (r : Fin 256) (t : Fin 128) :
    k0_pay377 A W (k0_pay371 m acc m' v P) (k0_pay372 G) (k0_pay373 A W m acc m' v P G) (k0_pay374 A W m acc m' v P G) (k0_pay375 A) (k0_pay376 G) (ix2 r t)
      = A (ix2 (dd r) (col r t)) * G (ix3 0 (gt r 0) t) + k0_pay371 m acc m' v P (ix2 (dd r) (col r t)) * G (ix3 0 (gt r 1) t)
        + W (ix2 (dd r) (col r t)) * G (ix3 0 (gt r 2) t) := by
  pointwise [k0_pay377, k0_pay372, k0_pay373, k0_pay374, k0_pay375, k0_pay376]
  by_cases h1 : r.val < 64
  · rw [dif_pos h1]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h1]
  by_cases h2 : r.val - 64 < 64
  · rw [dif_pos h2]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h2]
  by_cases h3 : r.val - 64 - 64 < 64
  · rw [dif_pos h3]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h3]
  exact comb3 (at2 A (by simp only []; omega) (by simp only []; omega)) (at3 G rfl (by simp only []; omega) rfl) (at2 _ (by simp only []; omega) (by simp only []; omega))
    (at3 G rfl (by simp only []; omega) rfl) (at2 W (by simp only []; omega) (by simp only []; omega)) (at3 G rfl (by simp only []; omega) rfl)
theorem p1 (A W : Vec Ideal S64x512 .f32) (m : Vec Ideal S1x512 .f32) (acc : Vec Ideal S72x512 .f32) (m' : Vec Ideal S1x512 .f32) (v : Vec Ideal S1x72x512 .bf16)
    (P : Vec Ideal S512x512 .bf16) (G : Vec Ideal S1x16x128 .f32) (r : Fin 256) (t : Fin 128) :
    k0_pay1 A W (k0_pay381 m acc m' v P) (k0_pay382 G) (k0_pay383 A W m acc m' v P G) (k0_pay384 A W m acc m' v P G) (k0_pay385 A) (k0_pay386 G) (ix2 r t)
      = A (ix2 (dd r) (col r t)) * G (ix3 0 (gt r 0) t) + k0_pay381 m acc m' v P (ix2 (dd r) (col r t)) * G (ix3 0 (gt r 1) t)
        + W (ix2 (dd r) (col r t)) * G (ix3 0 (gt r 2) t) := by
  pointwise [k0_pay1, k0_pay382, k0_pay383, k0_pay384, k0_pay385, k0_pay386]
  by_cases h1 : r.val < 64
  · rw [dif_pos h1]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h1]
  by_cases h2 : r.val - 64 < 64
  · rw [dif_pos h2]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h2]
  by_cases h3 : r.val - 64 - 64 < 64
  · rw [dif_pos h3]
    exact comb3 (at2 A (by simp only []; omega) (by simp only []; omega)) (at3 G rfl (by simp only []; omega) rfl) (at2 _ (by simp only []; omega) (by simp only []; omega))
      (at3 G rfl (by simp only []; omega) rfl) (at2 W (by simp only []; omega) (by simp only []; omega)) (at3 G rfl (by simp only []; omega) rfl)
  rw [dif_neg h3]
  exact comb3 (at2 A (by simp only []; omega) (by simp only []; omega)) (at3 G rfl (by simp only []; omega) rfl) (at2 _ (by simp only []; omega) (by simp only []; omega))
    (at3 G rfl (by simp only []; omega) rfl) (at2 W (by simp only []; omega) (by simp only []; omega)) (at3 G rfl (by simp only []; omega) rfl)

/-- A score of two padded columns: the queries hold the scale. -/
theorem score (k q : Fin 128 → EReal) (kr qr : Fin 64 → ℝ) (hk : ∀ d : Fin 64, k ⟨d.val, by omega⟩ = ((kr d : ℝ) : EReal))
    (hq : ∀ d : Fin 64, q ⟨d.val, by omega⟩ = ((qr d : ℝ) : EReal) * ((8⁻¹ * (Real.log 2)⁻¹ : ℝ) : EReal)) (hz : ∀ x : Fin 128, 64 ≤ x.val → q x = 0) :
    ∑ x : Fin 128, k x * q x = (((∑ d, qr d * 8⁻¹ * kr d) / Real.log 2 : ℝ) : EReal) := by
  have e : (∑ x : Fin 128, k x * q x) = ∑ x : Fin 64, k (Fin.castAdd 64 x) * q (Fin.castAdd 64 x) + ∑ x : Fin 64, k (Fin.natAdd 64 x) * q (Fin.natAdd 64 x) :=
    Fin.sum_univ_add (a := 64) (b := 64) fun x => k x * q x
  rw [e, Finset.sum_eq_zero (f := fun x : Fin 64 => k (Fin.natAdd 64 x) * q (Fin.natAdd 64 x)) fun x _ => by
    rw [hz _ (by show 64 ≤ 64 + x.val; omega), mul_zero], add_zero, Finset.sum_div, coe_sum]
  refine Finset.sum_congr rfl fun d _ => ?_
  have e1 : k (Fin.castAdd 64 d) = ((kr d : ℝ) : EReal) := hk d
  have e2 := hq d
  have e3 : q (Fin.castAdd 64 d) = ((qr d : ℝ) : EReal) * ((8⁻¹ * (Real.log 2)⁻¹ : ℝ) : EReal) := e2
  rw [e1, e3, ← EReal.coe_mul, ← EReal.coe_mul]
  congr 1
  ring
end Cert.Proof.KernelIdeal

end
-- ==== Proof.Value.Cmp.lean ====
module

public import proofs.«01_k».proof.Proof.Value.Body
public import proofs.«01_k».proof.Proof.Value.Pay

@[expose] public section

noncomputable section

namespace Cert.Proof.KernelIdeal

open Cert.KernelIdeal Cert.KernelIdeal.Gen
open Idealize.ShloMosaic
open Idealize.ShloMosaic.TcCoe Idealize.ShloMosaic.Tactic
open Cert.Proof.Value

/-! The compressed branch's four chunks, the scores of the last three of them all `⊥`. -/

/-- A chunk's scores, the mask added. -/
def sc (q : Vec Ideal S128x512 .bf16) (M : Vec Ideal S128x128 .f32) (K : Vec Ideal S1x128x128 .bf16) (l : Fin 512) (n : Fin 128) : EReal :=
  ∑ x, K (ix3 0 n x) * q (ix2 x l) + M (ix2 n (tok l))

section
variable (q : Vec Ideal S128x512 .bf16) (M : Vec Ideal S128x128 .f32) (K : Vec Ideal S1x128x128 .bf16) (n : Fin 128) (l : Fin 512)

theorem p9 : k0_pay9 M (ix2 n l) = M (ix2 n (tok l)) := by
  pointwise [k0_pay9]
  split_ifs <;> (refine at2 M ?_ ?_ <;> simp only [] <;> omega)
theorem p2 : k0_pay2 M (ix2 n l) = M (ix2 n (tok l)) := p9 M n l
theorem p16 : k0_pay16 M (ix2 n l) = M (ix2 n (tok l)) := p9 M n l
theorem p22 : k0_pay22 M (ix2 n l) = M (ix2 n (tok l)) := p9 M n l
theorem s3 : k0_pay3 q M K (ix2 n l) = sc q M K l n := by
  pointwise [k0_pay3]
  rw [p2]; rfl
theorem s10 : k0_pay10 q (k0_pay9 M) K (ix2 n l) = sc q M K l n := by
  pointwise [k0_pay10]
  rw [p9]; rfl
theorem s6 : k0_pay6 q M K (ix2 n l) = sc q M K l n := s3 q M K n l
theorem s13 : k0_pay13 q (k0_pay9 M) K (ix2 n l) = sc q M K l n := s10 q M K n l
theorem s17 : k0_pay17 q M K (ix2 n l) = sc q M K l n := s3 q M K n l
theorem s19 : k0_pay19 q (k0_pay16 M) K (ix2 n l) = sc q M K l n := s10 q M K n l
theorem s23 : k0_pay23 q M K (ix2 n l) = sc q M K l n := s3 q M K n l
theorem s26 : k0_pay26 q M K (ix2 n l) = sc q M K l n := s3 q M K n l
theorem s4 : k0_pay4 q M K (ix3 0 n l) = sc q M K l n := by
  pointwise [k0_pay4]
  exact s3 q M K n l
theorem s7 : k0_pay7 q M K (ix3 0 n l) = sc q M K l n := s4 q M K n l
theorem s18 : k0_pay18 q M K (ix3 0 n l) = sc q M K l n := s4 q M K n l
theorem s24 : k0_pay24 q M K (ix3 0 n l) = sc q M K l n := s4 q M K n l
theorem s27 : k0_pay27 (k0_pay26 q M K) (ix3 0 n l) = sc q M K l n := by
  pointwise [k0_pay27]
  exact s26 q M K n l
theorem s11 : k0_pay11 q (k0_pay9 M) K (ix3 0 n l) = sc q M K l n := by
  pointwise [k0_pay11]
  exact s10 q M K n l
theorem s14 : k0_pay14 q (k0_pay9 M) K (ix3 0 n l) = sc q M K l n := by
  pointwise [k0_pay14]
  exact s13 q M K n l
theorem s20 : k0_pay20 q (k0_pay16 M) K (ix3 0 n l) = sc q M K l n := by
  pointwise [k0_pay20]
  exact s19 q M K n l
end

theorem fold_const : Finset.fold max (Ideal.ofBits .f32 0xFF800000#32) (fun _ : Fin 128 => (⊥ : EReal)) Finset.univ = ⊥ := fold_bot _ ninf_val _ fun _ => rfl
theorem max_bots (x : EReal) : max (max (max (max ⊥ x) ⊥) ⊥) ⊥ = x := by simp only [max_bot_right, max_bot_left]

/-- A chunk's scores, for a token `T` that sees the compressed blocks which end at or before it, -/
theorem sc_row (q : Vec Ideal S128x512 .bf16) (M : Vec Ideal S128x128 .f32) (K : Vec Ideal S1x128x128 .bf16) (l : Fin 512) (T : ℕ) (kr : ℕ → Fin 64 → ℝ) (qr : Fin 64 → ℝ)
    (hk : ∀ (n : Fin 128) (d : Fin 64), K (ix3 0 n ⟨d.val, by omega⟩) = ((kr n.val d : ℝ) : EReal))
    (hq : ∀ d : Fin 64, q (ix2 ⟨d.val, by omega⟩ l) = ((qr d : ℝ) : EReal) * ((8⁻¹ * (Real.log 2)⁻¹ : ℝ) : EReal)) (hz : ∀ x : Fin 128, 64 ≤ x.val → q (ix2 x l) = (0 : EReal))
    (hm : ∀ n : Fin 128, M (ix2 n (tok l)) = if 16 * n.val + 31 ≤ T then (0 : EReal) else ⊥) (n : Fin 128) :
    sc q M K l n = if n.val < (T - 15) / 16 then (((∑ d, qr d * 8⁻¹ * kr n.val d) / Real.log 2 : ℝ) : EReal) else ⊥ := by
  unfold sc
  rw [score (fun x => K (ix3 0 n x)) (fun x => q (ix2 x l)) (kr n.val) qr (hk n) hq hz, hm n]
  by_cases h : 16 * n.val + 31 ≤ T
  · rw [if_pos h, if_pos (by omega), add_zero]
  · rw [if_neg h, if_neg (by omega), EReal.add_bot]
/-- and one that it sees nothing of. -/
theorem sc_bot (q : Vec Ideal S128x512 .bf16) (M : Vec Ideal S128x128 .f32) (K : Vec Ideal S1x128x128 .bf16) (l : Fin 512) (n : Fin 128)
    (hm : M (ix2 n (tok l)) = (⊥ : EReal)) : sc q M K l n = ⊥ := by
  unfold sc
  rw [hm, EReal.add_bot]

/-- The compressed branch's mean. -/
theorem sc_mean (x v : Fin 128 → EReal) (T : ℕ) (h31 : 31 ≤ T) (hT : T < 2047) (s : ℕ → ℝ) (V : ℕ → EReal)
    (hx : ∀ n : Fin 128, x n = if n.val < (T - 15) / 16 then ((s n.val / Real.log 2 : ℝ) : EReal) else ⊥) (hv : ∀ n : Fin 128, v n = V n.val) (b : EReal) (hb : b = ⊥) :
    ∑ n, v n * (Ideal.exp2 (x n - Finset.fold max b x Finset.univ) * Ideal.div 1 (∑ n, Ideal.exp2 (x n - Finset.fold max b x Finset.univ))) = mean ((T - 15) / 16) s V := by
  have hn : 0 < (T - 15) / 16 := by omega
  have hinj : ∀ z z' : Fin 128, z.val < (T - 15) / 16 → z.val = z'.val → z = z' := fun _ _ _ e => Fin.ext e
  have hsur : ∀ p < (T - 15) / 16, ∃ z : Fin 128, z.val = p := fun p hp => ⟨⟨p, by omega⟩, rfl⟩
  obtain ⟨μ, hμ⟩ := max_real _ hn (fun n : Fin 128 => n.val) hsur (fun k => s k / Real.log 2) x b hb hx
  rw [hμ]
  exact mean_weights _ hn (fun n : Fin 128 => n.val) hinj hsur s V x v μ hx (fun n _ => hv n)

section
variable (q : Vec Ideal S128x512 .bf16) (M0 M1 M2 M3 : Vec Ideal S128x128 .f32) (K0 K1 K2 K3 : Vec Ideal S1x128x128 .bf16) (l : Fin 512)
  (h1 : ∀ n, sc q M1 K1 l n = ⊥) (h2 : ∀ n, sc q M2 K2 l n = ⊥) (h3 : ∀ n, sc q M3 K3 l n = ⊥)
include h1 h2 h3

/-- The maximum over the four chunks is the first one's. -/
theorem max0 : k0_pay25 q (k0_pay12 q (k0_pay5 q M0 K0) (k0_pay9 M1) K1) (k0_pay17 q M2 K2) M3 K3 (ix2 0 l)
    = Finset.fold max (Ideal.ofBits .f32 0xFF800000#32) (sc q M0 K0 l) Finset.univ := by
  have e1 : ∀ n, k0_pay10 q (k0_pay9 M1) K1 (ix2 n l) = (⊥ : EReal) := fun n => (s10 q M1 K1 n l).trans (h1 n)
  have e2 : ∀ n, k0_pay17 q M2 K2 (ix2 n l) = (⊥ : EReal) := fun n => (s17 q M2 K2 n l).trans (h2 n)
  have e3 : ∀ n, k0_pay23 q M3 K3 (ix2 n l) = (⊥ : EReal) := fun n => (s23 q M3 K3 n l).trans (h3 n)
  pointwise [k0_pay25, k0_pay12, k0_pay5]
  simp only [e1, e2, e3, s3, mask_val, fold_const]
  exact max_bots _
theorem max1 : k0_pay28 (k0_pay21 q (k0_pay15 q (k0_pay8 q M0 K0) (k0_pay9 M1) K1) (k0_pay16 M2) K2) (k0_pay26 q M3 K3) (ix2 0 l)
    = Finset.fold max (Ideal.ofBits .f32 0xFF800000#32) (sc q M0 K0 l) Finset.univ := by
  have e1 : ∀ n, k0_pay13 q (k0_pay9 M1) K1 (ix2 n l) = (⊥ : EReal) := fun n => (s13 q M1 K1 n l).trans (h1 n)
  have e2 : ∀ n, k0_pay19 q (k0_pay16 M2) K2 (ix2 n l) = (⊥ : EReal) := fun n => (s19 q M2 K2 n l).trans (h2 n)
  have e3 : ∀ n, k0_pay26 q M3 K3 (ix2 n l) = (⊥ : EReal) := fun n => (s26 q M3 K3 n l).trans (h3 n)
  pointwise [k0_pay28, k0_pay21, k0_pay15, k0_pay8]
  simp only [e1, e2, e3, s6, mask_val, fold_const]
  exact max_bots _
end

theorem late (n : ℕ) (h31 : 31 ≤ n) (hn : n < 128) (a b : EReal) : Scalar.select (IntOp.cmpi .sge (BitVec.ofNat 32 n) 31#32) a b = a := by
  have e : IntOp.cmpi .sge (BitVec.ofNat 32 n) 31#32 = 1#1 := by interval_cases n <;> decide
  rw [e]; rfl

section
variable (i : grid0.Coords) (hi : (i 1).val = 0) (m : Vec Ideal S1x512 .f32) (v0 v1 v2 v3 : Vec Ideal S1x128x512 .f32) (C0 C1 C2 C3 : Vec Ideal S1x64x128 .bf16) (l : Fin 512)
  (h1 : ∀ n, v1 (ix3 0 n l) = (⊥ : EReal)) (h2 : ∀ n, v2 (ix3 0 n l) = (⊥ : EReal)) (h3 : ∀ n, v3 (ix3 0 n l) = (⊥ : EReal))

theorem p29 (n : Fin 128) (v : Vec Ideal S1x128x512 .f32) : k0_pay29 m v (ix2 n l) = Ideal.exp2 (v (ix3 0 n l) - m (ix2 0 l)) := by
  pointwise [k0_pay29]
  rfl
theorem p29_bot (n : Fin 128) (v : Vec Ideal S1x128x512 .f32) (h : ∀ n, v (ix3 0 n l) = (⊥ : EReal)) : k0_pay29 m v (ix2 n l) = (0 : EReal) := by
  rw [p29, h n]
  exact congrArg Ideal.exp2 (EReal.bot_sub _)
theorem p30 (n : Fin 128) (v : Vec Ideal S1x128x512 .f32) : k0_pay30 m v (ix3 0 n l) = Ideal.exp2 (v (ix3 0 n l) - m (ix2 0 l)) := by
  pointwise [k0_pay30]
  exact p29 m l n v
theorem p30_bot (n : Fin 128) (v : Vec Ideal S1x128x512 .f32) (h : ∀ n, v (ix3 0 n l) = (⊥ : EReal)) : k0_pay30 m v (ix3 0 n l) = (0 : EReal) := by
  rw [p30, h n]
  exact congrArg Ideal.exp2 (EReal.bot_sub _)

section
include hi h1 h2 h3
theorem norm0 (ht : 31 ≤ l.val % 128) : k0_pay49 (k0_pay297 i) m (k0_pay42 m (k0_pay31 m v0) (k0_pay35 m v1) v2) v3 (ix2 0 l)
    = Ideal.div 1 (∑ n : Fin 128, Ideal.exp2 (v0 (ix3 0 n l) - m (ix2 0 l))) := by
  have e1 : ∀ n : Fin 128, k0_pay35 m v1 (ix2 n l) = (0 : EReal) := fun n => p29_bot m l n v1 h1
  have e2 : ∀ n : Fin 128, k0_pay40 m v2 (ix2 n l) = (0 : EReal) := fun n => p29_bot m l n v2 h2
  have e3 : ∀ n : Fin 128, k0_pay45 m v3 (ix2 n l) = (0 : EReal) := fun n => p29_bot m l n v3 h3
  pointwise [k0_pay49, k0_pay42, k0_pay31]
  rw [t297 i hi l, late _ ht (by omega)]
  simp only [e1, e2, e3, p29, Finset.sum_const_zero, add_zero, zero_add]
theorem norm1 (a : Vec Ideal S1x512 .f32) (b : Vec Ideal S128x512 .f32) (hm : k0_pay28 (F := Ideal) a b = m) (ht : 31 ≤ l.val % 128) :
    k0_pay52 (k0_pay50 (k0_pay297 i)) (k0_pay51 m (k0_pay39 m (k0_pay34 a b v0) v1) (k0_pay43 m v2) v3) (Scalar.ofBits .f32 0x00000000#32) (ix2 0 l)
      = Ideal.div 1 (∑ n : Fin 128, Ideal.exp2 (v0 (ix3 0 n l) - m (ix2 0 l))) := by
  subst hm
  have e0 : ∀ n : Fin 128, k0_pay32 a b v0 (ix2 n l) = Ideal.exp2 (v0 (ix3 0 n l) - (k0_pay28 (F := Ideal) a b : Vec Ideal S1x512 .f32) (ix2 0 l)) := fun n => p29 (k0_pay28 (F := Ideal) a b) l n v0
  have e1 : ∀ n : Fin 128, k0_pay37 (k0_pay28 (F := Ideal) a b) v1 (ix2 n l) = (0 : EReal) := fun n => p29_bot _ l n v1 h1
  have e2 : ∀ n : Fin 128, k0_pay43 (k0_pay28 (F := Ideal) a b) v2 (ix2 n l) = (0 : EReal) := fun n => p29_bot _ l n v2 h2
  have e3 : ∀ n : Fin 128, k0_pay47 (k0_pay28 (F := Ideal) a b) v3 (ix2 n l) = (0 : EReal) := fun n => p29_bot _ l n v3 h3
  pointwise [k0_pay52, k0_pay50, k0_pay51, k0_pay39, k0_pay34]
  rw [t297 i hi l, late _ ht (by omega)]
  simp only [e0, e1, e2, e3, Finset.sum_const_zero, add_zero, zero_add]
end
end

/-! A chunk whose weights are zero adds nothing. -/
section
variable (R : Vec Ideal S1x512 .f32) (A : Vec Ideal S64x512 .f32) (E : Vec Ideal S1x128x512 .f32) (C : Vec Ideal S1x64x128 .bf16) (y : Fin 64) (l : Fin 512)

theorem p59_at : k0_pay59 R E C (ix2 y l) = ∑ n : Fin 128, C (ix3 0 y n) * (E (ix3 0 n l) * R (ix2 0 l)) := by
  pointwise [k0_pay59, k0_pay58]
theorem p64_at (hA : A (ix2 y l) = (0 : EReal)) : k0_pay64 R A E C (ix2 y l) = ∑ n : Fin 128, C (ix3 0 y n) * (E (ix3 0 n l) * R (ix2 0 l)) := by
  pointwise [k0_pay64, k0_pay63]
  rw [hA]
  exact zero_add _

variable (hE : ∀ n, E (ix3 0 n l) = (0 : EReal))
include hE
theorem p67_keep : k0_pay67 R A E C (ix2 y l) = A (ix2 y l) := by
  pointwise [k0_pay67, k0_pay66]
  simp only [hE, zero_mul, mul_zero, Finset.sum_const_zero, add_zero]
theorem p75_keep : k0_pay75 R A E C (ix2 y l) = A (ix2 y l) := p67_keep R A E C y l hE
theorem p83_keep : k0_pay83 R A E C (ix2 y l) = A (ix2 y l) := p67_keep R A E C y l hE
theorem p72_keep : k0_pay72 R A E C (ix2 y l) = A (ix2 y l) := p67_keep R A E C y l hE
theorem p80_keep : k0_pay80 R A E C (ix2 y l) = A (ix2 y l) := p67_keep R A E C y l hE
theorem p88_keep : k0_pay88 R A E C (ix2 y l) = A (ix2 y l) := p67_keep R A E C y l hE
end

/-! A chunk of the stored scores, read past the chunks stored since. -/

theorem skip (M : Memref sig .tc .vmem S2x1024x512 .f32) (g o g' o' : ℕ) (inb) (inb') (w : S1x128x512.Idx → Elt Ideal .f32)
    (L : List (View.Piece (Elt Ideal) S2x1024x512 .f32)) (h : g ≠ g' ∨ o + 128 ≤ o' ∨ o' + 128 ≤ o) :
    M.view.readCov (⟨Rect.unit (s := S2x1024x512) ![g, o, 0] S1x128x512.size inb, w⟩ :: L) (Rect.unit (s := S2x1024x512) ![g', o', 0] S1x128x512.size inb').toLoadRect
      = M.view.readCov L (Rect.unit (s := S2x1024x512) ![g', o', 0] S1x128x512.size inb').toLoadRect := by
  rcases h with h | h
  · exact View.readCov_cons_of_disjoint M.view _ L _ (Rect.unit_disjoint (inb := inb) (inb' := inb') 0 (by show g + 1 ≤ g' ∨ g' + 1 ≤ g; omega))
  · exact View.readCov_cons_of_disjoint M.view _ L _ (Rect.unit_disjoint (inb := inb) (inb' := inb') 1 h)

section
variable (c : Dev nD) (i : grid0.Coords) (hi : (i 1).val = 0) (arg2 : Memref sig .tc .vmem S512x128 .f32) (arg4 : Memref sig .tc .vmem S2048x128 .f32) (arg6 : Memref sig .tc .vmem S2x1024x128 .bf16)
  (arg7 : Memref sig .tc .vmem S2x128x1024 .bf16) (arg15 : Memref sig .tc .vmem S2x1024x512 .f32) (f2 : Bf (F := Ideal) c arg2) (f4 : Bf (F := Ideal) c arg4) (f6 : Bf (F := Ideal) c arg6)
  (f7 : Bf (F := Ideal) c arg7) (hc : k0_cond1 i = 1#1) (l : Fin 512) (y : Fin 64)

/-- The chunks the body reads of the mask, -/
abbrev rM (o : BitVec 32) (inb : ∀ a, k0_off2 i o a + S128x128.size a ≤ S2048x128.size a) : Vec Ideal S128x128 .f32 :=
  View.readAt (Elt Ideal) arg4.view (Rect.unit (s := S2048x128) (k0_off2 i o) S128x128.size inb).toLoadRect f4
/-- of the compressed keys -/
abbrev rK (g o : ℕ) (inb : ∀ a, (![g, o, 0] : Fin 3 → ℕ) a + S1x128x128.size a ≤ S2x1024x128.size a) : Vec Ideal S1x128x128 .bf16 :=
  View.readAt (Elt Ideal) arg6.view (Rect.unit (s := S2x1024x128) ![g, o, 0] S1x128x128.size inb).toLoadRect f6
/-- and of the compressed values. -/
abbrev rC (g o : ℕ) (inb : ∀ a, (![g, 0, o] : Fin 3 → ℕ) a + S1x64x128.size a ≤ S2x128x1024.size a) : Vec Ideal S1x64x128 .bf16 :=
  View.readAt (Elt Ideal) arg7.view (Rect.unit (s := S2x128x1024) ![g, 0, o] S1x64x128.size inb).toLoadRect f7

theorem v814_at (n : Fin 128) : kernel_first.sl.v814 c i arg2 arg4 arg6 arg15 f2 f4 f6 hc (ix3 0 n l) = sc (kernel_first.sl.r_3 c arg2 f2) (rM c i arg4 f4 0#32 (k0_off2_inb i hc 0)) (rK c arg6 f6 0 0 inb_S2x1024x128_S1x128x128_0_0_0) l n := by
  refine (congrFun (?_ : _ = k0_pay4 (kernel_first.sl.r_3 c arg2 f2) (rM c i arg4 f4 0#32 (k0_off2_inb i hc 0)) (rK c arg6 f6 0 0 inb_S2x1024x128_S1x128x128_0_0_0)) (ix3 0 n l)).trans (s4 _ _ _ n l)
  unfold kernel_first.sl.v814 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v836_at (n : Fin 128) : kernel_first.sl.v836 c i arg2 arg4 arg6 arg15 f2 f4 f6 hc (ix3 0 n l) = sc (kernel_first.sl.r_3 c arg2 f2) (rM c i arg4 f4 128#32 (k0_off2_inb i hc 1)) (rK c arg6 f6 0 128 inb_S2x1024x128_S1x128x128_0_128_0) l n := by
  refine (congrFun (?_ : _ = k0_pay11 (kernel_first.sl.r_3 c arg2 f2) (k0_pay9 (rM c i arg4 f4 128#32 (k0_off2_inb i hc 1))) (rK c arg6 f6 0 128 inb_S2x1024x128_S1x128x128_0_128_0)) (ix3 0 n l)).trans (s11 _ _ _ n l)
  unfold kernel_first.sl.v836 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v858_at (n : Fin 128) : kernel_first.sl.v858 c i arg2 arg4 arg6 arg15 f2 f4 f6 hc (ix3 0 n l) = sc (kernel_first.sl.r_3 c arg2 f2) (rM c i arg4 f4 256#32 (k0_off2_inb i hc 2)) (rK c arg6 f6 0 256 inb_S2x1024x128_S1x128x128_0_256_0) l n := by
  refine (congrFun (?_ : _ = k0_pay18 (kernel_first.sl.r_3 c arg2 f2) (rM c i arg4 f4 256#32 (k0_off2_inb i hc 2)) (rK c arg6 f6 0 256 inb_S2x1024x128_S1x128x128_0_256_0)) (ix3 0 n l)).trans (s18 _ _ _ n l)
  unfold kernel_first.sl.v858 kernel_first.sl.H15_12 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v880_at (n : Fin 128) : kernel_first.sl.v880 c i arg2 arg4 arg6 arg15 f2 f4 f6 hc (ix3 0 n l) = sc (kernel_first.sl.r_3 c arg2 f2) (rM c i arg4 f4 384#32 (k0_off2_inb i hc 3)) (rK c arg6 f6 0 384 inb_S2x1024x128_S1x128x128_0_384_0) l n := by
  refine (congrFun (?_ : _ = k0_pay24 (kernel_first.sl.r_3 c arg2 f2) (rM c i arg4 f4 384#32 (k0_off2_inb i hc 3)) (rK c arg6 f6 0 384 inb_S2x1024x128_S1x128x128_0_384_0)) (ix3 0 n l)).trans (s24 _ _ _ n l)
  unfold kernel_first.sl.v880 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v825_at (n : Fin 128) : kernel_first.sl.v825 c i arg2 arg4 arg6 arg15 f2 f4 f6 hc (ix3 0 n l) = sc (kernel_first.sl.r_5 c arg2 f2) (rM c i arg4 f4 0#32 (k0_off2_inb i hc 0)) (rK c arg6 f6 1 0 inb_S2x1024x128_S1x128x128_1_0_0) l n := by
  refine (congrFun (?_ : _ = k0_pay7 (kernel_first.sl.r_5 c arg2 f2) (rM c i arg4 f4 0#32 (k0_off2_inb i hc 0)) (rK c arg6 f6 1 0 inb_S2x1024x128_S1x128x128_1_0_0)) (ix3 0 n l)).trans (s7 _ _ _ n l)
  unfold kernel_first.sl.v825 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v847_at (n : Fin 128) : kernel_first.sl.v847 c i arg2 arg4 arg6 arg15 f2 f4 f6 hc (ix3 0 n l) = sc (kernel_first.sl.r_5 c arg2 f2) (rM c i arg4 f4 128#32 (k0_off2_inb i hc 1)) (rK c arg6 f6 1 128 inb_S2x1024x128_S1x128x128_1_128_0) l n := by
  refine (congrFun (?_ : _ = k0_pay14 (kernel_first.sl.r_5 c arg2 f2) (k0_pay9 (rM c i arg4 f4 128#32 (k0_off2_inb i hc 1))) (rK c arg6 f6 1 128 inb_S2x1024x128_S1x128x128_1_128_0)) (ix3 0 n l)).trans (s14 _ _ _ n l)
  unfold kernel_first.sl.v847 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v869_at (n : Fin 128) : kernel_first.sl.v869 c i arg2 arg4 arg6 arg15 f2 f4 f6 hc (ix3 0 n l) = sc (kernel_first.sl.r_5 c arg2 f2) (rM c i arg4 f4 256#32 (k0_off2_inb i hc 2)) (rK c arg6 f6 1 256 inb_S2x1024x128_S1x128x128_1_256_0) l n := by
  refine (congrFun (?_ : _ = k0_pay20 (kernel_first.sl.r_5 c arg2 f2) (k0_pay16 (rM c i arg4 f4 256#32 (k0_off2_inb i hc 2))) (rK c arg6 f6 1 256 inb_S2x1024x128_S1x128x128_1_256_0)) (ix3 0 n l)).trans (s20 _ _ _ n l)
  unfold kernel_first.sl.v869 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v891_at (n : Fin 128) : kernel_first.sl.v891 c i arg2 arg4 arg6 arg15 f2 f4 f6 hc (ix3 0 n l) = sc (kernel_first.sl.r_5 c arg2 f2) (rM c i arg4 f4 384#32 (k0_off2_inb i hc 3)) (rK c arg6 f6 1 384 inb_S2x1024x128_S1x128x128_1_384_0) l n := by
  refine (congrFun (?_ : _ = k0_pay27 (k0_pay26 (kernel_first.sl.r_5 c arg2 f2) (rM c i arg4 f4 384#32 (k0_off2_inb i hc 3)) (rK c arg6 f6 1 384 inb_S2x1024x128_S1x128x128_1_384_0))) (ix3 0 n l)).trans (s27 _ _ _ n l)
  unfold kernel_first.sl.v891 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v932_eq : kernel_first.sl.v932 c i arg2 arg4 arg6 arg15 f2 f4 f6 hc = k0_pay30 (kernel_first.sl.r_14 c i arg2 arg4 arg6 f2 f4 f6 hc) (kernel_first.sl.v814 c i arg2 arg4 arg6 arg15 f2 f4 f6 hc) := by
  unfold kernel_first.sl.v932 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 7 refine (skip _ _ _ _ _ _ _ _ _ (by decide)).trans ?_
  exact View.readCov_cons_toLoadRect _ _ _ _
theorem v970_eq : kernel_first.sl.v970 c i arg2 arg4 arg6 arg15 f2 f4 f6 hc = k0_pay36 (kernel_first.sl.r_19 c i arg2 arg4 arg6 arg15 f2 f4 f6 hc) := by
  unfold kernel_first.sl.v970 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 5 refine (skip _ _ _ _ _ _ _ _ _ (by decide)).trans ?_
  exact View.readCov_cons_toLoadRect _ _ _ _
theorem v1008_eq : kernel_first.sl.v1008 c i arg2 arg4 arg6 arg15 f2 f4 f6 hc = k0_pay41 (kernel_first.sl.r_14 c i arg2 arg4 arg6 f2 f4 f6 hc) (kernel_first.sl.v858 c i arg2 arg4 arg6 arg15 f2 f4 f6 hc) := by
  unfold kernel_first.sl.v1008 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 3 refine (skip _ _ _ _ _ _ _ _ _ (by decide)).trans ?_
  exact View.readCov_cons_toLoadRect _ _ _ _
theorem v1046_eq : kernel_first.sl.v1046 c i arg2 arg4 arg6 arg15 f2 f4 f6 hc = k0_pay46 (kernel_first.sl.r_14 c i arg2 arg4 arg6 f2 f4 f6 hc) (kernel_first.sl.v880 c i arg2 arg4 arg6 arg15 f2 f4 f6 hc) := by
  unfold kernel_first.sl.v1046 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 1 refine (skip _ _ _ _ _ _ _ _ _ (by decide)).trans ?_
  exact View.readCov_cons_toLoadRect _ _ _ _
theorem v951_eq : kernel_first.sl.v951 c i arg2 arg4 arg6 arg15 f2 f4 f6 hc = k0_pay33 (kernel_first.sl.r_13 c i arg2 arg4 arg6 f2 f4 f6 hc) (kernel_first.sl.r_15 c i arg2 arg4 arg6 f2 f4 f6 hc) (kernel_first.sl.v825 c i arg2 arg4 arg6 arg15 f2 f4 f6 hc) := by
  unfold kernel_first.sl.v951 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 6 refine (skip _ _ _ _ _ _ _ _ _ (by decide)).trans ?_
  exact View.readCov_cons_toLoadRect _ _ _ _
theorem v989_eq : kernel_first.sl.v989 c i arg2 arg4 arg6 arg15 f2 f4 f6 hc = k0_pay38 (kernel_first.sl.r_16 c i arg2 arg4 arg6 f2 f4 f6 hc) (kernel_first.sl.v847 c i arg2 arg4 arg6 arg15 f2 f4 f6 hc) := by
  unfold kernel_first.sl.v989 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 4 refine (skip _ _ _ _ _ _ _ _ _ (by decide)).trans ?_
  exact View.readCov_cons_toLoadRect _ _ _ _
theorem v1027_eq : kernel_first.sl.v1027 c i arg2 arg4 arg6 arg15 f2 f4 f6 hc = k0_pay44 (kernel_first.sl.r_22 c i arg2 arg4 arg6 arg15 f2 f4 f6 hc) := by
  unfold kernel_first.sl.v1027 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  iterate 2 refine (skip _ _ _ _ _ _ _ _ _ (by decide)).trans ?_
  exact View.readCov_cons_toLoadRect _ _ _ _
theorem v1065_eq : kernel_first.sl.v1065 c i arg2 arg4 arg6 arg15 f2 f4 f6 hc = k0_pay48 (kernel_first.sl.r_16 c i arg2 arg4 arg6 f2 f4 f6 hc) (kernel_first.sl.v891 c i arg2 arg4 arg6 arg15 f2 f4 f6 hc) := by
  unfold kernel_first.sl.v1065 kernel_first.sl.H15_16 kernel_first.sl.H15_15 kernel_first.sl.H15_14 kernel_first.sl.H15_13 kernel_first.sl.H15_12 kernel_first.sl.H15_11 kernel_first.sl.H15_10 kernel_first.sl.H15_9 kernel_first.sl.H15_8 kernel_first.sl.H15_7 kernel_first.sl.H15_5 kernel_first.sl.H15_2
  exact View.readCov_cons_toLoadRect _ _ _ _

include hi in
set_option maxHeartbeats 1000000 in
/-- Group 0's compressed branch, at a token that a compressed block precedes. -/
theorem cmp0 (ht : 31 ≤ l.val % 128)
    (h1 : ∀ n, sc (kernel_first.sl.r_3 c arg2 f2) (rM c i arg4 f4 128#32 (k0_off2_inb i hc 1)) (rK c arg6 f6 0 128 inb_S2x1024x128_S1x128x128_0_128_0) l n = ⊥) (h2 : ∀ n, sc (kernel_first.sl.r_3 c arg2 f2) (rM c i arg4 f4 256#32 (k0_off2_inb i hc 2)) (rK c arg6 f6 0 256 inb_S2x1024x128_S1x128x128_0_256_0) l n = ⊥) (h3 : ∀ n, sc (kernel_first.sl.r_3 c arg2 f2) (rM c i arg4 f4 384#32 (k0_off2_inb i hc 3)) (rK c arg6 f6 0 384 inb_S2x1024x128_S1x128x128_0_384_0) l n = ⊥) :
    kernel_first.sl.r_43 c i arg2 arg4 arg6 arg7 arg15 f2 f4 f6 f7 hc (ix2 y l)
      = ∑ n : Fin 128, rC c arg7 f7 0 0 inb_S2x128x1024_S1x64x128_0_0_0 (ix3 0 y n)
          * (Ideal.exp2 (sc (kernel_first.sl.r_3 c arg2 f2) (rM c i arg4 f4 0#32 (k0_off2_inb i hc 0)) (rK c arg6 f6 0 0 inb_S2x1024x128_S1x128x128_0_0_0) l n - Finset.fold max (Ideal.ofBits .f32 0xFF800000#32) (sc (kernel_first.sl.r_3 c arg2 f2) (rM c i arg4 f4 0#32 (k0_off2_inb i hc 0)) (rK c arg6 f6 0 0 inb_S2x1024x128_S1x128x128_0_0_0) l) Finset.univ)
            * Ideal.div 1 (∑ n : Fin 128, Ideal.exp2 (sc (kernel_first.sl.r_3 c arg2 f2) (rM c i arg4 f4 0#32 (k0_off2_inb i hc 0)) (rK c arg6 f6 0 0 inb_S2x1024x128_S1x128x128_0_0_0) l n - Finset.fold max (Ideal.ofBits .f32 0xFF800000#32) (sc (kernel_first.sl.r_3 c arg2 f2) (rM c i arg4 f4 0#32 (k0_off2_inb i hc 0)) (rK c arg6 f6 0 0 inb_S2x1024x128_S1x128x128_0_0_0) l) Finset.univ))) := by
  have hm : kernel_first.sl.r_14 c i arg2 arg4 arg6 f2 f4 f6 hc (ix2 0 l) = Finset.fold max (Ideal.ofBits .f32 0xFF800000#32) (sc (kernel_first.sl.r_3 c arg2 f2) (rM c i arg4 f4 0#32 (k0_off2_inb i hc 0)) (rK c arg6 f6 0 0 inb_S2x1024x128_S1x128x128_0_0_0) l) Finset.univ :=
    max0 (kernel_first.sl.r_3 c arg2 f2) _ _ _ _ _ _ _ _ l h1 h2 h3
  have b1 : ∀ n, kernel_first.sl.v836 c i arg2 arg4 arg6 arg15 f2 f4 f6 hc (ix3 0 n l) = (⊥ : EReal) := fun n => (v836_at c i arg2 arg4 arg6 arg15 f2 f4 f6 hc l n).trans (h1 n)
  have b2 : ∀ n, kernel_first.sl.v858 c i arg2 arg4 arg6 arg15 f2 f4 f6 hc (ix3 0 n l) = (⊥ : EReal) := fun n => (v858_at c i arg2 arg4 arg6 arg15 f2 f4 f6 hc l n).trans (h2 n)
  have b3 : ∀ n, kernel_first.sl.v880 c i arg2 arg4 arg6 arg15 f2 f4 f6 hc (ix3 0 n l) = (⊥ : EReal) := fun n => (v880_at c i arg2 arg4 arg6 arg15 f2 f4 f6 hc l n).trans (h3 n)
  have hR := norm0 i hi (kernel_first.sl.r_14 c i arg2 arg4 arg6 f2 f4 f6 hc) (kernel_first.sl.v814 c i arg2 arg4 arg6 arg15 f2 f4 f6 hc) _ _ _ l b1 b2 b3 ht
  refine (p83_keep _ _ _ _ y l fun n => (congrFun (v1046_eq c i arg2 arg4 arg6 arg15 f2 f4 f6 hc) _).trans (p30_bot (kernel_first.sl.r_14 c i arg2 arg4 arg6 f2 f4 f6 hc) l n _ b3)).trans ?_
  refine (p75_keep _ _ _ _ y l fun n => (congrFun (v1008_eq c i arg2 arg4 arg6 arg15 f2 f4 f6 hc) _).trans (p30_bot (kernel_first.sl.r_14 c i arg2 arg4 arg6 f2 f4 f6 hc) l n _ b2)).trans ?_
  refine (p67_keep _ _ _ _ y l fun n => (congrFun (v970_eq c i arg2 arg4 arg6 arg15 f2 f4 f6 hc) _).trans (p30_bot (kernel_first.sl.r_14 c i arg2 arg4 arg6 f2 f4 f6 hc) l n _ b1)).trans ?_
  refine (p59_at _ _ _ y l).trans (Finset.sum_congr rfl fun n _ => ?_)
  have e : ∀ n, kernel_first.sl.v932 c i arg2 arg4 arg6 arg15 f2 f4 f6 hc (ix3 0 n l) = Ideal.exp2 (sc (kernel_first.sl.r_3 c arg2 f2) (rM c i arg4 f4 0#32 (k0_off2_inb i hc 0)) (rK c arg6 f6 0 0 inb_S2x1024x128_S1x128x128_0_0_0) l n - Finset.fold max (Ideal.ofBits .f32 0xFF800000#32) (sc (kernel_first.sl.r_3 c arg2 f2) (rM c i arg4 f4 0#32 (k0_off2_inb i hc 0)) (rK c arg6 f6 0 0 inb_S2x1024x128_S1x128x128_0_0_0) l) Finset.univ) := fun n => by
    refine (congrFun (v932_eq c i arg2 arg4 arg6 arg15 f2 f4 f6 hc) _).trans ((p30 (kernel_first.sl.r_14 c i arg2 arg4 arg6 f2 f4 f6 hc) l n _).trans ?_)
    rw [v814_at, hm]
  rw [e n]
  refine congrArg (fun z : EReal => _ * (_ * z)) (hR.trans ?_)
  rw [hm]
  simp only [v814_at]

include hi in
set_option maxHeartbeats 1000000 in
/-- Group 1's compressed branch, at a token that a compressed block precedes. -/
theorem cmp1 (ht : 31 ≤ l.val % 128)
    (h1 : ∀ n, sc (kernel_first.sl.r_5 c arg2 f2) (rM c i arg4 f4 128#32 (k0_off2_inb i hc 1)) (rK c arg6 f6 1 128 inb_S2x1024x128_S1x128x128_1_128_0) l n = ⊥) (h2 : ∀ n, sc (kernel_first.sl.r_5 c arg2 f2) (rM c i arg4 f4 256#32 (k0_off2_inb i hc 2)) (rK c arg6 f6 1 256 inb_S2x1024x128_S1x128x128_1_256_0) l n = ⊥) (h3 : ∀ n, sc (kernel_first.sl.r_5 c arg2 f2) (rM c i arg4 f4 384#32 (k0_off2_inb i hc 3)) (rK c arg6 f6 1 384 inb_S2x1024x128_S1x128x128_1_384_0) l n = ⊥) :
    kernel_first.sl.r_46 c i arg2 arg4 arg6 arg7 arg15 f2 f4 f6 f7 hc (ix2 y l)
      = ∑ n : Fin 128, rC c arg7 f7 1 0 inb_S2x128x1024_S1x64x128_1_0_0 (ix3 0 y n)
          * (Ideal.exp2 (sc (kernel_first.sl.r_5 c arg2 f2) (rM c i arg4 f4 0#32 (k0_off2_inb i hc 0)) (rK c arg6 f6 1 0 inb_S2x1024x128_S1x128x128_1_0_0) l n - Finset.fold max (Ideal.ofBits .f32 0xFF800000#32) (sc (kernel_first.sl.r_5 c arg2 f2) (rM c i arg4 f4 0#32 (k0_off2_inb i hc 0)) (rK c arg6 f6 1 0 inb_S2x1024x128_S1x128x128_1_0_0) l) Finset.univ)
            * Ideal.div 1 (∑ n : Fin 128, Ideal.exp2 (sc (kernel_first.sl.r_5 c arg2 f2) (rM c i arg4 f4 0#32 (k0_off2_inb i hc 0)) (rK c arg6 f6 1 0 inb_S2x1024x128_S1x128x128_1_0_0) l n - Finset.fold max (Ideal.ofBits .f32 0xFF800000#32) (sc (kernel_first.sl.r_5 c arg2 f2) (rM c i arg4 f4 0#32 (k0_off2_inb i hc 0)) (rK c arg6 f6 1 0 inb_S2x1024x128_S1x128x128_1_0_0) l) Finset.univ))) := by
  have hm : kernel_first.sl.r_16 c i arg2 arg4 arg6 f2 f4 f6 hc (ix2 0 l) = Finset.fold max (Ideal.ofBits .f32 0xFF800000#32) (sc (kernel_first.sl.r_5 c arg2 f2) (rM c i arg4 f4 0#32 (k0_off2_inb i hc 0)) (rK c arg6 f6 1 0 inb_S2x1024x128_S1x128x128_1_0_0) l) Finset.univ :=
    max1 (kernel_first.sl.r_5 c arg2 f2) _ _ _ _ _ _ _ _ l h1 h2 h3
  have b1 : ∀ n, kernel_first.sl.v847 c i arg2 arg4 arg6 arg15 f2 f4 f6 hc (ix3 0 n l) = (⊥ : EReal) := fun n => (v847_at c i arg2 arg4 arg6 arg15 f2 f4 f6 hc l n).trans (h1 n)
  have b2 : ∀ n, kernel_first.sl.v869 c i arg2 arg4 arg6 arg15 f2 f4 f6 hc (ix3 0 n l) = (⊥ : EReal) := fun n => (v869_at c i arg2 arg4 arg6 arg15 f2 f4 f6 hc l n).trans (h2 n)
  have b3 : ∀ n, kernel_first.sl.v891 c i arg2 arg4 arg6 arg15 f2 f4 f6 hc (ix3 0 n l) = (⊥ : EReal) := fun n => (v891_at c i arg2 arg4 arg6 arg15 f2 f4 f6 hc l n).trans (h3 n)
  have hR := norm1 i hi (kernel_first.sl.r_16 c i arg2 arg4 arg6 f2 f4 f6 hc) (kernel_first.sl.v825 c i arg2 arg4 arg6 arg15 f2 f4 f6 hc) _ _ _ l b1 b2 b3 (kernel_first.sl.r_13 c i arg2 arg4 arg6 f2 f4 f6 hc) (kernel_first.sl.r_15 c i arg2 arg4 arg6 f2 f4 f6 hc) rfl ht
  refine (p88_keep _ _ _ _ y l fun n => (congrFun (v1065_eq c i arg2 arg4 arg6 arg15 f2 f4 f6 hc) _).trans (p30_bot (kernel_first.sl.r_16 c i arg2 arg4 arg6 f2 f4 f6 hc) l n _ b3)).trans ?_
  refine (p80_keep _ _ _ _ y l fun n => (congrFun (v1027_eq c i arg2 arg4 arg6 arg15 f2 f4 f6 hc) _).trans (p30_bot (kernel_first.sl.r_16 c i arg2 arg4 arg6 f2 f4 f6 hc) l n _ b2)).trans ?_
  refine (p72_keep _ _ _ _ y l fun n => (congrFun (v989_eq c i arg2 arg4 arg6 arg15 f2 f4 f6 hc) _).trans (p30_bot (kernel_first.sl.r_16 c i arg2 arg4 arg6 f2 f4 f6 hc) l n _ b1)).trans ?_
  refine (p64_at _ _ _ _ y l (p53 y l)).trans (Finset.sum_congr rfl fun n _ => ?_)
  have e : ∀ n, kernel_first.sl.v951 c i arg2 arg4 arg6 arg15 f2 f4 f6 hc (ix3 0 n l) = Ideal.exp2 (sc (kernel_first.sl.r_5 c arg2 f2) (rM c i arg4 f4 0#32 (k0_off2_inb i hc 0)) (rK c arg6 f6 1 0 inb_S2x1024x128_S1x128x128_1_0_0) l n - Finset.fold max (Ideal.ofBits .f32 0xFF800000#32) (sc (kernel_first.sl.r_5 c arg2 f2) (rM c i arg4 f4 0#32 (k0_off2_inb i hc 0)) (rK c arg6 f6 1 0 inb_S2x1024x128_S1x128x128_1_0_0) l) Finset.univ) := fun n => by
    refine (congrFun (v951_eq c i arg2 arg4 arg6 arg15 f2 f4 f6 hc) _).trans ((p30 (kernel_first.sl.r_16 c i arg2 arg4 arg6 f2 f4 f6 hc) l n _).trans ?_)
    rw [v825_at, hm]
  rw [e n]
  refine congrArg (fun z : EReal => _ * (_ * z)) (hR.trans ?_)
  rw [hm]
  simp only [v825_at]
end
end Cert.Proof.KernelIdeal

end
-- ==== Proof.Value.Tile.lean ====
module

public import proofs.«01_k».proof.Proof.Value.Body
public import proofs.«01_k».proof.Proof.Value.Cmp
public import Idealize.ShloMosaic.Lib.WritesUnit

@[expose] public section

noncomputable section

namespace Cert.Proof.KernelIdeal

open Cert.KernelIdeal Cert.KernelIdeal.Gen
open Idealize.ShloMosaic
open Idealize.ShloMosaic.TcCoe Idealize.ShloMosaic.Tactic
open Cert.Proof.Value

/-! A masked row of scores, and the two softmaxes over it. -/

/-- The scores of a token `t` against the keys `n`, the mask added, in base two. -/
theorem row {N : ℕ} (k : Fin N → Fin 128 → EReal) (q : Fin 128 → EReal) (d : Fin N → EReal) (t : ℕ) (kr : ℕ → Fin 64 → ℝ) (qr : Fin 64 → ℝ)
    (hk : ∀ n (d : Fin 64), k n ⟨d.val, by omega⟩ = ((kr n.val d : ℝ) : EReal))
    (hq : ∀ d : Fin 64, q ⟨d.val, by omega⟩ = ((qr d : ℝ) : EReal) * ((8⁻¹ * (Real.log 2)⁻¹ : ℝ) : EReal)) (hz : ∀ x : Fin 128, 64 ≤ x.val → q x = 0)
    (hd : ∀ n, d n = if n.val ≤ t then 0 else ⊥) (n : Fin N) :
    ∑ x, k n x * q x + d n = if n.val < t + 1 then (((∑ d, qr d * 8⁻¹ * kr n.val d) / Real.log 2 : ℝ) : EReal) else ⊥ := by
  rw [score (k n) q (kr n.val) qr (hk n) hq hz, hd n]
  by_cases h : n.val ≤ t
  · rw [if_pos h, if_pos (by omega), add_zero]
  · rw [if_neg h, if_neg (by omega), EReal.add_bot]

theorem row_mean {N : ℕ} (t : ℕ) (ht : t < N) (s : ℕ → ℝ) (V : ℕ → EReal) (x v w : Fin N → EReal)
    (hx : ∀ n, x n = if n.val < t + 1 then ((s n.val / Real.log 2 : ℝ) : EReal) else ⊥) (hv : ∀ n, v n = V n.val) (hw : ∀ n, w n = 1) (b : EReal) (hb : b = ⊥) :
    (∃ μ : ℝ, Finset.fold max b x Finset.univ = (μ : EReal)) ∧
    Ideal.div (∑ n, v n * Ideal.exp2 (x n - Finset.fold max b x Finset.univ)) (∑ n, w n * Ideal.exp2 (x n - Finset.fold max b x Finset.univ)) = mean (t + 1) s V := by
  have hinj : ∀ z z' : Fin N, z.val < t + 1 → z.val = z'.val → z = z' := fun _ _ _ e => Fin.ext e
  have hsur : ∀ p < t + 1, ∃ z : Fin N, z.val = p := fun p hp => ⟨⟨p, by omega⟩, rfl⟩
  obtain ⟨μ, hμ⟩ := max_real (t + 1) (Nat.succ_pos t) (fun n : Fin N => n.val) hsur (fun k => s k / Real.log 2) x b hb hx
  refine ⟨⟨μ, hμ⟩, ?_⟩
  rw [hμ]
  exact mean_base_two (t + 1) (Nat.succ_pos t) (fun n : Fin N => n.val) hinj hsur s V x v w μ hx (fun n _ => hv n) hw

section
variable (y : Fin 64) (l : Fin 512) (t : ℕ) (qr : Fin 64 → ℝ) (kr : ℕ → Fin 64 → ℝ) (V : ℕ → EReal) (q : Vec Ideal S128x512 .bf16)
  (hq : ∀ d : Fin 64, q (ix2 ⟨d.val, by omega⟩ l) = ((qr d : ℝ) : EReal) * ((8⁻¹ * (Real.log 2)⁻¹ : ℝ) : EReal)) (hz : ∀ x : Fin 128, 64 ≤ x.val → q (ix2 x l) = (0 : EReal))
include hq hz

section
variable (D : Vec Ideal S128x512 .f32) (K : Vec Ideal S1x128x128 .bf16) (W : Vec Ideal S1x72x128 .bf16) (ht : t < 128)
  (hD : ∀ n : Fin 128, D (ix2 n l) = if n.val ≤ t then (0 : EReal) else ⊥) (hK : ∀ (n : Fin 128) (d : Fin 64), K (ix3 0 n ⟨d.val, by omega⟩) = ((kr n.val d : ℝ) : EReal))
  (hW : ∀ n : Fin 128, W (ix3 0 (up y) n) = V n.val) (hW1 : ∀ n : Fin 128, W (ix3 0 64 n) = (1 : EReal))
include ht hD hK hW hW1

theorem diag0 : (∃ μ : ℝ, k0_pay331 D (k0_pay327 q K) (ix2 0 l) = (μ : EReal)) ∧
    Ideal.div (k0_pay332 D (k0_pay327 q K) W (ix2 (up y) l)) (k0_pay332 D (k0_pay327 q K) W (ix2 64 l))
      = mean (t + 1) (fun n => ∑ d, qr d * 8⁻¹ * kr n d) V := by
  rw [p331, p332, p332]
  exact row_mean t ht (fun n => ∑ d, qr d * 8⁻¹ * kr n d) V (fun n : Fin 128 => ∑ x, K (ix3 0 n x) * q (ix2 x l) + D (ix2 n l)) _ _
    (row (fun n x => K (ix3 0 n x)) (fun x => q (ix2 x l)) (fun n => D (ix2 n l)) t kr qr hK hq hz hD) hW hW1 _ ninf_val
theorem diag1 : (∃ μ : ℝ, k0_pay334 D q K (ix2 0 l) = (μ : EReal)) ∧
    Ideal.div (k0_pay335 (k0_pay329 D q K) (k0_pay334 D q K) W (ix2 (up y) l)) (k0_pay335 (k0_pay329 D q K) (k0_pay334 D q K) W (ix2 64 l))
      = mean (t + 1) (fun n => ∑ d, qr d * 8⁻¹ * kr n d) V := by
  rw [p334, p335, p335]
  exact row_mean t ht (fun n => ∑ d, qr d * 8⁻¹ * kr n d) V (fun n : Fin 128 => ∑ x, K (ix3 0 n x) * q (ix2 x l) + D (ix2 n l)) _ _
    (row (fun n x => K (ix3 0 n x)) (fun x => q (ix2 x l)) (fun n => D (ix2 n l)) t kr qr hK hq hz hD) hW hW1 _ ninf_val
end
section
variable (D : Vec Ideal S640x512 .f32) (K : Vec Ideal S1x640x128 .bf16) (W : Vec Ideal S1x72x640 .bf16) (ht : t < 640)
  (hD : ∀ n : Fin 640, D (ix2 n l) = if n.val ≤ t then (0 : EReal) else ⊥) (hK : ∀ (n : Fin 640) (d : Fin 64), K (ix3 0 n ⟨d.val, by omega⟩) = ((kr n.val d : ℝ) : EReal))
  (hW : ∀ n : Fin 640, W (ix3 0 (up y) n) = V n.val) (hW1 : ∀ n : Fin 640, W (ix3 0 64 n) = (1 : EReal))
include ht hD hK hW hW1

theorem win0 : k0_pay333 D q K W (ix2 y l) = mean (t + 1) (fun n => ∑ d, qr d * 8⁻¹ * kr n d) V := by
  rw [p333]
  exact (row_mean t ht (fun n => ∑ d, qr d * 8⁻¹ * kr n d) V (fun n : Fin 640 => ∑ x, K (ix3 0 n x) * q (ix2 x l) + D (ix2 n l)) _ _
    (row (fun n x => K (ix3 0 n x)) (fun x => q (ix2 x l)) (fun n => D (ix2 n l)) t kr qr hK hq hz hD) hW hW1 _ ninf_val).2
theorem win1 : k0_pay336 (k0_pay330 D q K) W (ix2 y l) = mean (t + 1) (fun n => ∑ d, qr d * 8⁻¹ * kr n d) V := by
  rw [p336]
  exact (row_mean t ht (fun n => ∑ d, qr d * 8⁻¹ * kr n d) V (fun n : Fin 640 => ∑ x, K (ix3 0 n x) * q (ix2 x l) + D (ix2 n l)) _ _
    (row (fun n x => K (ix3 0 n x)) (fun x => q (ix2 x l)) (fun n => D (ix2 n l)) t kr qr hK hq hz hD) hW hW1 _ ninf_val).2
end
end

/-! The selected branch's two chunks of the past, both masked: the accumulator's quotient stays. -/
section
variable (y : Fin 64) (l : Fin 512) (μ : ℝ) (q : Vec Ideal S64x512 .bf16) (m : Vec Ideal S1x512 .f32) (hm : m (ix2 0 l) = (μ : EReal)) (acc : Vec Ideal S72x512 .f32)
  (k k' : Vec Ideal S1x512x128 .bf16) (b b' : Vec Ideal S1x8x512 .f32) (v v' : Vec Ideal S1x72x512 .bf16)
  (hb : ∀ z, b z = (⊥ : EReal)) (hb' : ∀ z, b' z = (⊥ : EReal)) (hk : ∀ n : Fin 512, ∃ x : Fin 8, k (ix3 0 n (tag x)) = (1 : EReal))
  (hk' : ∀ n : Fin 512, ∃ x : Fin 8, k' (ix3 0 n (tag x)) = (1 : EReal))
include hm hb hb' hk hk'

theorem sel0 : k0_pay371 (k0_pay343 k0_pay302 k0_pay303 q m k b)
    (k0_pay368 (k0_pay346 m (k0_pay343 k0_pay302 k0_pay303 q m k b)) acc v
      (k0_pay345 (k0_pay344 k0_pay302 k0_pay303 q m k b (k0_pay338 k0_pay302 k0_pay303 q k b))))
    (k0_pay369 (k0_pay343 k0_pay302 k0_pay303 q m k b) (k0_pay342 k0_pay302 k0_pay303 q k' b')) v'
    (k0_pay370 (k0_pay343 k0_pay302 k0_pay303 q m k b) (k0_pay342 k0_pay302 k0_pay303 q k' b') (k0_pay341 k0_pay302 k0_pay303 q k' b')) (ix2 y l)
      = Ideal.div (acc (ix2 (up y) l)) (acc (ix2 64 l)) := by
  have e := p343 q k b hb hk m l
  rw [p371 _ _ _ _ _ l μ (e.trans hm) (p369 _ _ l (p342 q k' b' hb' hk' l)) (fun n => p370 q k' b' hb' hk' _ _ n l) y,
    p368 _ _ _ _ _ l μ hm e (fun n => p345 q k b hb hk m n l), p368 _ _ _ _ _ l μ hm e (fun n => p345 q k b hb hk m n l)]
theorem sel1 : k0_pay381 (k0_pay353 k0_pay302 k0_pay303 q m k b)
    (k0_pay378 (k0_pay355 m (k0_pay353 k0_pay302 k0_pay303 q m k b)) acc v (k0_pay354 (k0_pay353 k0_pay302 k0_pay303 q m k b) (k0_pay348 k0_pay302 k0_pay303 q k b)))
    (k0_pay379 (k0_pay353 k0_pay302 k0_pay303 q m k b) (k0_pay352 k0_pay302 k0_pay303 q k' b')) v'
    (k0_pay380 (k0_pay353 k0_pay302 k0_pay303 q m k b) (k0_pay352 k0_pay302 k0_pay303 q k' b') (k0_pay351 k0_pay302 k0_pay303 q k' b')) (ix2 y l)
      = Ideal.div (acc (ix2 (up y) l)) (acc (ix2 64 l)) := by
  have e := p353 q k b hb hk m l
  rw [p381 _ _ _ _ _ l μ (e.trans hm) (p379 _ _ l (p352 q k' b' hb' hk' l)) (fun n => p380 q k' b' hb' hk' _ _ n l) y,
    p378 _ _ _ _ _ l μ hm e (fun n => p354 q k b hb hk _ n l), p378 _ _ _ _ _ l μ hm e (fun n => p354 q k b hb hk _ n l)]
end

/-! What the body reads of what it has stored before. -/

variable (c : Dev nD) (i : grid0.Coords)

/-- The stored mask of the past, all of it the mask's constant. -/
theorem past (L : List (View.Piece (Elt Ideal) S2x256x512 .f32)) (w w' : S1x256x512.Idx → Elt Ideal .f32) (hw : ∀ z, w z = (⊥ : EReal)) (hw' : ∀ z, w' z = (⊥ : EReal))
    (hL : L = [⟨Rect.unit ![1, 0, 0] S1x256x512.size inb_S2x256x512_S1x256x512_1_0_0, w⟩, ⟨Rect.unit ![0, 0, 0] S1x256x512.size inb_S2x256x512_S1x256x512_0_0_0, w'⟩])
    (M : Memref sig .tc .vmem S2x256x512 .f32) (B : LoadRect S2x256x512) (z : B.shape.Idx) : M.view.readCov L B z = (⊥ : EReal) := by
  rw [View.readCov_eq_canon']
  show View.canon L (B.idx z) = _
  generalize B.idx z = j
  rw [hL]
  by_cases h : (j 0).val = 1
  · have e : (Rect.unit (s := S2x256x512) ![1, 0, 0] S1x256x512.size inb_S2x256x512_S1x256x512_1_0_0).emb (ix3 0 (j 1) (j 2)) = j := by
      funext a; fin_cases a
      · exact Fin.ext (by show 1 + 1 * 0 = (j 0).val; omega)
      · exact Fin.ext (by show 0 + 1 * (j 1).val = (j 1).val; omega)
      · exact Fin.ext (by show 0 + 1 * (j 2).val = (j 2).val; omega)
    rw [← e, View.canon_cons_emb]; exact hw _
  · have h0 : (j 0).val = 0 := by have : (j 0).val < 2 := (j 0).isLt; omega
    have e : (Rect.unit (s := S2x256x512) ![0, 0, 0] S1x256x512.size inb_S2x256x512_S1x256x512_0_0_0).emb (ix3 0 (j 1) (j 2)) = j := by
      funext a; fin_cases a
      · exact Fin.ext (by show 0 + 1 * 0 = (j 0).val; omega)
      · exact Fin.ext (by show 0 + 1 * (j 1).val = (j 1).val; omega)
      · exact Fin.ext (by show 0 + 1 * (j 2).val = (j 2).val; omega)
    rw [View.canon_cons_of_not_mem _ _ (by
      rw [Rect.mem_set_unit]; intro hh; have := (hh 0).1; exact absurd this (by show ¬ 1 ≤ (j 0).val; omega)), ← e, View.canon_cons_emb]
    exact hw' _

section
variable (hi : (i 1).val = 0)
include hi
theorem o1 : k0_off1 i = ![512, 0] := by unfold k0_off1; rw [hi]; decide
theorem o2 (j : Fin 4) : k0_off2 i (BitVec.ofNat 32 (128 * j.val)) = ![1024 + 128 * j.val, 0] := by unfold k0_off2; rw [hi]; revert j; decide
theorem o4 : k0_off4 i = ![0, 0, 0] := by unfold k0_off4; rw [hi]; decide
theorem o5 : k0_off5 i = ![1, 0, 0] := by unfold k0_off5; rw [hi]; decide
theorem o6 : k0_off6 i = ![0, 0, 0] := by unfold k0_off6; rw [hi]; decide
theorem o7 : k0_off7 i = ![1, 0, 0] := by unfold k0_off7; rw [hi]; decide
theorem o8 : k0_off8 i = ![0, 0, 0] := by unfold k0_off8; rw [hi]; decide
theorem o9 : k0_off9 i = ![0, 0, 0] := by unfold k0_off9; rw [hi]; decide
theorem o10 : k0_off10 i = ![1, 0, 0] := by unfold k0_off10; rw [hi]; decide
theorem o11 : k0_off11 i = ![1, 0, 0] := by unfold k0_off11; rw [hi]; decide
end

theorem rd {s : Shape} {e : EltTy} (A : Memref sig .tc .vmem s e) (f : Bf (F := Ideal) c A) (off size o : Fin s.rank → ℕ) (inb) (ho : off = o)
    (x : (Rect.unit (s := s) off size inb).shape.Idx) (z : s.Idx) (h : ∀ a, (z a).val = o a + (x a).val) :
    View.readAt (Elt Ideal) A.view (Rect.unit (s := s) off size inb).toLoadRect f x = A.view.read (Elt Ideal) f z := by
  subst ho
  rw [View.readAt_apply]
  congr 1
  funext a
  exact Fin.ext (by rw [h a]; show off a + 1 * (x a).val = _; omega)

/-- What row `r` of group `g`'s block and token `t` need of the body's inputs. -/
structure Reads (X2 : Vec Ideal S512x128 .f32) (X4 : Vec Ideal S2048x128 .f32) (X5 : Vec Ideal S1152x128 .f32) (X6 : Vec Ideal S2x1024x128 .bf16) (X7 : Vec Ideal S2x128x1024 .bf16) (X8 X10 : Vec Ideal S2x16384x128 .bf16) (X9 X11 : Vec Ideal S2x72x16384 .bf16)
    (g : Fin 2) (r : Fin 256) (t : Fin 128) (qr : Fin 64 → ℝ) (kr kw kc : ℕ → Fin 64 → ℝ) (V W U : ℕ → EReal) : Prop where
  q : ∀ d : Fin 64, X2 (ix2 ⟨256 * g.val + (64 * (r.val / 64) + d.val), by omega⟩ t) = ((qr d : ℝ) : EReal)
  mc : ∀ n : Fin 512, X4 (ix2 ⟨1024 + n.val, by omega⟩ t) = if 16 * n.val + 31 ≤ t.val then (0 : EReal) else ⊥
  kc : ∀ (n : Fin 128) (d : Fin 64), X6 (ix3 g ⟨n.val, by omega⟩ ⟨d.val, by omega⟩) = ((kc n.val d : ℝ) : EReal)
  vc : ∀ n : Fin 128, X7 (ix3 g ⟨(dd r).val, by omega⟩ ⟨n.val, by omega⟩) = U n.val
  m : ∀ n : Fin 640, X5 (ix2 ⟨512 + n.val, by omega⟩ t) = if n.val ≤ t.val then (0 : EReal) else ⊥
  k : ∀ (n : Fin 128) (d : Fin 64), X8 (ix3 g ⟨n.val, by omega⟩ ⟨d.val, by omega⟩) = ((kr n.val d : ℝ) : EReal)
  tag : ∀ n : Fin 1024, ∃ x : Fin 8, X8 (ix3 g ⟨n.val, by omega⟩ (tag x)) = (1 : EReal)
  v : ∀ n : Fin 128, X9 (ix3 g (up (dd r)) ⟨n.val, by omega⟩) = V n.val
  v1 : ∀ n : Fin 128, X9 (ix3 g 64 ⟨n.val, by omega⟩) = (1 : EReal)
  kw : ∀ (n : Fin 640) (d : Fin 64), X10 (ix3 g ⟨n.val, by omega⟩ ⟨d.val, by omega⟩) = ((kw n.val d : ℝ) : EReal)
  vw : ∀ n : Fin 640, X11 (ix3 g (up (dd r)) ⟨n.val, by omega⟩) = W n.val
  vw1 : ∀ n : Fin 640, X11 (ix3 g 64 ⟨n.val, by omega⟩) = (1 : EReal)

/-- An element of the result: the compressed branch reads the compressed blocks which end at or before `t`, the selected and the window branch read the tokens up to `t`. -/
def tileVal (G0 G1 G2 : EReal) (t : Fin 128) (qr : Fin 64 → ℝ) (kr kw kc : ℕ → Fin 64 → ℝ) (V W U : ℕ → EReal) : EReal :=
  mean ((t.val - 15) / 16) (fun n => ∑ d, qr d * 8⁻¹ * kc n d) U * G0 + mean (t.val + 1) (fun n => ∑ d, qr d * 8⁻¹ * kr n d) V * G1 + mean (t.val + 1) (fun n => ∑ d, qr d * 8⁻¹ * kw n d) W * G2

set_option maxHeartbeats 4000000 in
theorem tile0 (c : Dev nD) (i : grid0.Coords) (hi : (i 1).val = 0) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11)
    (f : Bf (F := Ideal) c arg12) (r : Fin 256) (t : Fin 128) (qr : Fin 64 → ℝ) (kr kw kc : ℕ → Fin 64 → ℝ) (V W U : ℕ → EReal)
    (H : Reads (arg2.view.read (Elt Ideal) f2) (arg4.view.read (Elt Ideal) f4) (arg5.view.read (Elt Ideal) f5) (arg6.view.read (Elt Ideal) f6) (arg7.view.read (Elt Ideal) f7) (arg8.view.read (Elt Ideal) f8) (arg10.view.read (Elt Ideal) f10) (arg9.view.read (Elt Ideal) f9) (arg11.view.read (Elt Ideal) f11) 0 r t qr kr kw kc V W U) :
    arg12.view.read (Elt Ideal) (arg12.view.writes (Elt Ideal) f (kernel_first (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f2 f3 f4 f5 f6 f7 f8 f9 f10 f11).1) (ix2 ⟨0 + r.val, by omega⟩ t)
      = tileVal (arg3.view.read (Elt Ideal) f3 (ix3 0 (gt r 0) t)) (arg3.view.read (Elt Ideal) f3 (ix3 0 (gt r 1) t)) (arg3.view.read (Elt Ideal) f3 (ix3 0 (gt r 2) t)) t qr kr kw kc V W U := by
  have hc : k0_cond1 i = 1#1 := cond1_first i hi
  unfold kernel_first
  refine (View.read_writes_cons_unit_of_not_mem arg12.view f _ _ _ _ rfl 0 (Or.inl (by show 0 + r.val < 256; omega))).trans ?_
  unfold kernel_first.sl.H12_1
  refine (View.read_writes_cons_unit_of_mem arg12.view f _ _ _ _ (ix2 r t) rfl ?_).trans ?_
  · intro a; fin_cases a
    · rfl
    · exact (Nat.zero_add _).symm
  have hcol : (col r t).val / 128 = r.val / 64 := by show (r.val / 64 * 128 + t.val) / 128 = _; omega
  have htok : tok (col r t) = t := Fin.ext (by show (r.val / 64 * 128 + t.val) % 128 = _; omega)
  have hqs : ∀ d : Fin 64, kernel_first.sl.r_3 c arg2 f2 (ix2 ⟨d.val, by omega⟩ (col r t)) = ((qr d : ℝ) : EReal) * ((8⁻¹ * (Real.log 2)⁻¹ : ℝ) : EReal) := fun d => by
    unfold kernel_first.sl.r_3
    rw [q305, dif_pos (show d.val < 64 from d.isLt)]
    congr 1
    refine (rd c arg2 f2 _ _ _ _ rfl _ (ix2 ⟨256 * 0 + (64 * (r.val / 64) + d.val), by omega⟩ t) (fun a => ?_)).trans (H.q d)
    fin_cases a
    · show 256 * 0 + (64 * (r.val / 64) + d.val) = 0 + (64 * ((col r t).val / 128) + d.val); rw [hcol]
    · show t.val = 0 + (tok (col r t)).val; rw [htok]; omega
  have hqz : ∀ x : Fin 128, 64 ≤ x.val → kernel_first.sl.r_3 c arg2 f2 (ix2 x (col r t)) = (0 : EReal) := fun x hx => by
    unfold kernel_first.sl.r_3
    rw [q305, dif_neg (by omega)]
  have hD : ∀ n : Fin 128, kernel_first.sl.r_1 c arg5 f5 (ix2 n (col r t)) = if n.val ≤ t.val then (0 : EReal) else ⊥ := fun n => by
    unfold kernel_first.sl.r_1
    rw [m301, htok]
    exact (rd c arg5 f5 _ _ _ _ rfl _ (ix2 ⟨512 + n.val, by omega⟩ t) (fun a => by fin_cases a <;> first | rfl | exact (Nat.zero_add _).symm)).trans (H.m ⟨n.val, by omega⟩)
  have hDw : ∀ n : Fin 640, kernel_first.sl.r c i arg5 f5 (ix2 n (col r t)) = if n.val ≤ t.val then (0 : EReal) else ⊥ := fun n => by
    unfold kernel_first.sl.r
    rw [m300, htok]
    exact (rd c arg5 f5 _ _ _ _ (o1 i hi) _ (ix2 ⟨512 + n.val, by omega⟩ t) (fun a => by fin_cases a <;> first | rfl | exact (Nat.zero_add _).symm)).trans (H.m n)
  have hdiag := diag0 (dd r) (col r t) t.val qr kr V (kernel_first.sl.r_3 c arg2 f2) hqs hqz (kernel_first.sl.r_1 c arg5 f5)
    (View.readAt (Elt Ideal) arg8.view (Rect.unit (s := S2x16384x128) (k0_off4 i) S1x128x128.size (k0_off4_inb i)).toLoadRect f8)
    (View.readAt (Elt Ideal) arg9.view (Rect.unit (s := S2x72x16384) (k0_off8 i) S1x72x128.size (k0_off8_inb i)).toLoadRect f9) t.isLt hD
    (fun n d => (rd c arg8 f8 _ _ _ _ (o4 i hi) _ (ix3 0 ⟨n.val, by omega⟩ ⟨d.val, by omega⟩) (fun a => by fin_cases a <;> first | rfl | exact (Nat.zero_add _).symm)).trans (H.k n d))
    (fun n => (rd c arg9 f9 _ _ _ _ (o8 i hi) _ (ix3 0 (up (dd r)) ⟨n.val, by omega⟩) (fun a => by fin_cases a <;> first | rfl | exact (Nat.zero_add _).symm)).trans (H.v n))
    (fun n => (rd c arg9 f9 _ _ _ _ (o8 i hi) _ (ix3 0 64 ⟨n.val, by omega⟩) (fun a => by fin_cases a <;> first | rfl | exact (Nat.zero_add _).symm)).trans (H.v1 n))
  have hwin := win0 (dd r) (col r t) t.val qr kw W (kernel_first.sl.r_3 c arg2 f2) hqs hqz (kernel_first.sl.r c i arg5 f5)
    (View.readAt (Elt Ideal) arg10.view (Rect.unit (s := S2x16384x128) (k0_off6 i) S1x640x128.size (k0_off6_inb i)).toLoadRect f10)
    (View.readAt (Elt Ideal) arg11.view (Rect.unit (s := S2x72x16384) (k0_off9 i) S1x72x640.size (k0_off9_inb i)).toLoadRect f11) (by omega) hDw
    (fun n d => (rd c arg10 f10 _ _ _ _ (o6 i hi) _ (ix3 0 ⟨n.val, by omega⟩ ⟨d.val, by omega⟩) (fun a => by fin_cases a <;> first | rfl | exact (Nat.zero_add _).symm)).trans (H.kw n d))
    (fun n => (rd c arg11 f11 _ _ _ _ (o9 i hi) _ (ix3 0 (up (dd r)) ⟨n.val, by omega⟩) (fun a => by fin_cases a <;> first | rfl | exact (Nat.zero_add _).symm)).trans (H.vw n))
    (fun n => (rd c arg11 f11 _ _ _ _ (o9 i hi) _ (ix3 0 64 ⟨n.val, by omega⟩) (fun a => by fin_cases a <;> first | rfl | exact (Nat.zero_add _).symm)).trans (H.vw1 n))
  obtain ⟨⟨μ, hμ⟩, hdiv⟩ := hdiag
  have hlt : (col r t).val % 128 = t.val := by show (r.val / 64 * 128 + t.val) % 128 = _; omega
  have hmk : ∀ (j : Fin 4) (inb) (n : Fin 128), rM c i arg4 f4 (BitVec.ofNat 32 (128 * j.val)) inb (ix2 n (tok (col r t))) = if 16 * (128 * j.val + n.val) + 31 ≤ t.val then (0 : EReal) else ⊥ := fun j inb n => by
    rw [htok]
    exact (rd c arg4 f4 _ _ _ _ (o2 i hi j) _ (ix2 ⟨1024 + (128 * j.val + n.val), by omega⟩ t) (fun a => by fin_cases a <;> first | exact (Nat.add_assoc _ _ _).symm | exact (Nat.zero_add _).symm)).trans (H.mc ⟨128 * j.val + n.val, by omega⟩)
  have hcmp : kernel_first.sl.r_43 c i arg2 arg4 arg6 arg7 arg15 f2 f4 f6 f7 hc (ix2 (dd r) (col r t)) = mean ((t.val - 15) / 16) (fun n => ∑ d, qr d * 8⁻¹ * kc n d) U := by
    by_cases hl : t.val < 31
    · rw [← hlt] at hl
      have hR : kernel_first.sl.r_23 c i arg2 arg4 arg6 arg15 f2 f4 f6 hc (ix2 0 (col r t)) = (0 : EReal) := p49 i hi _ _ _ _ hl
      have hz : kernel_first.sl.r_43 c i arg2 arg4 arg6 arg7 arg15 f2 f4 f6 f7 hc (ix2 (dd r) (col r t)) = (0 : EReal) := p83 _ _ hR _ _ _ _ (p75 _ _ hR _ _ _ _ (p67 _ _ hR _ _ _ _ (p59 _ _ hR _ _ _)))
      rw [show (t.val - 15) / 16 = 0 by omega]
      exact hz.trans (by simp [mean])
    · refine (cmp0 c i hi arg2 arg4 arg6 arg7 arg15 f2 f4 f6 f7 hc (col r t) (dd r) (by omega) ?_ ?_ ?_).trans ?_
      · exact fun n => sc_bot _ _ _ _ n ((hmk 1 _ n).trans (if_neg (by show ¬ 16 * (128 * 1 + n.val) + 31 ≤ t.val; omega)))
      · exact fun n => sc_bot _ _ _ _ n ((hmk 2 _ n).trans (if_neg (by show ¬ 16 * (128 * 2 + n.val) + 31 ≤ t.val; omega)))
      · exact fun n => sc_bot _ _ _ _ n ((hmk 3 _ n).trans (if_neg (by show ¬ 16 * (128 * 3 + n.val) + 31 ≤ t.val; omega)))
      · refine sc_mean _ (fun n => rC c arg7 f7 0 0 inb_S2x128x1024_S1x64x128_0_0_0 (ix3 0 (dd r) n)) t.val (by omega) (by omega) (fun n => ∑ d, qr d * 8⁻¹ * kc n d) U ?_ ?_ _ ninf_val
        · exact sc_row _ _ _ (col r t) t.val kc qr (fun n d => (rd c arg6 f6 _ _ _ _ rfl _ (ix3 0 ⟨n.val, by omega⟩ ⟨d.val, by omega⟩) (fun a => by fin_cases a <;> first | rfl | exact (Nat.zero_add _).symm)).trans (H.kc n d)) hqs hqz
            (fun n => (hmk 0 _ n).trans (by rw [show 128 * ((0 : Fin 4) : ℕ) + n.val = n.val from Nat.zero_add _]))
        · exact fun n => (rd c arg7 f7 _ _ _ _ rfl _ (ix3 0 ⟨(dd r).val, by omega⟩ ⟨n.val, by omega⟩) (fun a => by fin_cases a <;> first | rfl | exact (Nat.zero_add _).symm)).trans (H.vc n)
  have hb1 : ∀ z, kernel_first.sl.v426 c i arg2 arg4 arg6 arg13 arg14 arg15 f2 f4 f6 hc z = (⊥ : EReal) := fun z => past _ _ _ (p326 i hi _ _ _ _) (p325 i hi _ _ _ _) rfl arg13 _ z
  have hb2 : ∀ z, kernel_first.sl.v440 c i arg2 arg4 arg6 arg13 arg14 arg15 f2 f4 f6 hc z = (⊥ : EReal) := fun z => past _ _ _ (p326 i hi _ _ _ _) (p325 i hi _ _ _ _) rfl arg13 _ z
  have hk1 : ∀ n : Fin 512, ∃ x : Fin 8, (View.readAt (Elt Ideal) arg8.view (Rect.unit (s := S2x16384x128) ![0, 0, 0] S1x512x128.size inb_S2x16384x128_S1x512x128_0_0_0).toLoadRect f8) (ix3 0 n (tag x)) = (1 : EReal) := fun n => by
    obtain ⟨x, hx⟩ := H.tag ⟨n.val, by omega⟩
    exact ⟨x, (rd c arg8 f8 _ _ _ _ rfl _ (ix3 0 ⟨n.val, by omega⟩ (tag x)) (fun a => by fin_cases a <;> first | rfl | exact (Nat.zero_add _).symm)).trans hx⟩
  have hk2 : ∀ n : Fin 512, ∃ x : Fin 8, (View.readAt (Elt Ideal) arg8.view (Rect.unit (s := S2x16384x128) ![0, 512, 0] S1x512x128.size inb_S2x16384x128_S1x512x128_0_512_0).toLoadRect f8) (ix3 0 n (tag x)) = (1 : EReal) := fun n => by
    obtain ⟨x, hx⟩ := H.tag ⟨512 + n.val, by omega⟩
    exact ⟨x, (rd c arg8 f8 _ _ _ _ rfl _ (ix3 0 ⟨512 + n.val, by omega⟩ (tag x)) (fun a => by fin_cases a <;> first | rfl | exact (Nat.zero_add _).symm)).trans hx⟩
  have e453 : kernel_first.sl.v453 c i arg2 arg4 arg6 arg8 arg13 arg14 arg15 arg16 f2 f4 f6 f8 hc = k0_pay338 k0_pay302 k0_pay303 (kernel_first.sl.r_2 c arg2 f2) (View.readAt (Elt Ideal) arg8.view (Rect.unit (s := S2x16384x128) ![0, 0, 0] S1x512x128.size inb_S2x16384x128_S1x512x128_0_0_0).toLoadRect f8) (kernel_first.sl.v426 c i arg2 arg4 arg6 arg13 arg14 arg15 f2 f4 f6 hc) := View.readCov_cons_toLoadRect arg16.view _ _ _
  have e519 : kernel_first.sl.v519 c i arg2 arg4 arg5 arg6 arg8 arg13 arg14 arg15 arg16 arg20 f2 f4 f5 f6 f8 hc = k0_pay345 (kernel_first.sl.r_71 c i arg2 arg4 arg5 arg6 arg8 arg13 arg14 arg15 arg16 f2 f4 f5 f6 f8 hc) := View.readCov_cons_toLoadRect arg20.view _ _ _
  have e523 : kernel_first.sl.v523 c i arg2 arg4 arg6 arg8 arg13 arg14 arg15 arg17 f2 f4 f6 f8 hc = k0_pay341 k0_pay302 k0_pay303 (kernel_first.sl.r_2 c arg2 f2) (View.readAt (Elt Ideal) arg8.view (Rect.unit (s := S2x16384x128) ![0, 512, 0] S1x512x128.size inb_S2x16384x128_S1x512x128_0_512_0).toLoadRect f8) (kernel_first.sl.v440 c i arg2 arg4 arg6 arg13 arg14 arg15 f2 f4 f6 hc) := View.readCov_cons_toLoadRect arg17.view _ _ _
  have e541 : kernel_first.sl.v541 c i arg2 arg4 arg5 arg6 arg8 arg13 arg14 arg15 arg17 arg21 f2 f4 f5 f6 f8 hc = k0_pay370 (kernel_first.sl.r_70 c i arg2 arg4 arg5 arg6 arg8 arg13 arg14 arg15 f2 f4 f5 f6 f8 hc) (kernel_first.sl.r_69 c i arg2 arg4 arg6 arg8 arg13 arg14 arg15 f2 f4 f6 f8 hc) (kernel_first.sl.v523 c i arg2 arg4 arg6 arg8 arg13 arg14 arg15 arg17 f2 f4 f6 f8 hc) := View.readCov_cons_toLoadRect arg21.view _ _ _
  have hsel : k0_pay371 (kernel_first.sl.r_70 c i arg2 arg4 arg5 arg6 arg8 arg13 arg14 arg15 f2 f4 f5 f6 f8 hc)
      (kernel_first.sl.r_77 c i arg2 arg4 arg5 arg6 arg8 arg9 arg13 arg14 arg15 arg16 arg20 f2 f4 f5 f6 f8 f9 hc)
      (kernel_first.sl.r_78 c i arg2 arg4 arg5 arg6 arg8 arg13 arg14 arg15 f2 f4 f5 f6 f8 hc)
      (View.readAt (Elt Ideal) arg9.view (Rect.unit (s := S2x72x16384) (k0_off37 i) S1x72x512.size (k0_off37_inb i)).toLoadRect f9)
      (kernel_first.sl.v541 c i arg2 arg4 arg5 arg6 arg8 arg13 arg14 arg15 arg17 arg21 f2 f4 f5 f6 f8 hc) (ix2 (dd r) (col r t)) = mean (t.val + 1) (fun n => ∑ d, qr d * 8⁻¹ * kr n d) V := by
    rw [e541, e523]
    unfold kernel_first.sl.r_77
    rw [e519]
    unfold kernel_first.sl.r_71
    rw [e453]
    exact (sel0 (dd r) (col r t) μ _ _ hμ _ _ _ _ _ _ _ hb1 hb2 hk1 hk2).trans hdiv
  refine (p377 _ _ _ _ _ _ _ _ r t).trans ?_
  exact comb3 hcmp (rd c arg3 f3 _ _ _ _ rfl _ (ix3 0 (gt r 0) t) (fun a => by fin_cases a <;> first | rfl | exact (Nat.zero_add _).symm)) hsel (rd c arg3 f3 _ _ _ _ rfl _ (ix3 0 (gt r 1) t) (fun a => by fin_cases a <;> first | rfl | exact (Nat.zero_add _).symm))
    hwin (rd c arg3 f3 _ _ _ _ rfl _ (ix3 0 (gt r 2) t) (fun a => by fin_cases a <;> first | rfl | exact (Nat.zero_add _).symm))
set_option maxHeartbeats 4000000 in
theorem tile1 (c : Dev nD) (i : grid0.Coords) (hi : (i 1).val = 0) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11)
    (f : Bf (F := Ideal) c arg12) (r : Fin 256) (t : Fin 128) (qr : Fin 64 → ℝ) (kr kw kc : ℕ → Fin 64 → ℝ) (V W U : ℕ → EReal)
    (H : Reads (arg2.view.read (Elt Ideal) f2) (arg4.view.read (Elt Ideal) f4) (arg5.view.read (Elt Ideal) f5) (arg6.view.read (Elt Ideal) f6) (arg7.view.read (Elt Ideal) f7) (arg8.view.read (Elt Ideal) f8) (arg10.view.read (Elt Ideal) f10) (arg9.view.read (Elt Ideal) f9) (arg11.view.read (Elt Ideal) f11) 1 r t qr kr kw kc V W U) :
    arg12.view.read (Elt Ideal) (arg12.view.writes (Elt Ideal) f (kernel_first (F := Ideal) c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f2 f3 f4 f5 f6 f7 f8 f9 f10 f11).1) (ix2 ⟨256 + r.val, by omega⟩ t)
      = tileVal (arg3.view.read (Elt Ideal) f3 (ix3 1 (gt r 0) t)) (arg3.view.read (Elt Ideal) f3 (ix3 1 (gt r 1) t)) (arg3.view.read (Elt Ideal) f3 (ix3 1 (gt r 2) t)) t qr kr kw kc V W U := by
  have hc : k0_cond1 i = 1#1 := cond1_first i hi
  unfold kernel_first
  refine (View.read_writes_cons_unit_of_mem arg12.view f _ _ _ _ (ix2 r t) rfl ?_).trans ?_
  · intro a; fin_cases a
    · rfl
    · exact (Nat.zero_add _).symm
  have hcol : (col r t).val / 128 = r.val / 64 := by show (r.val / 64 * 128 + t.val) / 128 = _; omega
  have htok : tok (col r t) = t := Fin.ext (by show (r.val / 64 * 128 + t.val) % 128 = _; omega)
  have hqs : ∀ d : Fin 64, kernel_first.sl.r_5 c arg2 f2 (ix2 ⟨d.val, by omega⟩ (col r t)) = ((qr d : ℝ) : EReal) * ((8⁻¹ * (Real.log 2)⁻¹ : ℝ) : EReal) := fun d => by
    unfold kernel_first.sl.r_5
    rw [q307, dif_pos (show d.val < 64 from d.isLt)]
    congr 1
    refine (rd c arg2 f2 _ _ _ _ rfl _ (ix2 ⟨256 * 1 + (64 * (r.val / 64) + d.val), by omega⟩ t) (fun a => ?_)).trans (H.q d)
    fin_cases a
    · show 256 * 1 + (64 * (r.val / 64) + d.val) = 256 + (64 * ((col r t).val / 128) + d.val); rw [hcol]
    · show t.val = 0 + (tok (col r t)).val; rw [htok]; omega
  have hqz : ∀ x : Fin 128, 64 ≤ x.val → kernel_first.sl.r_5 c arg2 f2 (ix2 x (col r t)) = (0 : EReal) := fun x hx => by
    unfold kernel_first.sl.r_5
    rw [q307, dif_neg (by omega)]
  have hD : ∀ n : Fin 128, kernel_first.sl.r_1 c arg5 f5 (ix2 n (col r t)) = if n.val ≤ t.val then (0 : EReal) else ⊥ := fun n => by
    unfold kernel_first.sl.r_1
    rw [m301, htok]
    exact (rd c arg5 f5 _ _ _ _ rfl _ (ix2 ⟨512 + n.val, by omega⟩ t) (fun a => by fin_cases a <;> first | rfl | exact (Nat.zero_add _).symm)).trans (H.m ⟨n.val, by omega⟩)
  have hDw : ∀ n : Fin 640, kernel_first.sl.r c i arg5 f5 (ix2 n (col r t)) = if n.val ≤ t.val then (0 : EReal) else ⊥ := fun n => by
    unfold kernel_first.sl.r
    rw [m300, htok]
    exact (rd c arg5 f5 _ _ _ _ (o1 i hi) _ (ix2 ⟨512 + n.val, by omega⟩ t) (fun a => by fin_cases a <;> first | rfl | exact (Nat.zero_add _).symm)).trans (H.m n)
  have hdiag := diag1 (dd r) (col r t) t.val qr kr V (kernel_first.sl.r_5 c arg2 f2) hqs hqz (kernel_first.sl.r_1 c arg5 f5)
    (View.readAt (Elt Ideal) arg8.view (Rect.unit (s := S2x16384x128) (k0_off5 i) S1x128x128.size (k0_off5_inb i)).toLoadRect f8)
    (View.readAt (Elt Ideal) arg9.view (Rect.unit (s := S2x72x16384) (k0_off10 i) S1x72x128.size (k0_off10_inb i)).toLoadRect f9) t.isLt hD
    (fun n d => (rd c arg8 f8 _ _ _ _ (o5 i hi) _ (ix3 1 ⟨n.val, by omega⟩ ⟨d.val, by omega⟩) (fun a => by fin_cases a <;> first | rfl | exact (Nat.zero_add _).symm)).trans (H.k n d))
    (fun n => (rd c arg9 f9 _ _ _ _ (o10 i hi) _ (ix3 1 (up (dd r)) ⟨n.val, by omega⟩) (fun a => by fin_cases a <;> first | rfl | exact (Nat.zero_add _).symm)).trans (H.v n))
    (fun n => (rd c arg9 f9 _ _ _ _ (o10 i hi) _ (ix3 1 64 ⟨n.val, by omega⟩) (fun a => by fin_cases a <;> first | rfl | exact (Nat.zero_add _).symm)).trans (H.v1 n))
  have hwin := win1 (dd r) (col r t) t.val qr kw W (kernel_first.sl.r_5 c arg2 f2) hqs hqz (kernel_first.sl.r c i arg5 f5)
    (View.readAt (Elt Ideal) arg10.view (Rect.unit (s := S2x16384x128) (k0_off7 i) S1x640x128.size (k0_off7_inb i)).toLoadRect f10)
    (View.readAt (Elt Ideal) arg11.view (Rect.unit (s := S2x72x16384) (k0_off11 i) S1x72x640.size (k0_off11_inb i)).toLoadRect f11) (by omega) hDw
    (fun n d => (rd c arg10 f10 _ _ _ _ (o7 i hi) _ (ix3 1 ⟨n.val, by omega⟩ ⟨d.val, by omega⟩) (fun a => by fin_cases a <;> first | rfl | exact (Nat.zero_add _).symm)).trans (H.kw n d))
    (fun n => (rd c arg11 f11 _ _ _ _ (o11 i hi) _ (ix3 1 (up (dd r)) ⟨n.val, by omega⟩) (fun a => by fin_cases a <;> first | rfl | exact (Nat.zero_add _).symm)).trans (H.vw n))
    (fun n => (rd c arg11 f11 _ _ _ _ (o11 i hi) _ (ix3 1 64 ⟨n.val, by omega⟩) (fun a => by fin_cases a <;> first | rfl | exact (Nat.zero_add _).symm)).trans (H.vw1 n))
  obtain ⟨⟨μ, hμ⟩, hdiv⟩ := hdiag
  have hlt : (col r t).val % 128 = t.val := by show (r.val / 64 * 128 + t.val) % 128 = _; omega
  have hmk : ∀ (j : Fin 4) (inb) (n : Fin 128), rM c i arg4 f4 (BitVec.ofNat 32 (128 * j.val)) inb (ix2 n (tok (col r t))) = if 16 * (128 * j.val + n.val) + 31 ≤ t.val then (0 : EReal) else ⊥ := fun j inb n => by
    rw [htok]
    exact (rd c arg4 f4 _ _ _ _ (o2 i hi j) _ (ix2 ⟨1024 + (128 * j.val + n.val), by omega⟩ t) (fun a => by fin_cases a <;> first | exact (Nat.add_assoc _ _ _).symm | exact (Nat.zero_add _).symm)).trans (H.mc ⟨128 * j.val + n.val, by omega⟩)
  have hcmp : kernel_first.sl.r_46 c i arg2 arg4 arg6 arg7 arg15 f2 f4 f6 f7 hc (ix2 (dd r) (col r t)) = mean ((t.val - 15) / 16) (fun n => ∑ d, qr d * 8⁻¹ * kc n d) U := by
    by_cases hl : t.val < 31
    · rw [← hlt] at hl
      have hR : kernel_first.sl.r_26 c i arg2 arg4 arg6 arg15 f2 f4 f6 hc (ix2 0 (col r t)) = (0 : EReal) := p52 i hi _ _ hl
      have hz : kernel_first.sl.r_46 c i arg2 arg4 arg6 arg7 arg15 f2 f4 f6 f7 hc (ix2 (dd r) (col r t)) = (0 : EReal) := p88 _ _ hR _ _ _ _ (p80 _ _ hR _ _ _ _ (p72 _ _ hR _ _ _ _ (p64 _ _ hR _ _ _ _ (p53 _ _))))
      rw [show (t.val - 15) / 16 = 0 by omega]
      exact hz.trans (by simp [mean])
    · refine (cmp1 c i hi arg2 arg4 arg6 arg7 arg15 f2 f4 f6 f7 hc (col r t) (dd r) (by omega) ?_ ?_ ?_).trans ?_
      · exact fun n => sc_bot _ _ _ _ n ((hmk 1 _ n).trans (if_neg (by show ¬ 16 * (128 * 1 + n.val) + 31 ≤ t.val; omega)))
      · exact fun n => sc_bot _ _ _ _ n ((hmk 2 _ n).trans (if_neg (by show ¬ 16 * (128 * 2 + n.val) + 31 ≤ t.val; omega)))
      · exact fun n => sc_bot _ _ _ _ n ((hmk 3 _ n).trans (if_neg (by show ¬ 16 * (128 * 3 + n.val) + 31 ≤ t.val; omega)))
      · refine sc_mean _ (fun n => rC c arg7 f7 1 0 inb_S2x128x1024_S1x64x128_1_0_0 (ix3 0 (dd r) n)) t.val (by omega) (by omega) (fun n => ∑ d, qr d * 8⁻¹ * kc n d) U ?_ ?_ _ ninf_val
        · exact sc_row _ _ _ (col r t) t.val kc qr (fun n d => (rd c arg6 f6 _ _ _ _ rfl _ (ix3 1 ⟨n.val, by omega⟩ ⟨d.val, by omega⟩) (fun a => by fin_cases a <;> first | rfl | exact (Nat.zero_add _).symm)).trans (H.kc n d)) hqs hqz
            (fun n => (hmk 0 _ n).trans (by rw [show 128 * ((0 : Fin 4) : ℕ) + n.val = n.val from Nat.zero_add _]))
        · exact fun n => (rd c arg7 f7 _ _ _ _ rfl _ (ix3 1 ⟨(dd r).val, by omega⟩ ⟨n.val, by omega⟩) (fun a => by fin_cases a <;> first | rfl | exact (Nat.zero_add _).symm)).trans (H.vc n)
  have hb1 : ∀ z, kernel_first.sl.v465 c i arg2 arg4 arg6 arg13 arg14 arg15 f2 f4 f6 hc z = (⊥ : EReal) := fun z => past _ _ _ (p326 i hi _ _ _ _) (p325 i hi _ _ _ _) rfl arg13 _ z
  have hb2 : ∀ z, kernel_first.sl.v479 c i arg2 arg4 arg6 arg13 arg14 arg15 f2 f4 f6 hc z = (⊥ : EReal) := fun z => past _ _ _ (p326 i hi _ _ _ _) (p325 i hi _ _ _ _) rfl arg13 _ z
  have hk1 : ∀ n : Fin 512, ∃ x : Fin 8, (View.readAt (Elt Ideal) arg8.view (Rect.unit (s := S2x16384x128) ![1, 0, 0] S1x512x128.size inb_S2x16384x128_S1x512x128_1_0_0).toLoadRect f8) (ix3 0 n (tag x)) = (1 : EReal) := fun n => by
    obtain ⟨x, hx⟩ := H.tag ⟨n.val, by omega⟩
    exact ⟨x, (rd c arg8 f8 _ _ _ _ rfl _ (ix3 1 ⟨n.val, by omega⟩ (tag x)) (fun a => by fin_cases a <;> first | rfl | exact (Nat.zero_add _).symm)).trans hx⟩
  have hk2 : ∀ n : Fin 512, ∃ x : Fin 8, (View.readAt (Elt Ideal) arg8.view (Rect.unit (s := S2x16384x128) ![1, 512, 0] S1x512x128.size inb_S2x16384x128_S1x512x128_1_512_0).toLoadRect f8) (ix3 0 n (tag x)) = (1 : EReal) := fun n => by
    obtain ⟨x, hx⟩ := H.tag ⟨512 + n.val, by omega⟩
    exact ⟨x, (rd c arg8 f8 _ _ _ _ rfl _ (ix3 1 ⟨512 + n.val, by omega⟩ (tag x)) (fun a => by fin_cases a <;> first | rfl | exact (Nat.zero_add _).symm)).trans hx⟩
  have e616 : kernel_first.sl.v616 c i arg2 arg4 arg5 arg6 arg8 arg13 arg14 arg15 arg18 arg22 f2 f4 f5 f6 f8 hc = k0_pay354 (kernel_first.sl.r_75 c i arg2 arg4 arg5 arg6 arg8 arg13 arg14 arg15 f2 f4 f5 f6 f8 hc) (k0_pay348 k0_pay302 k0_pay303 (kernel_first.sl.r_4 c arg2 f2) (View.readAt (Elt Ideal) arg8.view (Rect.unit (s := S2x16384x128) ![1, 0, 0] S1x512x128.size inb_S2x16384x128_S1x512x128_1_0_0).toLoadRect f8) (kernel_first.sl.v465 c i arg2 arg4 arg6 arg13 arg14 arg15 f2 f4 f6 hc)) :=
    (View.readCov_cons_toLoadRect arg22.view _ _ _).trans (congrArg (k0_pay354 (kernel_first.sl.r_75 c i arg2 arg4 arg5 arg6 arg8 arg13 arg14 arg15 f2 f4 f5 f6 f8 hc)) (View.readCov_cons_toLoadRect arg18.view _ _ _))
  have e620 : kernel_first.sl.v620 c i arg2 arg4 arg6 arg8 arg13 arg14 arg15 arg19 f2 f4 f6 f8 hc = k0_pay351 k0_pay302 k0_pay303 (kernel_first.sl.r_4 c arg2 f2) (View.readAt (Elt Ideal) arg8.view (Rect.unit (s := S2x16384x128) ![1, 512, 0] S1x512x128.size inb_S2x16384x128_S1x512x128_1_512_0).toLoadRect f8) (kernel_first.sl.v479 c i arg2 arg4 arg6 arg13 arg14 arg15 f2 f4 f6 hc) := View.readCov_cons_toLoadRect arg19.view _ _ _
  have e638 : kernel_first.sl.v638 c i arg2 arg4 arg5 arg6 arg8 arg13 arg14 arg15 arg19 arg23 f2 f4 f5 f6 f8 hc = kernel_first.sl.r_87 c i arg2 arg4 arg5 arg6 arg8 arg13 arg14 arg15 arg19 f2 f4 f5 f6 f8 hc := View.readCov_cons_toLoadRect arg23.view _ _ _
  have hsel : k0_pay381 (kernel_first.sl.r_75 c i arg2 arg4 arg5 arg6 arg8 arg13 arg14 arg15 f2 f4 f5 f6 f8 hc)
      (kernel_first.sl.r_85 c i arg2 arg4 arg5 arg6 arg8 arg9 arg13 arg14 arg15 arg18 arg22 f2 f4 f5 f6 f8 f9 hc)
      (kernel_first.sl.r_86 c i arg2 arg4 arg5 arg6 arg8 arg13 arg14 arg15 f2 f4 f5 f6 f8 hc)
      (View.readAt (Elt Ideal) arg9.view (Rect.unit (s := S2x72x16384) (k0_off39 i) S1x72x512.size (k0_off39_inb i)).toLoadRect f9)
      (kernel_first.sl.v638 c i arg2 arg4 arg5 arg6 arg8 arg13 arg14 arg15 arg19 arg23 f2 f4 f5 f6 f8 hc) (ix2 (dd r) (col r t)) = mean (t.val + 1) (fun n => ∑ d, qr d * 8⁻¹ * kr n d) V := by
    rw [e638]
    unfold kernel_first.sl.r_87 kernel_first.sl.r_85
    rw [e616, e620]
    exact (sel1 (dd r) (col r t) μ _ _ hμ _ _ _ _ _ _ _ hb1 hb2 hk1 hk2).trans hdiv
  refine (p1 _ _ _ _ _ _ _ _ r t).trans ?_
  exact comb3 hcmp (rd c arg3 f3 _ _ _ _ rfl _ (ix3 1 (gt r 0) t) (fun a => by fin_cases a <;> first | rfl | exact (Nat.zero_add _).symm)) hsel (rd c arg3 f3 _ _ _ _ rfl _ (ix3 1 (gt r 1) t) (fun a => by fin_cases a <;> first | rfl | exact (Nat.zero_add _).symm))
    hwin (rd c arg3 f3 _ _ _ _ rfl _ (ix3 1 (gt r 2) t) (fun a => by fin_cases a <;> first | rfl | exact (Nat.zero_add _).symm))

end Cert.Proof.KernelIdeal

end
-- ==== Proof.Value.First.lean ====
module

public import proofs.«01_k».proof.Proof.Value.Tile
public import proofs.«01_k».proof.Proof.Frame.KernelIdealRun
public import Idealize.ShloMosaic.Lib.Pipeline.DatRel
public import Idealize.ShloMosaic.Lib.Pipeline.ArrRel

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Value
open Idealize.ShloMosaic.Pipeline (Dat Cfg Window BodyObligationLoose BodyObligationRel cellOf)

local notation "𝕄" => MT nD τ sig Unit (Elt Ideal) ℕ (UR sig nD τ) ℕ

/-- What the result's buffer holds after the body at a point of the first tile. -/
def TileOk (x2 : Vec Ideal S512x128 .f32) (x3 : Vec Ideal S2x16x128 .f32) (x4 : Vec Ideal S2048x128 .f32) (x5 : Vec Ideal S1152x128 .f32) (x6 : Vec Ideal S2x1024x128 .bf16) (x7 : Vec Ideal S2x128x1024 .bf16) (x8 x10 : Vec Ideal S2x16384x128 .bf16)
    (x9 x11 : Vec Ideal S2x72x16384 .bf16) (d : Vec Ideal S512x128 .bf16) : Prop :=
  ∀ (g : Fin 2) (r : Fin 256) (t : Fin 128) (qr : Fin 64 → ℝ) (kr kw kc : ℕ → Fin 64 → ℝ) (V W U : ℕ → EReal),
    Reads x2 x4 x5 x6 x7 x8 x10 x9 x11 g r t qr kr kw kc V W U →
    d (ix2 ⟨256 * g.val + r.val, by omega⟩ t) = tileVal (x3 (ix3 g (gt r 0) t)) (x3 (ix3 g (gt r 1) t)) (x3 (ix3 g (gt r 2) t)) t qr kr kw kc V W U

/-- The body at a point of the first tile, over the buffers' contents as the kernel reads them. -/
theorem body_first (c : Dev nD) (i : grid0.Coords) (hi : (i 1).val = 0) (arg2 : Memref sig .tc .vmem S512x128 .f32) (harg2 : arg2.IsWhole) (arg3 : Memref sig .tc .vmem S2x16x128 .f32) (harg3 : arg3.IsWhole) (arg4 : Memref sig .tc .vmem S2048x128 .f32) (harg4 : arg4.IsWhole) (arg5 : Memref sig .tc .vmem S1152x128 .f32) (harg5 : arg5.IsWhole) (arg6 : Memref sig .tc .vmem S2x1024x128 .bf16) (harg6 : arg6.IsWhole) (arg7 : Memref sig .tc .vmem S2x128x1024 .bf16) (harg7 : arg7.IsWhole) (arg8 : Memref sig .tc .vmem S2x16384x128 .bf16) (harg8 : arg8.IsWhole) (arg9 : Memref sig .tc .vmem S2x72x16384 .bf16) (harg9 : arg9.IsWhole) (arg10 : Memref sig .tc .vmem S2x16384x128 .bf16) (harg10 : arg10.IsWhole) (arg11 : Memref sig .tc .vmem S2x72x16384 .bf16) (harg11 : arg11.IsWhole) (arg12 : Memref sig .tc .vmem S512x128 .bf16) (harg12 : arg12.IsWhole) (arg13 : Memref sig .tc .vmem S2x256x512 .f32) (harg13 : arg13.IsWhole) (arg14 : Memref sig .tc .vmem S2x1032x128 .f32) (harg14 : arg14.IsWhole) (arg15 : Memref sig .tc .vmem S2x1024x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (x2 : Vec Ideal S512x128 .f32) (x3 : Vec Ideal S2x16x128 .f32) (x4 : Vec Ideal S2048x128 .f32) (x5 : Vec Ideal S1152x128 .f32) (x6 : Vec Ideal S2x1024x128 .bf16) (x7 : Vec Ideal S2x128x1024 .bf16) (x8 : Vec Ideal S2x16384x128 .bf16) (x9 : Vec Ideal S2x72x16384 .bf16) (x10 : Vec Ideal S2x16384x128 .bf16) (x11 : Vec Ideal S2x72x16384 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, ⌜TileOk x2 x3 x4 x5 x6 x7 x8 x10 x9 x11 d⌝ ∗ owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f)) -∗ K ⟨⟩))
      ⊢ wp Idealize.ShloMosaic.frame (wpE (defs₀ (F := Ideal)) Variants.none c none) Set.univ (cc0_nsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, H13, H14, H15, H16, H17, H18, H19, H20, H21, H22, H23, Hk⟩
  iapply ((kernel_first c i hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f2 f3 f4 f5 f6 f7 f8 f9 f10 f11).2 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, H8, H9, H10, H11, ⟨%g12, H12⟩, H13, H14, H15, H16, H17, H18, H19, H20, H21, H22, H23⟩
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap
    · iexists _; isplitr; swap; · iexact H12
      ipureintro; rfl
    ipureintro
    subst hf2 hf3 hf4 hf5 hf6 hf7 hf8 hf9 hf10 hf11
    intro g r t qr kr kw kc V W U H
    fin_cases g
    · exact (at2 _ (by show 256 * 0 + r.val = 0 + r.val; omega) rfl).trans (tile0 _ _ _ _ _ _ _ _ _ _ _ _ _ _ _ _ _ _ _ _ _ _ _ _ _ _ _ _ _ _ _ _ _ _ _ _ _ _ _ _ _ _ _ _ _ _ _ _ _ _ _ _ _ _ _ _ _ _ r t qr kr kw kc V W U H)
    · exact tile1 _ _ _ _ _ _ _ _ _ _ _ _ _ _ _ _ _ _ _ _ _ _ _ _ _ _ _ _ _ _ _ _ _ _ _ _ _ _ _ _ _ _ _ _ _ _ _ _ _ _ _ _ _ _ _ _ _ _ r t qr kr kw kc V W U H
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

variable (m : (ℓ : Loc nD τ sig) → Buf (Elt Ideal) ℓ) (ρ : Dev nD → PrngReg)

/-- What is said of the result's buffer after the body at point `t`. -/
def RlTile (c : Dev nD) (t : Fin cfg0.N) (X : Vec Ideal S512x128 .bf16) : Prop :=
  (grid0.coords t 1).val = 0 → TileOk (iblk m c 0 t) (iblk m c 1 t) (iblk m c 2 t) (iblk m c 3 t) (iblk m c 4 t) (iblk m c 5 t) (iblk m c 6 t) (iblk m c 8 t) (iblk m c 7 t) (iblk m c 9 t) X

def Rl (c : Dev nD) (w : Fin cfg0.W) (t : Fin cfg0.N) (X : (cfg0.win w).block.Idx → Elt Ideal (cfg0.win w).elt) : Prop :=
  match w with
  | ⟨10, _⟩ => RlTile m c t X
  | ⟨_, _⟩ => True

/-- What the body is called with at point `t`, window by window, -/
def firstPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ Y, ⌜((dats m 0 c).toRRel fgt (Rl m c)).Finds 10 t Y⌝ ∗ owns (c : Thread nD τ) (st0_10 t) fullShare Y))

/-- and what it returns. -/
def firstPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, ⌜RlTile m c t X⌝ ∗ owns (c : Thread nD τ) (st0_10 t) fullShare X))

set_option maxHeartbeats 2000000 in
/-- The body at any point, whichever tile it is of. -/
theorem sound_first (c : Dev nD) (t : Fin cfg0.N) :
    firstPre m c t ⊢ wp Idealize.ShloMosaic.frame (wpE (defs₀ (F := Ideal)) Variants.none c none) Set.univ (bodyAt0 t) (fun _ => firstPost m c t) := by
  unfold firstPre firstPost bodyAt0
  simp only [before0_0, before0_1, before0_2, before0_3, before0_4, before0_5, before0_6, before0_7, before0_8, before0_9]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3, after0_4, after0_5, after0_6, after0_7, after0_8, after0_9]
  unfold Pipeline.ΦA
  rw [scopedRest0_eq]
  iintro ⟨⟨⟨S13, S14, S15, S16, S17, S18, S19, S20, S21, S22, S23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, -, H10⟩⟩
  by_cases hi : (grid0.coords t 1).val = 0
  · iapply (body_first c (grid0.coords t) hi _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    iintro ⟨H0, H1, H2, H3, H4, H5, H6, H7, H8, H9, ⟨%X', %hX, H10⟩, S13, S14, S15, S16, S17, S18, S19, S20, S21, S22, S23⟩
    isplitl [Hg S13 S14 S15 S16 S17 S18 S19 S20 S21 S22 S23]
    · isplitr [Hg]
      · isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        iexact S23
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr; swap; · iexact H10
    ipureintro; exact fun _ => hX
  · iapply (body_owned c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    iintro ⟨H0, H1, H2, H3, H4, H5, H6, H7, H8, H9, ⟨%X', H10⟩, S13, S14, S15, S16, S17, S18, S19, S20, S21, S22, S23⟩
    isplitl [Hg S13 S14 S15 S16 S17 S18 S19 S20 S21 S22 S23]
    · isplitr [Hg]
      · isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        iexact S23
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr; swap; · iexact H10
    ipureintro; exact fun h => absurd h hi

theorem first_obligation (c : Dev nD) : BodyObligationRel (dats (F := Ideal) m 0 c) (defs₀ (F := Ideal)) Variants.none () Set.univ fgt (Rl m c) := fun t => by
  rw [bigSep_W0, bigSep_W0, defs₀_row]
  exact triple_restated (sound_first m c t) rfl .rfl fun _ => .rfl

set_option backward.isDefEq.respectTransparency.types false in
set_option maxRecDepth 8192 in
/-- Every weakly fair execution ends, with the result's array as its points left it. -/
theorem run_first : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame cfgs (0 : Fin 1) launch0 defs₀ Variants.none (fun c => (dats m 0 c).toRRel fgt (Rl m c)) m ρ main
    (fun c => (first_obligation m c).toRRel) (fun c => (dats m 0 c).share_full fun _ => rfl) (fun _ _ => rfl) (V m) (hmain m Variants.none) (A_eq m) (fun _ _ => rfl) _ (fun _ h => h)

end Cert.Proof.KernelIdeal

end
-- ==== Proof.Value.Spec.lean ====
module

public import proofs.«01_k».proof.Proof.Value.Math

@[expose] public section

noncomputable section

namespace Cert.Proof.Value

open Idealize.ShloMosaic

/-- Token `n`'s row. -/
abbrev lo (n : ℕ) : Fin 16384 := ⟨n % 16384, Nat.mod_lt _ (by decide)⟩
/-- The query's column `d` of the head of the result's row `R`. -/
abbrev qcol (R : Fin 1024) (d : Fin 64) : Fin 1024 := ⟨64 * (R.val / 64) + d.val, by omega⟩
/-- The key's column `d` of the key and value group of the result's row `R`. -/
abbrev kcol (R : Fin 1024) (d : Fin 64) : Fin 256 := ⟨64 * (R.val / 256) + d.val, by omega⟩
/-- The value's column of the result's row `R`. -/
abbrev vcol (R : Fin 1024) : Fin 256 := ⟨64 * (R.val / 256) + R.val % 64, by omega⟩
/-- Gate `b` of the head of the result's row `R`. -/
abbrev gcol (R : Fin 1024) (b : Fin 3) : Fin 48 := ⟨3 * (R.val / 64) + b.val, by omega⟩

/-- The score of key `n` of the keys `K` for the head of the result's row `R` at token `T`. -/
def scoreOf (Q : Vec Ideal ⟨2, ![16384, 1024]⟩ .f32) (K : Vec Ideal ⟨2, ![16384, 256]⟩ .f32) (R : Fin 1024) (T : Fin 16384) (n : ℕ) : ℝ :=
  ∑ d : Fin 64, (Q (ix2 T (qcol R d))).toReal * 8⁻¹ * (K (ix2 (lo n) (kcol R d))).toReal

/-- Compressed block `n`'s row. -/
abbrev lob (n : ℕ) : Fin 1024 := ⟨n % 1024, Nat.mod_lt _ (by decide)⟩
/-- The key and value group of the result's row `R`. -/
abbrev kvg (R : Fin 1024) : Fin 4 := ⟨R.val / 256, by omega⟩
/-- The value's column of the result's row `R` within its head. -/
abbrev vrow (R : Fin 1024) : Fin 64 := ⟨R.val % 64, by omega⟩

/-- The score of compressed block `n` of the keys `K` for the head of the result's row `R` at token `T`. -/
def cmpScore (Q : Vec Ideal ⟨2, ![16384, 1024]⟩ .f32) (K : Vec Ideal ⟨3, ![4, 1024, 64]⟩ .f32) (R : Fin 1024) (T : Fin 16384) (n : ℕ) : ℝ :=
  ∑ d : Fin 64, (Q (ix2 T (qcol R d))).toReal * 8⁻¹ * (K (ix3 (kvg R) (lob n) d)).toReal

/-- The result's row `R` at a token `T` below 128: the compressed branch reads the `(T - 15) / 16` blocks complete at `T`
    (none below 31), the selected and the window branch both read every token up to `T`. -/
def tokVal (Q : Vec Ideal ⟨2, ![16384, 1024]⟩ .f32) (G : Vec Ideal ⟨2, ![16384, 48]⟩ .f32) (KC VC : Vec Ideal ⟨3, ![4, 1024, 64]⟩ .f32)
    (KS VS KW VW : Vec Ideal ⟨2, ![16384, 256]⟩ .f32) (R : Fin 1024) (T : Fin 16384) : EReal :=
  mean ((T.val - 15) / 16) (cmpScore Q KC R T) (fun n => VC (ix3 (kvg R) (lob n) (vrow R))) * G (ix2 T (gcol R 0))
    + mean (T.val + 1) (scoreOf Q KS R T) (fun n => VS (ix2 (lo n) (vcol R))) * G (ix2 T (gcol R 1))
    + mean (T.val + 1) (scoreOf Q KW R T) (fun n => VW (ix2 (lo n) (vcol R))) * G (ix2 T (gcol R 2))

end Cert.Proof.Value

end
-- ==== Proof.Value.Host.lean ====
module

public import proofs.«01_k».proof.Proof.Value.First
public import proofs.«01_k».proof.Proof.Value.Spec
public import Idealize.ShloMosaic.Lib.Pipeline.ValueKit
public import Idealize.ShloMosaic.Lib.StableHlo.ReadAt

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Cert.Proof.Value

variable (m : (ℓ : Loc nD τ sig) → Buf (Elt Ideal) ℓ)

/-! The arrays that the region finds, read at an index. -/

theorem V_v0 (c : Dev nD) (r : Fin 1024) (t : Fin 16384) :
    V m c main_v0 (ix2 r t) = m ((c : Thread nD τ).loc main_arg0) (ix2 t r) := by
  unfold V
  after_reads_at

theorem V_v3 (c : Dev nD) (g : Fin 4) (x : Fin 16) (hx : x.val < 12) (t : Fin 16384) (y : Fin 48) (hy : y.val = 12 * g.val + x.val) :
    V m c main_v3 (ix3 g x t) = m ((c : Thread nD τ).loc main_arg1) (ix2 t y) := by
  unfold V
  after_reads_at
  rw [dif_pos hx]
  exact congrArg (fun z => m ((c : Thread nD τ).loc main_arg1) (ix2 t z)) (Fin.ext (by simp only [hy]; omega))

theorem V_v29 (c : Dev nD) (g : Fin 4) (n : Fin 16384) (d : Fin 128) (hd : d.val < 64) (y : Fin 256) (hy : y.val = 64 * g.val + d.val) :
    V m c main_v29 (ix3 g n d) = m ((c : Thread nD τ).loc main_arg6) (ix2 n y) := by
  unfold V
  after_reads_at
  rw [dif_pos hd]
  after_reads_at
  exact congrArg (fun z => m ((c : Thread nD τ).loc main_arg6) (ix2 n z)) (Fin.ext (by simp only [hy]; omega))

theorem V_v25 (c : Dev nD) (g : Fin 4) (n : Fin 16384) (d : Fin 128) (hd : d.val < 64) (y : Fin 256) (hy : y.val = 64 * g.val + d.val) :
    V m c main_v25 (ix3 g n d) = m ((c : Thread nD τ).loc main_arg4) (ix2 n y) := by
  unfold V
  after_reads_at
  rw [dif_pos hd]
  after_reads_at
  exact congrArg (fun z => m ((c : Thread nD τ).loc main_arg4) (ix2 n z)) (Fin.ext (by simp only [hy]; omega))

theorem block_tag (n : ℕ) (hn : n < 16384) :
    IntOp.andi (IntOp.shrsi .host (BitVec.ofNat 32 n) 6#32) 7#32 = BitVec.ofNat 32 (n / 64 % 8) := by
  have e : (IntOp.shrsi .host (BitVec.ofNat 32 n) 6#32) = BitVec.ofNat 32 (n / 64) := by
    show BitVec.sshiftRight _ _ = _
    rw [BitVec.sshiftRight_eq_of_msb_false (by rw [BitVec.msb_eq_false_iff_two_mul_lt, BitVec.toNat_ofNat]; omega)]
    apply BitVec.eq_of_toNat_eq
    rw [BitVec.toNat_ushiftRight, BitVec.toNat_ofNat, BitVec.toNat_ofNat, Nat.shiftRight_eq_div_pow]
    have : 6 % 2 ^ 32 = 6 := by norm_num
    rw [BitVec.toNat_ofNat, this]
    omega
  rw [e]
  apply BitVec.eq_of_toNat_eq
  show (BitVec.ofNat 32 (n / 64) &&& 7#32).toNat = _
  rw [BitVec.toNat_and, BitVec.toNat_ofNat, BitVec.toNat_ofNat, BitVec.toNat_ofNat]
  have : 7 % 2 ^ 32 = 2 ^ 3 - 1 := by norm_num
  rw [this, Nat.and_two_pow_sub_one_eq_mod]
  omega

theorem V_v25_tag (c : Dev nD) (g : Fin 4) (n : Fin 16384) (d : Fin 128) (hd : ¬ d.val < 64) (hd' : d.val - 64 < 8)
    (h : d.val - 64 = n.val / 64 % 8) :
    V m c main_v25 (ix3 g n d) = (1 : EReal) := by
  unfold V
  after_reads_at
  rw [dif_neg hd, dif_pos hd']
  after_reads_at
  simp only [id]
  pointwise
  rw [block_tag n.val n.isLt, h, WordCmp.cmpi_eq_ofNat (by omega) (by omega)]
  simp [Scalar.select, Ideal.ofBits, Ideal.ieee]

theorem V_v43 (c : Dev nD) (g : Fin 4) (n : Fin 16384) (d : Fin 72) (hd : d.val < 64) (y : Fin 256) (hy : y.val = 64 * g.val + d.val) :
    V m c main_v43 (ix3 g d n) = m ((c : Thread nD τ).loc main_arg7) (ix2 n y) := by
  unfold V
  after_reads_at
  rw [dif_pos hd]
  after_reads_at
  exact congrArg (fun z => m ((c : Thread nD τ).loc main_arg7) (ix2 n z)) (Fin.ext (by simp only [hy]; omega))

theorem V_v43_ones (c : Dev nD) (g : Fin 4) (n : Fin 16384) :
    V m c main_v43 (ix3 g (64 : Fin 72) n) = (1 : EReal) := by
  unfold V
  after_reads_at
  after_reads_at

theorem V_v36 (c : Dev nD) (g : Fin 4) (n : Fin 16384) (d : Fin 72) (hd : d.val < 64) (y : Fin 256) (hy : y.val = 64 * g.val + d.val) :
    V m c main_v36 (ix3 g d n) = m ((c : Thread nD τ).loc main_arg5) (ix2 n y) := by
  unfold V
  after_reads_at
  rw [dif_pos hd]
  after_reads_at
  exact congrArg (fun z => m ((c : Thread nD τ).loc main_arg5) (ix2 n z)) (Fin.ext (by simp only [hy]; omega))

theorem V_v36_ones (c : Dev nD) (g : Fin 4) (n : Fin 16384) :
    V m c main_v36 (ix3 g (64 : Fin 72) n) = (1 : EReal) := by
  unfold V
  after_reads_at
  after_reads_at

theorem V_v73 (c : Dev nD) (r : Fin 1152) (q : Fin 128) :
    V m c main_v73 (ix2 r q) = if q.val < r.val ∧ r.val ≤ q.val + 512 then (0 : EReal) else ⊥ := by
  unfold V
  after_reads_at
  simp only [id]
  pointwise
  have e : IntOp.addi (BitVec.ofNat 32 q.val) 512#32 = BitVec.ofNat 32 (q.val + 512) := (BitVec.ofNat_add _ _).symm
  rw [e, WordCmp.cmpi_slt_ofNat (by omega) (by omega), WordCmp.cmpi_sle_ofNat (by omega) (by omega), WordCmp.andi_ofBool, ← Bool.decide_and]
  by_cases h : q.val < r.val ∧ r.val ≤ q.val + 512
  · rw [if_pos h, decide_eq_true h]; rfl
  · rw [if_neg h, decide_eq_false h]; exact ninf_val

theorem end_word (n : ℕ) (hn : n < 1024) :
    IntOp.subi (IntOp.addi (IntOp.muli 16#32 (IntOp.subi (BitVec.ofNat 32 (1024 + n)) 1024#32)) 32#32) 1#32 = BitVec.ofNat 32 (16 * n + 31) := by
  apply BitVec.eq_of_toNat_eq
  simp only [IntOp.subi, IntOp.addi, IntOp.muli, BitVec.toNat_sub, BitVec.toNat_add, BitVec.toNat_mul, BitVec.toNat_ofNat]
  omega

theorem V_v60 (c : Dev nD) (n : Fin 512) (r : Fin 2048) (hr : r.val = 1024 + n.val) (q : Fin 128) :
    V m c main_v60 (ix2 r q) = if 16 * n.val + 31 ≤ q.val then (0 : EReal) else ⊥ := by
  unfold V
  after_reads_at
  simp only [id]
  pointwise
  rw [hr, end_word n.val (by omega), WordCmp.cmpi_sle_ofNat (by omega) (by omega)]
  by_cases h : 16 * n.val + 31 ≤ q.val
  · rw [if_pos h, decide_eq_true h]; rfl
  · rw [if_neg h, decide_eq_false h]; exact ninf_val

theorem V_v5 (c : Dev nD) (g : Fin 4) (n : Fin 1024) (d : Fin 128) (hd : d.val < 64) :
    V m c main_v5 (ix3 g n d) = m ((c : Thread nD τ).loc main_arg2) (ix3 g n (⟨d.val, hd⟩ : Fin 64)) := by
  unfold V
  after_reads_at
  rw [dif_pos hd]

theorem V_v8 (c : Dev nD) (g : Fin 4) (n : Fin 1024) (d : Fin 128) (hd : d.val < 64) :
    V m c main_v8 (ix3 g d n) = m ((c : Thread nD τ).loc main_arg3) (ix3 g n (⟨d.val, hd⟩ : Fin 64)) := by
  unfold V
  after_reads_at
  rw [dif_pos hd]

/-! The blocks of a point of the first tile. -/

theorem index0 : ∀ t : Fin cfg0.N, win0_0.index t = ![(grid0.coords t 0).val, (grid0.coords t 1).val] := (by decide +kernel : ∀ t : Fin grid0.N, _)
theorem index1 : ∀ t : Fin cfg0.N, win0_1.index t = ![(grid0.coords t 0).val, 0, (grid0.coords t 1).val] := (by decide +kernel : ∀ t : Fin grid0.N, _)
theorem index2 : ∀ t : Fin cfg0.N, win0_2.index t = ![0, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, 0, 0] := (by decide +kernel : ∀ t : Fin grid0.N, _)
theorem index3 : ∀ t : Fin cfg0.N, win0_3.index t = ![0, 0] := (by decide +kernel : ∀ t : Fin grid0.N, _)
theorem index6 : ∀ t : Fin cfg0.N, win0_6.index t = ![(grid0.coords t 0).val, 0, 0] := (by decide +kernel : ∀ t : Fin grid0.N, _)
theorem index7 : ∀ t : Fin cfg0.N, win0_7.index t = ![(grid0.coords t 0).val, 0, 0] := (by decide +kernel : ∀ t : Fin grid0.N, _)
theorem index8 : ∀ t : Fin cfg0.N, win0_8.index t = ![(grid0.coords t 0).val, 0, 0] := (by decide +kernel : ∀ t : Fin grid0.N, _)
theorem index9 : ∀ t : Fin cfg0.N, win0_9.index t = ![(grid0.coords t 0).val, 0, 0] := (by decide +kernel : ∀ t : Fin grid0.N, _)
theorem index10 : ∀ t : Fin cfg0.N, win0_10.index t = ![(grid0.coords t 0).val, (grid0.coords t 1).val] := (by decide +kernel : ∀ t : Fin grid0.N, _)

variable (c : Dev nD) (t : Fin cfg0.N)

theorem iblk0_at (ht : (grid0.coords t 1).val = 0) (r : Fin 512) (y : Fin 128) (R : Fin 1024) (T : Fin 16384)
    (hR : R.val = 512 * (grid0.coords t 0).val + r.val) (hT : T.val = y.val) :
    iblk m c 0 t (ix2 r y) = V m c main_v0 (ix2 R T) := by
  blk_ext! [iblk, index0 t]

theorem iblk1_at (ht : (grid0.coords t 1).val = 0) (g : Fin 2) (x : Fin 16) (y : Fin 128) (kv : Fin 4) (T : Fin 16384)
    (hg : kv.val = 2 * (grid0.coords t 0).val + g.val) (hT : T.val = y.val) :
    iblk m c 1 t (ix3 g x y) = V m c main_v3 (ix3 kv x T) := by
  blk_ext! [iblk, index1 t]

theorem iblk3_at (x : Fin 1152) (y : Fin 128) : iblk m c 3 t (ix2 x y) = V m c main_v73 (ix2 x y) := by
  blk_ext! [iblk, index3 t]

theorem iblk2_at (x : Fin 2048) (y : Fin 128) : iblk m c 2 t (ix2 x y) = V m c main_v60 (ix2 x y) := by
  blk_ext! [iblk, index2 t]

theorem iblk4_at (g : Fin 2) (n : Fin 1024) (x : Fin 128) (kv : Fin 4) (hg : kv.val = 2 * (grid0.coords t 0).val + g.val) :
    iblk m c 4 t (ix3 g n x) = V m c main_v5 (ix3 kv n x) := by
  blk_ext! [iblk, index4 t]

theorem iblk5_at (g : Fin 2) (x : Fin 128) (n : Fin 1024) (kv : Fin 4) (hg : kv.val = 2 * (grid0.coords t 0).val + g.val) :
    iblk m c 5 t (ix3 g x n) = V m c main_v8 (ix3 kv x n) := by
  blk_ext! [iblk, index5 t]

theorem iblk6_at (g : Fin 2) (n : Fin 16384) (x : Fin 128) (kv : Fin 4) (hg : kv.val = 2 * (grid0.coords t 0).val + g.val) :
    iblk m c 6 t (ix3 g n x) = V m c main_v25 (ix3 kv n x) := by
  blk_ext! [iblk, index6 t]

theorem iblk7_at (g : Fin 2) (x : Fin 72) (n : Fin 16384) (kv : Fin 4) (hg : kv.val = 2 * (grid0.coords t 0).val + g.val) :
    iblk m c 7 t (ix3 g x n) = V m c main_v36 (ix3 kv x n) := by
  blk_ext! [iblk, index7 t]

theorem iblk8_at (g : Fin 2) (n : Fin 16384) (x : Fin 128) (kv : Fin 4) (hg : kv.val = 2 * (grid0.coords t 0).val + g.val) :
    iblk m c 8 t (ix3 g n x) = V m c main_v29 (ix3 kv n x) := by
  blk_ext! [iblk, index8 t]

theorem iblk9_at (g : Fin 2) (x : Fin 72) (n : Fin 16384) (kv : Fin 4) (hg : kv.val = 2 * (grid0.coords t 0).val + g.val) :
    iblk m c 9 t (ix3 g x n) = V m c main_v43 (ix3 kv x n) := by
  blk_ext! [iblk, index9 t]

/-! The result's array after the run. -/

/-- The element of the result's row `R` at token `T`, of the arrays as launched. -/
def kVal (c : Dev nD) (R : Fin 1024) (T : Fin 16384) : EReal :=
  tokVal (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (m ((c : Thread nD τ).loc main_arg7)) R T

/-- An array of finite elements. -/
def Finite {s : Shape} (x : Vec Ideal s .f32) : Prop := ∀ i, x i ≠ ⊤ ∧ x i ≠ ⊥

theorem Finite.coe {s : Shape} {x : Vec Ideal s .f32} (h : Finite x) (i : s.Idx) : x i = ((EReal.toReal (x i) : ℝ) : EReal) :=
  (EReal.coe_toReal (h i).1 (h i).2).symm

theorem reads_first (hq : Finite (s := S16384x1024) (m ((c : Thread nD τ).loc main_arg0))) (hc : Finite (s := S4x1024x64) (m ((c : Thread nD τ).loc main_arg2))) (hk : Finite (s := S16384x256) (m ((c : Thread nD τ).loc main_arg4)))
    (hw : Finite (s := S16384x256) (m ((c : Thread nD τ).loc main_arg6))) (ht : (grid0.coords t 1).val = 0)
    (g : Fin 2) (r : Fin 256) (y : Fin 128) (R : Fin 1024) (T : Fin 16384) (hR : R.val = 512 * (grid0.coords t 0).val + 256 * g.val + r.val) (hT : T.val = y.val) :
    Reads (iblk m c 0 t) (iblk m c 2 t) (iblk m c 3 t) (iblk m c 4 t) (iblk m c 5 t) (iblk m c 6 t) (iblk m c 8 t) (iblk m c 7 t) (iblk m c 9 t) g r y
      (fun d => EReal.toReal (m ((c : Thread nD τ).loc main_arg0) (ix2 T (qcol R d))))
      (fun n d => EReal.toReal (m ((c : Thread nD τ).loc main_arg4) (ix2 (lo n) (kcol R d))))
      (fun n d => EReal.toReal (m ((c : Thread nD τ).loc main_arg6) (ix2 (lo n) (kcol R d))))
      (fun n d => EReal.toReal (m ((c : Thread nD τ).loc main_arg2) (ix3 (kvg R) (lob n) d)))
      (fun n => m ((c : Thread nD τ).loc main_arg5) (ix2 (lo n) (vcol R)))
      (fun n => m ((c : Thread nD τ).loc main_arg7) (ix2 (lo n) (vcol R)))
      (fun n => m ((c : Thread nD τ).loc main_arg3) (ix3 (kvg R) (lob n) (vrow R))) := by
  have hp : (grid0.coords t 0).val < 2 := (grid0.coords t 0).isLt
  have hlo : ∀ n (h : n < 16384), lo n = ⟨n, h⟩ := fun n h => Fin.ext (Nat.mod_eq_of_lt h)
  have hlob : ∀ n (h : n < 1024), lob n = ⟨n, h⟩ := fun n h => Fin.ext (Nat.mod_eq_of_lt h)
  refine ⟨fun d => ?_, fun n => ?_, fun n d => ?_, fun n => ?_, fun n => ?_, fun n d => ?_, fun n => ?_, fun n => ?_, fun n => ?_, fun n d => ?_, fun n => ?_, fun n => ?_⟩
  · refine (iblk0_at m c t ht _ y (qcol R d) T (by show 64 * (R.val / 64) + d.val = 512 * _ + (256 * g.val + (64 * (r.val / 64) + d.val)); omega) hT).trans ?_
    rw [V_v0]
    exact hq.coe _
  · exact (iblk2_at m c t _ y).trans (V_v60 m c n _ rfl y)
  · refine (iblk4_at m c t g _ _ (kvg R) (by show R.val / 256 = 2 * _ + g.val; omega)).trans ?_
    rw [V_v5 m c _ _ _ d.isLt, hlob n.val (by omega)]
    exact hc.coe _
  · refine (iblk5_at m c t g _ _ (kvg R) (by show R.val / 256 = 2 * _ + g.val; omega)).trans ?_
    rw [V_v8 m c _ _ _ (dd r).isLt, hlob n.val (by omega)]
    exact congrArg (fun z => m ((c : Thread nD τ).loc main_arg3) (ix3 (kvg R) _ z)) (Fin.ext (by show r.val % 64 = R.val % 64; omega))
  · refine (iblk3_at m c t _ y).trans ((V_v73 m c _ y).trans (if_congr ?_ rfl rfl))
    show y.val < 512 + n.val ∧ 512 + n.val ≤ y.val + 512 ↔ _
    omega
  · refine (iblk6_at m c t g _ _ ⟨2 * (grid0.coords t 0).val + g.val, by omega⟩ rfl).trans ?_
    rw [V_v25 m c _ _ _ d.isLt (kcol R d) (by show 64 * (R.val / 256) + d.val = 64 * (2 * _ + g.val) + d.val; omega), hlo n.val (by omega)]
    exact hk.coe _
  · refine ⟨⟨n.val / 64 % 8, Nat.mod_lt _ (by decide)⟩, (iblk6_at m c t g _ _ ⟨2 * (grid0.coords t 0).val + g.val, by omega⟩ rfl).trans ?_⟩
    refine V_v25_tag m c _ _ _ ?_ ?_ ?_
    · show ¬ 64 + n.val / 64 % 8 < 64
      omega
    · show 64 + n.val / 64 % 8 - 64 < 8
      omega
    · show 64 + n.val / 64 % 8 - 64 = n.val / 64 % 8
      omega
  · refine (iblk7_at m c t g _ _ ⟨2 * (grid0.coords t 0).val + g.val, by omega⟩ rfl).trans ?_
    rw [V_v36 m c _ _ _ (dd r).isLt (vcol R) (by show 64 * (R.val / 256) + R.val % 64 = 64 * (2 * _ + g.val) + r.val % 64; omega), hlo n.val (by omega)]
  · exact (iblk7_at m c t g _ _ ⟨2 * (grid0.coords t 0).val + g.val, by omega⟩ rfl).trans (V_v36_ones m c _ _)
  · refine (iblk8_at m c t g _ _ ⟨2 * (grid0.coords t 0).val + g.val, by omega⟩ rfl).trans ?_
    rw [V_v29 m c _ _ _ d.isLt (kcol R d) (by show 64 * (R.val / 256) + d.val = 64 * (2 * _ + g.val) + d.val; omega), hlo n.val (by omega)]
    exact hw.coe _
  · refine (iblk9_at m c t g _ _ ⟨2 * (grid0.coords t 0).val + g.val, by omega⟩ rfl).trans ?_
    rw [V_v43 m c _ _ _ (dd r).isLt (vcol R) (by show 64 * (R.val / 256) + R.val % 64 = 64 * (2 * _ + g.val) + r.val % 64; omega), hlo n.val (by omega)]
  · exact (iblk9_at m c t g _ _ ⟨2 * (grid0.coords t 0).val + g.val, by omega⟩ rfl).trans (V_v43_ones m c _ _)

theorem block_first (hq : Finite (s := S16384x1024) (m ((c : Thread nD τ).loc main_arg0))) (hc : Finite (s := S4x1024x64) (m ((c : Thread nD τ).loc main_arg2))) (hk : Finite (s := S16384x256) (m ((c : Thread nD τ).loc main_arg4)))
    (hw : Finite (s := S16384x256) (m ((c : Thread nD τ).loc main_arg6))) (X : Vec Ideal S512x128 .bf16) (hX : RlTile m c t X)
    (x : Fin 512) (y : Fin 128) (R : Fin 1024) (T : Fin 16384) (hR : R.val = (grid0.coords t 0).val * 512 + x.val) (hT : T.val = (grid0.coords t 1).val * 128 + y.val)
    (h128 : T.val < 128) : X (ix2 x y) = kVal m c R T := by
  have hp : (grid0.coords t 0).val < 2 := (grid0.coords t 0).isLt
  have ht : (grid0.coords t 1).val = 0 := by omega
  have hy : T.val = y.val := by omega
  have hg : x.val / 256 < 2 := by omega
  have H := hX ht ⟨x.val / 256, hg⟩ ⟨x.val % 256, by omega⟩ y _ _ _ _ _ _ _
    (reads_first m c t hq hc hk hw ht ⟨x.val / 256, hg⟩ ⟨x.val % 256, by omega⟩ y R T (by show R.val = 512 * _ + 256 * (x.val / 256) + x.val % 256; omega) hy)
  have ex : x = (⟨256 * (x.val / 256) + x.val % 256, by omega⟩ : Fin 512) := Fin.ext (by show x.val = 256 * (x.val / 256) + x.val % 256; omega)
  have hG : ∀ b : Fin 3, iblk m c 1 t (ix3 (⟨x.val / 256, hg⟩ : Fin 2) (gt ⟨x.val % 256, by omega⟩ b) y) = m ((c : Thread nD τ).loc main_arg1) (ix2 T (gcol R b)) := by
    intro b
    refine (iblk1_at m c t ht _ _ y ⟨2 * (grid0.coords t 0).val + x.val / 256, by omega⟩ T rfl hy).trans ?_
    refine V_v3 m c _ _ ?_ T (gcol R b) ?_
    · show 3 * (x.val % 256 / 64) + b.val < 12
      omega
    · show 3 * (R.val / 64) + b.val = 12 * (2 * _ + x.val / 256) + (3 * (x.val % 256 / 64) + b.val)
      omega
  rw [ex]
  refine H.trans ?_
  rw [hG 0, hG 1, hG 2]
  unfold kVal tokVal tileVal scoreOf cmpScore
  rw [hy]

/-- Every weakly fair execution ends with the result's rows at the tokens below 128 as `kVal` has them, the arguments unchanged. -/
theorem value_first (ρ : Dev nD → PrngReg) (hfin : ∀ c : Dev nD, Finite (s := S16384x1024) (m ((c : Thread nD τ).loc main_arg0))
      ∧ Finite (s := S4x1024x64) (m ((c : Thread nD τ).loc main_arg2)) ∧ Finite (s := S16384x256) (m ((c : Thread nD τ).loc main_arg4))
      ∧ Finite (s := S16384x256) (m ((c : Thread nD τ).loc main_arg6))) :
    θ_run defs (onTc (τ := τ) (main (F := Ideal))) ⟨m, fun _ => 0, ρ⟩ (fun r => ∀ c : Dev nD,
      (∀ i : S1024x16384.Idx, (i 1).val < 128 → r.2.mem ((c : Thread nD τ).loc main_v74) i = kVal m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩) (run_first m ρ)
  obtain ⟨after, hL, hA⟩ := Pipeline.RDat.FramePost.exists_exact h.1 c
  intro i hi
  have e := hA 10
  have key := Pipeline.Dat.arrAt_forall_of_covers (((dats (F := Ideal) m 0 c).toRRel fgt (Rl m c)).withAfter after) 10
    (fun (i : S1024x16384.Idx) (v : EReal) => (i 1).val < 128 → v = kVal m c (i 0) (i 1)) (by decide +kernel) (fun t hf y => ?_) i
  · rw [← hA 10] at key
    exact key hi
  · have hX : RlTile m c t (after 10 t) := Pipeline.Dat.toRRel_leaves _ (w := 10) rfl (hL 10 t hf)
    intro h128
    obtain ⟨x, z, rfl⟩ : ∃ (x : Fin 512) (z : Fin 128), y = ix2 x z := ⟨y 0, y 1, by funext a; fin_cases a <;> rfl⟩
    refine Eq.trans ?_ (block_first m c t (hfin c).1 (hfin c).2.1 (hfin c).2.2.1 (hfin c).2.2.2 (after 10 t) hX x z _ _ ?_ ?_ h128)
    · rfl
    · blk_simp [index10 t]
    · blk_simp [index10 t]

end Cert.Proof.KernelIdeal

end
-- ==== Proof.Value.Ref.lean ====
module

public import proofs.«01_k».proof.Proof.Value.Spec
public import proofs.«01_k».proof.Proof.Gen.ReferenceIdeal.Read
public import Idealize.ShloMosaic.Lib.StableHlo.Predicate
public import Idealize.ShloMosaic.Lib.WordCmp

@[expose] public section

set_option maxRecDepth 16384

noncomputable section

namespace Cert.Proof.Reference

open Cert.ReferenceIdeal Cert.ReferenceIdeal.Gen Cert.ReferenceIdeal.Read
open Idealize.ShloMosaic
open Cert.Proof.Value

/-! Indices by their coordinates. -/

theorem ext2 {a b : ℕ} {i j : (⟨2, ![a, b]⟩ : Shape).Idx} (h0 : (i 0).val = (j 0).val) (h1 : (i 1).val = (j 1).val) : i = j := by
  funext z
  match z with
  | ⟨0, _⟩ => exact Fin.ext h0
  | ⟨1, _⟩ => exact Fin.ext h1

theorem ext3 {a b c : ℕ} {i j : (⟨3, ![a, b, c]⟩ : Shape).Idx} (h0 : (i 0).val = (j 0).val) (h1 : (i 1).val = (j 1).val)
    (h2 : (i 2).val = (j 2).val) : i = j := by
  funext z
  match z with
  | ⟨0, _⟩ => exact Fin.ext h0
  | ⟨1, _⟩ => exact Fin.ext h1
  | ⟨2, _⟩ => exact Fin.ext h2

theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext z
  match z with
  | ⟨0, _⟩ => exact Fin.ext h0
  | ⟨1, _⟩ => exact Fin.ext h1
  | ⟨2, _⟩ => exact Fin.ext h2
  | ⟨3, _⟩ => exact Fin.ext h3

/-! The constants. -/

theorem eighth_val : Ideal.ofBits .f32 0x3E000000#32 = ((8⁻¹ : ℝ) : EReal) := by
  simp [Ideal.ofBits, Ideal.ieee]
  rw [← EReal.coe_mul]
  norm_num
theorem zero_val : Ideal.ofBits .f32 0x00000000#32 = 0 := by
  simp [Ideal.ofBits, Ideal.ieee]
theorem none_val : Ideal.ofBits .f32 0xFF800000#32 = ⊥ := by
  simp [Ideal.ofBits, Ideal.ieee]
theorem low_neg : Ideal.ofBits .f32 0xF149F2CA#32 < 0 := by
  simp [Ideal.ofBits, Ideal.ieee]
  norm_cast
theorem bonus_pos : 0 < Ideal.ofBits .f32 0x461C4000#32 := by
  simp [Ideal.ofBits, Ideal.ieee]
  norm_cast
  norm_num

/-- The query, scaled. -/
theorem query (x0 : Vec Ideal S16384x1024 .f32) (R : Fin 1024) (T : Fin 16384) (d : Fin 64)
    (i : S16384x4x4x64.Idx) (h0 : (i 0).val = T.val) (h1 : (i 1).val = R.val / 256) (h2 : (i 2).val = R.val / 64 % 4) (h3 : (i 3).val = d.val) :
    val_main_v2 (F := Ideal) x0 i = x0 (ix2 T (qcol R d)) * ((8⁻¹ : ℝ) : EReal) := by
  rw [val_main_v2_apply, val_main_v0_apply, val_main_v1_apply, val_main_cst_apply]
  show _ * Ideal.ofBits .f32 0x3E000000#32 = _
  rw [eighth_val]
  refine congrArg (fun z => x0 z * _) (ext2 ?_ ?_)
  · show ((((i 0).val * 4 + (i 1).val) * 4 + (i 2).val) * 64 + (i 3).val) / 1024 = T.val
    omega
  · show ((((i 0).val * 4 + (i 1).val) * 4 + (i 2).val) * 64 + (i 3).val) % 1024 = 64 * (R.val / 64) + d.val
    omega

/-- A score over finite queries and keys is a real. -/
theorem score_real (Q : Vec Ideal ⟨2, ![16384, 1024]⟩ .f32) (K : Vec Ideal ⟨2, ![16384, 256]⟩ .f32) (hQ : ∀ i, Q i = ((Q i).toReal : EReal))
    (hK : ∀ i, K i = ((K i).toReal : EReal)) (R : Fin 1024) (T : Fin 16384) (n : ℕ) (f : Fin 64 → EReal)
    (hf : ∀ d, f d = K (ix2 (lo n) (kcol R d)) * (Q (ix2 T (qcol R d)) * ((8⁻¹ : ℝ) : EReal))) :
    ∑ d, f d = (scoreOf Q K R T n : EReal) := by
  unfold scoreOf
  rw [coe_sum]
  refine Finset.sum_congr rfl fun d _ => ?_
  rw [hf d, hQ, hK, ← EReal.coe_mul, ← EReal.coe_mul]
  congr 1
  simp only [EReal.toReal_coe]
  ring

theorem cmp_score_real (Q : Vec Ideal ⟨2, ![16384, 1024]⟩ .f32) (K : Vec Ideal ⟨3, ![4, 1024, 64]⟩ .f32) (hQ : ∀ i, Q i = ((Q i).toReal : EReal))
    (hK : ∀ i, K i = ((K i).toReal : EReal)) (R : Fin 1024) (T : Fin 16384) (n : ℕ) (f : Fin 64 → EReal)
    (hf : ∀ d, f d = K (ix3 (kvg R) (lob n) d) * (Q (ix2 T (qcol R d)) * ((8⁻¹ : ℝ) : EReal))) :
    ∑ d, f d = (cmpScore Q K R T n : EReal) := by
  unfold cmpScore
  rw [coe_sum]
  refine Finset.sum_congr rfl fun d _ => ?_
  rw [hf d, hQ, hK, ← EReal.coe_mul, ← EReal.coe_mul]
  congr 1
  simp only [EReal.toReal_coe]
  ring

/-- The host's greatest of a row. -/
theorem max_row {n0 n1 n2 n : ℕ} (x : Vec Ideal ⟨4, ![n0, n1, n2, n]⟩ .f32) (init : Vec Ideal S_ .f32) (h' : (⟨4, ![n0, n1, n2, n]⟩ : Shape).ReducesTo [3] ⟨3, ![n0, n1, n2]⟩)
    (h : (⟨4, ![n0, n1, n2, n]⟩ : Shape).Reduces [3] ⟨3, ![n0, n1, n2]⟩) (a : Fin n0) (b : Fin n1) (c : Fin n2) :
    Host.reduce (FloatOps.maximumf (F := Ideal) (φ := .f32)) x init h' h_S_ (ix3 a b c)
      = Finset.fold max (init (Shape.Idx.first h_S_)) (fun z : Fin n => x (ix4 a b c z)) Finset.univ := by
  rw [Host.reduce_eq_fold_single _ _ _ h' h]
  show Finset.fold max _ _ _ = _
  congr 1
  funext z
  show x _ = x _
  refine congrArg x (ext4 ?_ ?_ ?_ ?_) <;> rw [h.lift_val] <;> simp [Shape.Reduces.liftVal]

/-! The window branch. -/

theorem sle_at (a b : ℕ) (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  congr 1
  simp only [BitVec.sle, StableHlo.Predicate.toInt_ofNat_small a ha, StableHlo.Predicate.toInt_ofNat_small b hb]
  simp

theorem before_start : ∀ t : Fin 128, (IntOp.subi (BitVec.ofNat 32 t.val) 512#32).toInt < 0 := by decide

theorem in_window (T s : Fin 16384) (hT : T.val < 128) :
    val_main_v171 (F := Ideal) (ix2 T s) = BitVec.ofBool (decide (s.val ≤ T.val)) := by
  rw [val_main_v171_apply, val_main_v163_apply, val_main_v161_apply, val_main_v162_apply, val_main_v159_apply, val_main_v160_apply,
    val_main_v170_apply, val_main_v168_apply, val_main_v164_apply, val_main_v169_apply, val_main_v167_apply, val_main_v165_apply,
    val_main_v166_apply, val_main_c_32_apply]
  simp only [val_main_v32_apply]
  show IntOp.andi (IntOp.cmpi .sle (BitVec.ofNat 32 s.val) (BitVec.ofNat 32 T.val))
    (IntOp.cmpi .sgt (BitVec.ofNat 32 s.val) (IntOp.subi (BitVec.ofNat 32 T.val) 512#32)) = _
  have e : IntOp.cmpi .sgt (BitVec.ofNat 32 s.val) (IntOp.subi (BitVec.ofNat 32 T.val) 512#32) = 1#1 := by
    show BitVec.ofBool (BitVec.slt _ _) = 1#1
    have hneg := before_start ⟨T.val, hT⟩
    have : BitVec.slt (IntOp.subi (BitVec.ofNat 32 T.val) 512#32) (BitVec.ofNat 32 s.val) = true := by
      simp only [BitVec.slt, StableHlo.Predicate.toInt_ofNat_small s.val (by omega), decide_eq_true_eq]
      have hneg' : (IntOp.subi (BitVec.ofNat 32 T.val) 512#32).toInt < 0 := hneg
      omega
    rw [this]
    rfl
  rw [e, sle_at _ _ (by omega) (by omega)]
  cases decide (s.val ≤ T.val) <;> rfl

variable (x0 : Vec Ideal S16384x1024 .f32) (x1 : Vec Ideal S16384x48 .f32) (x2 x3 : Vec Ideal S4x1024x64 .f32)
  (x4 x5 x6 x7 : Vec Ideal S16384x256 .f32)

/-- The group and the head of the result's row. -/
abbrev grp (R : Fin 1024) : Fin 4 := ⟨R.val / 256, by omega⟩
abbrev hd (R : Fin 1024) : Fin 4 := ⟨R.val / 64 % 4, by omega⟩

theorem win_score (hQ : ∀ i, x0 i = ((x0 i).toReal : EReal)) (hK : ∀ i, x6 i = ((x6 i).toReal : EReal)) (R : Fin 1024) (T s : Fin 16384) (hT : T.val < 128) :
    val_main_v175 (F := Ideal) x0 x6 (ix4 (grp R) (hd R) T s)
      = if s.val < T.val + 1 then (scoreOf x0 x6 R T s.val : EReal) else ⊥ := by
  rw [val_main_v175_apply, val_main_call6_v1_apply, val_main_call6_v2_apply, val_main_call6_v0_apply, val_main_cst_33_apply,
    show idx_main_call6_v1 (ix4 (grp R) (hd R) T s) = ix2 T s from ext2 rfl rfl, in_window T s hT]
  by_cases h : s.val ≤ T.val
  · rw [if_pos (by omega), decide_eq_true h]
    show val_main_v174 (F := Ideal) x0 x6 _ = _
    rw [val_main_v174_apply, val_main_v173_apply]
    refine score_real x0 x6 hQ hK R T s.val _ fun d => ?_
    rw [query x0 R T d _ rfl rfl rfl rfl, val_main_v172_apply]
    refine congrArg (fun z => x6 z * _) (ext2 ?_ ?_)
    · show ((s.val * 4 + R.val / 256) * 64 + d.val) / 256 = s.val % 16384
      omega
    · show ((s.val * 4 + R.val / 256) * 64 + d.val) % 256 = 64 * (R.val / 256) + d.val
      omega
  · rw [if_neg (by omega), decide_eq_false h]
    exact none_val

theorem win_mean (hQ : ∀ i, x0 i = ((x0 i).toReal : EReal)) (hK : ∀ i, x6 i = ((x6 i).toReal : EReal)) (R : Fin 1024) (T : Fin 16384) (hT : T.val < 128)
    (i : S16384x4x4x64.Idx) (h0 : (i 0).val = T.val) (h1 : (i 1).val = R.val / 256) (h2 : (i 2).val = R.val / 64 % 4) (h3 : (i 3).val = R.val % 64) :
    val_main_v189 (F := Ideal) x0 x6 x7 i = mean (T.val + 1) (scoreOf x0 x6 R T) (fun n => x7 (ix2 (lo n) (vcol R))) := by
  have hx := fun s => win_score x0 x6 hQ hK R T s hT
  have hinj : ∀ z z' : Fin 16384, z.val < T.val + 1 → z.val = z'.val → z = z' := fun z z' _ e => Fin.ext e
  have hsur : ∀ p < T.val + 1, ∃ z : Fin 16384, z.val = p := fun p hp => ⟨⟨p, by omega⟩, rfl⟩
  obtain ⟨μ, hμ⟩ := max_real (T.val + 1) (by omega) (fun z : Fin 16384 => z.val) hsur (scoreOf x0 x6 R T) _ ⊥ rfl hx
  have hmax : val_main_v178 (F := Ideal) x0 x6 (ix3 (grp R) (hd R) T) = (μ : EReal) := by
    rw [val_main_v178_apply, val_main_v177_apply, val_main_cst_35_apply]
    show max (Ideal.ofBits .f32 0xFF800000#32) _ = _
    rw [none_val, max_bot_left]
    unfold val_main_v176
    rw [max_row _ _ _ (by decide)]
    rw [val_main_cst_34_apply]
    refine Eq.trans ?_ hμ
    exact congrArg (fun b => Finset.fold max b _ _) none_val
  have hexp : ∀ z : Fin 16384, val_main_v182 (F := Ideal) x0 x6 (ix4 (grp R) (hd R) T z)
      = Ideal.exp (val_main_v175 (F := Ideal) x0 x6 (ix4 (grp R) (hd R) T z) - (μ : EReal)) := fun z => by
    rw [val_main_v182_apply, val_main_v181_apply, val_main_v180_apply, val_main_v179_apply,
      show idx_main_v179 (idx_main_v180 (ix4 (grp R) (hd R) T z)) = ix3 (grp R) (hd R) T from ext3 rfl rfl rfl, hmax]
    rfl
  have hsum : val_main_v183 (F := Ideal) x0 x6 (ix3 (grp R) (hd R) T)
      = ∑ z : Fin 16384, Ideal.exp (val_main_v175 (F := Ideal) x0 x6 (ix4 (grp R) (hd R) T z) - (μ : EReal)) := by
    rw [val_main_v183_apply, val_main_cst_36_apply]
    show Ideal.ofBits .f32 0x00000000#32 + _ = _
    rw [zero_val, zero_add]
    refine Finset.sum_congr rfl fun z _ => ?_
    rw [← hexp z]
    exact congrArg _ (ext4 rfl rfl rfl rfl)
  rw [val_main_v189_apply, val_main_v188_apply,
    ← mean_softmax (T.val + 1) (by omega) (fun z : Fin 16384 => z.val) hinj hsur (scoreOf x0 x6 R T) (fun n => x7 (ix2 (lo n) (vcol R)))
      (fun z => val_main_v175 (F := Ideal) x0 x6 (ix4 (grp R) (hd R) T z)) (fun z => x7 (ix2 z (vcol R))) μ hx
      (fun z _ => congrArg (fun y => x7 (ix2 y (vcol R))) (Fin.ext (Nat.mod_eq_of_lt z.isLt).symm))]
  refine Finset.sum_congr rfl fun z _ => ?_
  rw [mul_comm]
  have e : (ridx_main_v188 (idx_main_v189 i) z) = ix4 (grp R) (hd R) T z := ext4 h1 h2 h0 rfl
  rw [e, val_main_v186_apply, val_main_v185_apply, val_main_v184_apply,
    show idx_main_v184 (idx_main_v185 (ix4 (grp R) (hd R) T z)) = ix3 (grp R) (hd R) T from ext3 rfl rfl rfl, hsum, hexp z, val_main_v187_apply]
  have e' : idx_main_v187 (lidx_main_v188 (idx_main_v189 i) z) = ix2 z (vcol R) := by
    refine ext2 ?_ ?_
    · show ((z.val * 4 + (i 1).val) * 64 + (i 3).val) / 256 = z.val
      omega
    · show ((z.val * 4 + (i 1).val) * 64 + (i 3).val) % 256 = 64 * (R.val / 256) + R.val % 64
      omega
  rw [e']
  rfl

end Cert.Proof.Reference

end
-- ==== Proof.Value.Select.lean ====
module

public import proofs.«01_k».proof.Proof.Value.Ref
public import Idealize.ShloMosaic.Lib.SortFacts

@[expose] public section

set_option maxRecDepth 16384

noncomputable section

namespace Cert.Proof.Reference

open Cert.ReferenceIdeal Cert.ReferenceIdeal.Gen Cert.ReferenceIdeal.Read
open Idealize.ShloMosaic
open Cert.Proof.Value

/-! The order in which the blocks of 64 tokens are chosen. -/

/-- The blocks in the order of their importance `y`, the greatest first. -/
def order (y : Fin 256 → EReal) : Fin 256 → Fin 256 :=
  sortedFrom fun k k' => Ideal.cmpTotal .gt (y k) (y k') == 1#1

theorem order_eq (y : Fin 256 → EReal) : order y = sortedFrom fun k k' => Ideal.cmpTotal .gt (y k) (y k') == 1#1 := rfl

theorem gt_iff (a b : EReal) : (Ideal.cmpTotal .gt a b == 1#1) = decide (b < a) := by
  show (BitVec.ofBool (decide (b < a)) == 1#1) = decide (b < a)
  cases decide (b < a) <;> rfl

theorem order_injective (y : Fin 256 → EReal) : Function.Injective (order y) := sortedFrom_injective _

theorem order_sorted (y : Fin 256 → EReal) (i j : Fin 256) (hij : i < j) : y (order y j) ≤ y (order y i) := by
  have h := sortedFrom_noInversion (fun k k' => decide (y k' < y k)) (fun k k' => Ideal.cmpTotal .gt (y k) (y k') == 1#1)
    (fun a b h => by
      rw [gt_iff, decide_eq_true_eq] at h
      exact decide_eq_false (not_lt.mpr h.le))
    (fun a b h => by rw [gt_iff]; exact h)
    (fun a b c h h' => by
      rw [decide_eq_false_iff_not, not_lt] at h h' ⊢
      exact h.trans h')
    i j hij
  rw [decide_eq_false_iff_not, not_lt] at h
  exact h

/-- If `σ` puts the blocks up to `J`, which rank above all others, in order, they are the first ones. -/
theorem first_of {n : ℕ} (σ : Fin n → Fin n) (hi : Function.Injective σ) (J : ℕ) (hJ : J < n) (j r : Fin n) (hj : j.val ≤ J) (hr : σ r = j)
    (h : ∀ r' : Fin n, r' < r → J < (σ r').val → False) : r.val ≤ J := by
  by_contra hlt
  have hall : ∀ r' : Fin n, r'.val ≤ J → (σ r').val ≤ J := fun r' hr' => by
    by_contra hb
    exact h r' (Fin.lt_def.mpr (by omega)) (by omega)
  let f : Fin (J + 2) → Fin (J + 1) := fun a =>
    if ha : a.val ≤ J then ⟨(σ ⟨a.val, by omega⟩).val, Nat.lt_succ_of_le (hall _ ha)⟩ else ⟨j.val, Nat.lt_succ_of_le hj⟩
  obtain ⟨a, b, hab, he⟩ := Fintype.exists_ne_map_eq_of_card_lt f (by simp)
  have hv := congrArg Fin.val he
  simp only [f] at hv
  by_cases ha : a.val ≤ J <;> by_cases hb : b.val ≤ J
  · rw [dif_pos ha, dif_pos hb] at hv
    have := hi (Fin.ext hv)
    exact hab (Fin.ext (Fin.mk.inj this))
  · rw [dif_pos ha, dif_neg hb] at hv
    have := congrArg Fin.val (hi ((Fin.ext hv : σ ⟨a.val, by omega⟩ = j).trans hr.symm))
    simp only at this
    omega
  · rw [dif_neg ha, dif_pos hb] at hv
    have := congrArg Fin.val (hi ((Fin.ext hv.symm : σ ⟨b.val, by omega⟩ = j).trans hr.symm))
    simp only at this
    omega
  · exact hab (Fin.ext (by omega))

/-- If the blocks up to `J` are all more important than the others, they are the first ones chosen. -/
theorem order_first (y : Fin 256 → EReal) (J : ℕ) (hJ : J < 256) (h : ∀ a b : Fin 256, a.val ≤ J → J < b.val → y b < y a) (j : Fin 256) (hj : j.val ≤ J) :
    ∃ r : Fin 256, r.val ≤ J ∧ order y r = j := by
  obtain ⟨r, hr⟩ := sortedFrom_surjective (fun k k' => Ideal.cmpTotal .gt (y k) (y k') == 1#1) j
  have hr' : order y r = j := hr
  refine ⟨r, first_of (order y) (order_injective y) J hJ j r hj hr' (fun r' hlt hb => ?_), hr'⟩
  have h1 := order_sorted y r' r hlt
  have h2 := h j (order y r') hj hb
  rw [hr'] at h1
  exact absurd h2 (not_lt.mpr h1)

attribute [irreducible] order

theorem along_last {n0 n1 n : ℕ} (a : Fin n0) (b : Fin n1) (j k : Fin n) :
    Shape.Idx.along (ix3 a b j) (2 : Fin 3) k = ix3 a b k := by
  funext z
  match z with
  | ⟨0, _⟩ => rfl
  | ⟨1, _⟩ => rfl
  | ⟨2, _⟩ => rfl

/-- The positions that a top-k along the last of three axes returns. -/
theorem topK_at {n0 n1 n k : ℕ} (hk : k ≤ n) (y : Vec Ideal ⟨3, ![n0, n1, n]⟩ .f32)
    (h : (⟨3, ![n0, n1, n]⟩ : Shape).Slices (fun _ => 0) ⟨3, ![n0, n1, k]⟩) (a : Fin n0) (b : Fin n1) (r : Fin k) :
    (Host.topK ⟨3, ![n0, n1, k]⟩ 2 (FloatOps.cmpfTotal (F := Ideal) (φ := .f32) .gt) y h).2 (ix3 a b r)
      = BitVec.ofNat 32 (sortedFrom (fun z z' : Fin n => Ideal.cmpTotal .gt (y (ix3 a b z)) (y (ix3 a b z')) == 1#1) ⟨r.val, by omega⟩).val := by
  unfold Host.topK
  dsimp only
  rw [extractStridedSlice_apply _ _ _ _ (ix3 a b (⟨r.val, by omega⟩ : Fin n)) (fun c => by
    match c with
    | ⟨0, _⟩ => exact (Nat.zero_add _).symm
    | ⟨1, _⟩ => exact (Nat.zero_add _).symm
    | ⟨2, _⟩ => exact (Nat.zero_add _).symm)]
  unfold Host.sort2
  rw [dif_pos (by decide : 2 < 3)]
  dsimp only
  rw [dif_pos (by decide : 2 < 3)]
  show BitVec.ofNat 32 (sortedFrom (fun z z' : Fin n => Ideal.cmpTotal .gt (y (Shape.Idx.along (ix3 a b (⟨r.val, by omega⟩ : Fin n)) (2 : Fin 3) z))
    (y (Shape.Idx.along (ix3 a b (⟨r.val, by omega⟩ : Fin n)) (2 : Fin 3) z')) == 1#1) ⟨r.val, by omega⟩).val = _
  refine congrArg (fun g => BitVec.ofNat 32 (sortedFrom g (⟨r.val, by omega⟩ : Fin n)).val) (funext fun z => funext fun z' => ?_)
  rw [along_last, along_last]

variable (x0 : Vec Ideal S16384x1024 .f32) (x1 : Vec Ideal S16384x48 .f32) (x2 x3 : Vec Ideal S4x1024x64 .f32)
  (x4 x5 x6 x7 : Vec Ideal S16384x256 .f32)

/-- The block that group `kv` at token `T` chooses in place `r`. -/
def chosen (kv : Fin 4) (T : Fin 16384) (r : Fin 16) : Fin 256 :=
  order (fun j => val_main_v90 (F := Ideal) x0 x2 (ix3 kv T j)) ⟨r.val, by omega⟩

theorem indices_at (kv : Fin 4) (T : Fin 16384) (r : Fin 16) :
    val_main_indices (F := Ideal) x0 x2 (ix3 kv T r) = BitVec.ofNat 32 (chosen x0 x2 kv T r).val := by
  unfold val_main_indices chosen
  rw [order_eq]
  exact topK_at (by decide) _ _ kv T r

/-! The blocks gathered. -/

abbrev gd : GatherDims S4x256x64x64 S4x16384x16x2 S4x16384x16x64x64 := gather_S4x256x64x64_S4x16384x16x2_S4x16384x16x64x64_34_01_n_n_01_3_116464

theorem gather_start (idx : IVec S4x16384x16x2 32) (a : Fin 4) (b : Fin 16384) (r : Fin 16) (y e : Fin 64) (z : Fin 4) (hz : z ∈ gd.startIndexMap)
    (w : Fin 2) (hw : gd.startIndexMap.idxOf z = w.val) (v m : ℕ) (hv : v < 2 ^ 31) (hidx : idx (ix4 a b r w) = BitVec.ofNat 32 v)
    (hm : S4x256x64x64.size z - gd.sliceSizes z = m) (hvm : v ≤ m) : gd.start (ix5 a b r y e) idx z = v := by
  unfold GatherDims.start
  rw [dif_pos hz, hm]
  have e1 : gd.siIdx (ix5 a b r y e) ⟨gd.startIndexMap.idxOf z, List.idxOf_lt_length_iff.2 hz⟩ = ix4 a b r w :=
    ext4 rfl rfl rfl hw
  rw [e1, hidx, StableHlo.Predicate.toInt_ofNat_small v hv]
  simp only [Int.toNat_natCast]
  omega

theorem gather_at (x : Vec Ideal S4x256x64x64 .f32) (idx : IVec S4x16384x16x2 32) (a : Fin 4) (b : Fin 16384) (r : Fin 16) (y e : Fin 64)
    (g : Fin 4) (j : Fin 256) (hg : idx (ix4 a b r 0) = BitVec.ofNat 32 g.val) (hj : idx (ix4 a b r 1) = BitVec.ofNat 32 j.val) :
    Host.gather gd x idx (ix5 a b r y e) = x (ix4 g j y e) := by
  unfold Host.gather
  refine congrArg x (ext4 ?_ ?_ ?_ ?_)
  · show gd.start _ idx 0 + gd.batchCoord _ 0 + gd.offCoord _ 0 = g.val
    rw [gd.batchCoord_eq_zero _ _ (List.not_mem_nil), gd.offCoord_eq_zero _ _ (by decide),
      gather_start idx a b r y e 0 (by decide) 0 rfl g.val 3 (by omega) hg rfl (by omega), Nat.add_zero]
  · show gd.start _ idx 1 + gd.batchCoord _ 1 + gd.offCoord _ 1 = j.val
    rw [gd.batchCoord_eq_zero _ _ (List.not_mem_nil), gd.offCoord_eq_zero _ _ (by decide),
      gather_start idx a b r y e 1 (by decide) 1 rfl j.val 255 (by omega) hj rfl (by omega), Nat.add_zero]
  · show gd.start _ idx 2 + gd.batchCoord _ 2 + gd.offCoord _ 2 = y.val
    rw [gd.batchCoord_eq_zero _ _ (List.not_mem_nil)]
    unfold GatherDims.start GatherDims.offCoord
    rw [dif_neg (by decide), dif_pos (by decide), Nat.zero_add]
    rfl
  · show gd.start _ idx 3 + gd.batchCoord _ 3 + gd.offCoord _ 3 = e.val
    rw [gd.batchCoord_eq_zero _ _ (List.not_mem_nil)]
    unfold GatherDims.start GatherDims.offCoord
    rw [dif_neg (by decide), dif_pos (by decide), Nat.zero_add]
    rfl

theorem not_neg (a : ℕ) (ha : a < 2 ^ 31) : IntOp.cmpi .slt (BitVec.ofNat 32 a) 0#32 = 0#1 := by
  show BitVec.ofBool (BitVec.slt _ _) = _
  have : BitVec.slt (BitVec.ofNat 32 a) 0#32 = false := by
    simp only [BitVec.slt, StableHlo.Predicate.toInt_ofNat_small a ha]
    simp
  rw [this]
  rfl

theorem starts_group (a : Fin 4) (b : Fin 16384) (r : Fin 16) : val_main_v112 (F := Ideal) x0 x2 (ix4 a b r 0) = BitVec.ofNat 32 a.val := by
  unfold val_main_v112
  rw [concatenate_pair_apply_left (t := S4x16384x16x2) (s₁ := S4x16384x16x1) (s₂ := S4x16384x16x1) _ _ _ _ _ rfl (ix4 a b r (0 : Fin 1)) (fun c => by
    match c with
    | ⟨0, _⟩ => rfl
    | ⟨1, _⟩ => rfl
    | ⟨2, _⟩ => rfl
    | ⟨3, _⟩ => rfl),
    val_main_v110_apply, val_main_v109_apply, val_main_v103_apply, val_main_v100_apply, val_main_v99_apply, val_main_c_19_apply, val_main_v98_apply]
  show Scalar.select (IntOp.cmpi .slt (BitVec.ofNat 32 a.val) 0#32) _ (BitVec.ofNat 32 a.val) = _
  rw [not_neg _ (by omega)]
  rfl

theorem starts_block (a : Fin 4) (b : Fin 16384) (r : Fin 16) :
    val_main_v112 (F := Ideal) x0 x2 (ix4 a b r 1) = BitVec.ofNat 32 (chosen x0 x2 a b r).val := by
  unfold val_main_v112
  rw [concatenate_pair_apply_right (t := S4x16384x16x2) (s₁ := S4x16384x16x1) (s₂ := S4x16384x16x1) _ _ _ _ _ rfl rfl (ix4 a b r (0 : Fin 1)) (fun c hc => by
    match c, hc with
    | ⟨0, _⟩, _ => rfl
    | ⟨1, _⟩, _ => rfl
    | ⟨2, _⟩, _ => rfl
    | ⟨3, _⟩, hc => exact absurd rfl hc) rfl,
    val_main_v111_apply, val_main_v108_apply, val_main_v105_apply, val_main_v104_apply, val_main_c_21_apply,
    show idx_main_v111 (ix4 a b r (0 : Fin 1)) = ix3 a b r from ext3 rfl rfl rfl, indices_at,
    not_neg _ (by omega)]
  rfl

/-- The block's rows, by position. -/
theorem blocks_at (x : Vec Ideal S16384x256 .f32) (R : Fin 1024) (j : Fin 256) (y d : Fin 64) (n : ℕ) (hn : n = 64 * j.val + y.val) (c : Fin 256)
    (hc : c.val = 64 * (R.val / 256) + d.val) :
    val_main_v93 (F := Ideal) x (ix4 (grp R) j y d) = x (ix2 (lo n) c) := by
  rw [val_main_v93_apply, val_main_v92_apply, val_main_v91_apply]
  have h1 : (idx_main_v93 (ix4 (grp R) j y d) 0).val = R.val / 256 := by
    show (((R.val / 256 * 256 + j.val) * 64 + y.val) * 64 + d.val) / 1048576 = _
    omega
  have h2 : (idx_main_v93 (ix4 (grp R) j y d) 1).val = 64 * j.val + y.val := by
    show (((R.val / 256 * 256 + j.val) * 64 + y.val) * 64 + d.val) / 64 % 16384 = _
    omega
  have h3 : (idx_main_v93 (ix4 (grp R) j y d) 2).val = d.val := by
    show (((R.val / 256 * 256 + j.val) * 64 + y.val) * 64 + d.val) % 64 = _
    omega
  generalize idx_main_v93 (ix4 (grp R) j y d) = i at h1 h2 h3
  refine congrArg x (ext2 ?_ ?_)
  · show (((i 1).val * 4 + (i 0).val) * 64 + (i 2).val) / 256 = n % 16384
    omega
  · show (((i 1).val * 4 + (i 0).val) * 64 + (i 2).val) % 256 = c.val
    omega

end Cert.Proof.Reference

end
-- ==== Proof.Value.Result.lean ====
module

public import proofs.«01_k».proof.Proof.Value.Select

@[expose] public section

set_option maxRecDepth 16384

noncomputable section

namespace Cert.Proof.Reference

open Cert.ReferenceIdeal Cert.ReferenceIdeal.Gen Cert.ReferenceIdeal.Read
open Idealize.ShloMosaic
open Cert.Proof.Value

variable (x0 : Vec Ideal S16384x1024 .f32) (x1 : Vec Ideal S16384x48 .f32) (x2 x3 : Vec Ideal S4x1024x64 .f32)
  (x4 x5 x6 x7 : Vec Ideal S16384x256 .f32)

/-! The selected branch, at a token whose block and the ones before it are all chosen. -/

/-- The position that place `z` of the gathered tokens holds. -/
def pos (kv : Fin 4) (T : Fin 16384) (z : Fin 1024) : ℕ := 64 * (chosen x0 x2 kv T ⟨z.val / 64, by omega⟩).val + z.val % 64

theorem pos_lt (kv : Fin 4) (T : Fin 16384) (z : Fin 1024) : pos x0 x2 kv T z < 16384 := by
  unfold pos
  omega

theorem pos_word (kv : Fin 4) (T : Fin 16384) (z : Fin 1024) : val_main_v139 (F := Ideal) x0 x2 (ix3 kv T z) = BitVec.ofNat 32 (pos x0 x2 kv T z) := by
  have e : idx_main_v139 (ix3 kv T z) = ix4 kv T (⟨z.val / 64, by omega⟩ : Fin 16) (⟨z.val % 64, by omega⟩ : Fin 64) := by
    refine ext4 ?_ ?_ ?_ ?_
    · show ((kv.val * 16384 + T.val) * 1024 + z.val) / 16777216 = kv.val
      omega
    · show ((kv.val * 16384 + T.val) * 1024 + z.val) / 1024 % 16384 = T.val
      omega
    · show ((kv.val * 16384 + T.val) * 1024 + z.val) / 64 % 16 = z.val / 64
      omega
    · show ((kv.val * 16384 + T.val) * 1024 + z.val) % 64 = z.val % 64
      omega
  rw [val_main_v139_apply, e, val_main_v138_apply, val_main_v136_apply, val_main_v133_apply, val_main_v131_apply, val_main_v132_apply,
    val_main_c_27_apply, val_main_v137_apply, val_main_v135_apply,
    show ∀ r y, idx_main_v131 (idx_main_v136 (ix4 kv T r y)) = ix3 kv T r from fun r y => ext3 rfl rfl rfl, indices_at]
  show BitVec.ofNat 32 _ * BitVec.ofNat 32 64 + BitVec.ofNat 32 (z.val % 64) = _
  unfold pos
  rw [mul_comm, ← BitVec.ofNat_mul, ← BitVec.ofNat_add]

theorem pos_inj (kv : Fin 4) (T : Fin 16384) (z z' : Fin 1024) (h : pos x0 x2 kv T z = pos x0 x2 kv T z') : z = z' := by
  unfold pos at h
  have h1 : chosen x0 x2 kv T ⟨z.val / 64, by omega⟩ = chosen x0 x2 kv T ⟨z'.val / 64, by omega⟩ := Fin.ext (by omega)
  unfold chosen at h1
  have h2 := congrArg Fin.val (order_injective _ h1)
  simp only at h2
  exact Fin.ext (by omega)

/-- The blocks up to the token's own are all more important than the ones after it. -/
def Ordered (kv : Fin 4) (T : Fin 16384) : Prop :=
  ∀ a b : Fin 256, a.val ≤ T.val / 64 → T.val / 64 < b.val →
    val_main_v90 (F := Ideal) x0 x2 (ix3 kv T b) < val_main_v90 (F := Ideal) x0 x2 (ix3 kv T a)

theorem pos_sur (kv : Fin 4) (T : Fin 16384) (hT : T.val < 1024) (ho : Ordered x0 x2 kv T) (p : ℕ) (hp : p < T.val + 1) :
    ∃ z, pos x0 x2 kv T z = p := by
  obtain ⟨r, hr, e⟩ := order_first (fun j => val_main_v90 (F := Ideal) x0 x2 (ix3 kv T j)) (T.val / 64) (by omega) ho ⟨p / 64, by omega⟩ (by simp only; omega)
  refine ⟨⟨64 * r.val + p % 64, by omega⟩, ?_⟩
  unfold pos chosen
  have er : (⟨(64 * r.val + p % 64) / 64, by omega⟩ : Fin 256) = r := Fin.ext (by simp only; omega)
  simp only [er, e]
  omega

theorem gathered (x : Vec Ideal S16384x256 .f32) (R : Fin 1024) (T : Fin 16384) (z : Fin 1024) (d : Fin 64) (c : Fin 256)
    (hc : c.val = 64 * (R.val / 256) + d.val) :
    val_main_v114 (F := Ideal) x0 x2 x (ix4 (grp R) T z d) = x (ix2 (lo (pos x0 x2 (grp R) T z)) c) := by
  have e : idx_main_v114 (ix4 (grp R) T z d) = ix5 (grp R) T (⟨z.val / 64, by omega⟩ : Fin 16) (⟨z.val % 64, by omega⟩ : Fin 64) d := by
    funext a
    match a with
    | ⟨0, _⟩ =>
      refine Fin.ext ?_
      show (((R.val / 256 * 16384 + T.val) * 1024 + z.val) * 64 + d.val) / 1073741824 = R.val / 256
      omega
    | ⟨1, _⟩ =>
      refine Fin.ext ?_
      show (((R.val / 256 * 16384 + T.val) * 1024 + z.val) * 64 + d.val) / 65536 % 16384 = T.val
      omega
    | ⟨2, _⟩ =>
      refine Fin.ext ?_
      show (((R.val / 256 * 16384 + T.val) * 1024 + z.val) * 64 + d.val) / 4096 % 16 = z.val / 64
      omega
    | ⟨3, _⟩ =>
      refine Fin.ext ?_
      show (((R.val / 256 * 16384 + T.val) * 1024 + z.val) * 64 + d.val) / 64 % 64 = z.val % 64
      omega
    | ⟨4, _⟩ =>
      refine Fin.ext ?_
      show (((R.val / 256 * 16384 + T.val) * 1024 + z.val) * 64 + d.val) % 64 = d.val
      omega
  rw [val_main_v114_apply, e]
  unfold val_main_v113
  rw [gather_at _ _ _ _ _ _ _ _ _ (starts_group x0 x2 _ _ _) (starts_block x0 x2 _ _ _)]
  exact blocks_at x R _ _ d _ rfl c hc

theorem sel_score (hQ : ∀ i, x0 i = ((x0 i).toReal : EReal)) (hK : ∀ i, x4 i = ((x4 i).toReal : EReal)) (R : Fin 1024) (T : Fin 16384) (z : Fin 1024) :
    val_main_v146 (F := Ideal) x0 x2 x4 (ix4 (grp R) (hd R) T z)
      = if pos x0 x2 (grp R) T z < T.val + 1 then (scoreOf x0 x4 R T (pos x0 x2 (grp R) T z) : EReal) else ⊥ := by
  have hp := pos_lt x0 x2 (grp R) T z
  rw [val_main_v146_apply, val_main_call5_v1_apply, val_main_v145_apply, val_main_v144_apply,
    show idx_main_v145 (idx_main_call5_v1 (ix4 (grp R) (hd R) T z)) = ix3 (grp R) T z from ext3 rfl rfl rfl, pos_word,
    val_main_v143_apply, val_main_v142_apply, val_main_call5_v2_apply, val_main_call5_v0_apply, val_main_cst_28_apply]
  show Scalar.select (IntOp.cmpi .sle _ (BitVec.ofNat 32 T.val)) _ _ = _
  rw [sle_at _ _ (by omega) (by omega)]
  by_cases h : pos x0 x2 (grp R) T z ≤ T.val
  · rw [if_pos (by omega), decide_eq_true h]
    show val_main_v141 (F := Ideal) x0 x2 x4 _ = _
    rw [val_main_v141_apply, val_main_v140_apply]
    refine score_real x0 x4 hQ hK R T _ _ fun d => ?_
    rw [query x0 R T d _ rfl rfl rfl rfl,
      show lidx_main_v140 (idx_main_v141 (ix4 (grp R) (hd R) T z)) d = ix4 (grp R) T z d from ext4 rfl rfl rfl rfl,
      gathered x0 x2 x4 R T z d (kcol R d) rfl]
  · rw [if_neg (by omega), decide_eq_false h]
    exact none_val

theorem values_eq : val_main_v130 (F := Ideal) x0 x2 x5 = val_main_v114 (F := Ideal) x0 x2 x5 := rfl

theorem sel_mean (hQ : ∀ i, x0 i = ((x0 i).toReal : EReal)) (hK : ∀ i, x4 i = ((x4 i).toReal : EReal)) (R : Fin 1024) (T : Fin 16384) (hT : T.val < 1024)
    (ho : Ordered x0 x2 (grp R) T)
    (i : S16384x4x4x64.Idx) (h0 : (i 0).val = T.val) (h1 : (i 1).val = R.val / 256) (h2 : (i 2).val = R.val / 64 % 4) (h3 : (i 3).val = R.val % 64) :
    val_main_v158 (F := Ideal) x0 x2 x4 x5 i = mean (T.val + 1) (scoreOf x0 x4 R T) (fun n => x5 (ix2 (lo n) (vcol R))) := by
  have hx := fun z => sel_score x0 x2 x4 hQ hK R T z
  have hinj : ∀ z z' : Fin 1024, pos x0 x2 (grp R) T z < T.val + 1 → pos x0 x2 (grp R) T z = pos x0 x2 (grp R) T z' → z = z' :=
    fun z z' _ e => pos_inj x0 x2 _ _ z z' e
  have hsur := pos_sur x0 x2 (grp R) T hT ho
  obtain ⟨μ, hμ⟩ := max_real (T.val + 1) (by omega) (pos x0 x2 (grp R) T) hsur (scoreOf x0 x4 R T) _ ⊥ rfl hx
  have hmax : val_main_v149 (F := Ideal) x0 x2 x4 (ix3 (grp R) (hd R) T) = (μ : EReal) := by
    rw [val_main_v149_apply, val_main_v148_apply, val_main_cst_30_apply]
    show max (Ideal.ofBits .f32 0xFF800000#32) _ = _
    rw [none_val, max_bot_left]
    unfold val_main_v147
    rw [max_row _ _ _ (by decide)]
    rw [val_main_cst_29_apply]
    refine Eq.trans ?_ hμ
    exact congrArg (fun b => Finset.fold max b _ _) none_val
  have hexp : ∀ z : Fin 1024, val_main_v153 (F := Ideal) x0 x2 x4 (ix4 (grp R) (hd R) T z)
      = Ideal.exp (val_main_v146 (F := Ideal) x0 x2 x4 (ix4 (grp R) (hd R) T z) - (μ : EReal)) := fun z => by
    rw [val_main_v153_apply, val_main_v152_apply, val_main_v151_apply, val_main_v150_apply,
      show idx_main_v150 (idx_main_v151 (ix4 (grp R) (hd R) T z)) = ix3 (grp R) (hd R) T from ext3 rfl rfl rfl, hmax]
    rfl
  have hsum : val_main_v154 (F := Ideal) x0 x2 x4 (ix3 (grp R) (hd R) T)
      = ∑ z : Fin 1024, Ideal.exp (val_main_v146 (F := Ideal) x0 x2 x4 (ix4 (grp R) (hd R) T z) - (μ : EReal)) := by
    rw [val_main_v154_apply, val_main_cst_31_apply]
    show Ideal.ofBits .f32 0x00000000#32 + _ = _
    rw [zero_val, zero_add]
    refine Finset.sum_congr rfl fun z _ => ?_
    rw [← hexp z]
    exact congrArg _ (ext4 rfl rfl rfl rfl)
  rw [val_main_v158_apply, values_eq,
    ← mean_softmax (T.val + 1) (by omega) (pos x0 x2 (grp R) T) hinj hsur (scoreOf x0 x4 R T) (fun n => x5 (ix2 (lo n) (vcol R)))
      (fun z => val_main_v146 (F := Ideal) x0 x2 x4 (ix4 (grp R) (hd R) T z)) (fun z => x5 (ix2 (lo (pos x0 x2 (grp R) T z)) (vcol R))) μ hx
      (fun z _ => rfl)]
  refine Finset.sum_congr rfl fun z _ => ?_
  have e : (lidx_main_v158 i z) = ix4 (grp R) (hd R) T z := ext4 h1 h2 h0 rfl
  have e' : ridx_main_v158 i z = ix4 (grp R) T z (⟨R.val % 64, by omega⟩ : Fin 64) := ext4 h1 h0 rfl h3
  rw [e, e', val_main_v157_apply, val_main_v156_apply, val_main_v155_apply,
    show idx_main_v155 (idx_main_v156 (ix4 (grp R) (hd R) T z)) = ix3 (grp R) (hd R) T from ext3 rfl rfl rfl, hsum, hexp z,
    gathered x0 x2 x5 R T z _ (vcol R) rfl]
  rfl

/-! The compressed branch. -/

theorem last_word (c : ℕ) (hc : c < 1023) :
    IntOp.subi (IntOp.addi (IntOp.muli (BitVec.ofNat 32 c) 16#32) 32#32) 1#32 = BitVec.ofNat 32 (16 * c + 31) := by
  apply BitVec.eq_of_toNat_eq
  simp only [IntOp.subi, IntOp.addi, IntOp.muli, BitVec.toNat_sub, BitVec.toNat_add, BitVec.toNat_mul, BitVec.toNat_ofNat]
  omega

theorem complete (T : Fin 16384) (c : Fin 1023) :
    val_main_v40 (F := Ideal) (ix2 T c) = BitVec.ofBool (decide (16 * c.val + 31 ≤ T.val)) := by
  rw [val_main_v40_apply, val_main_v38_apply, val_main_v36_apply, val_main_v30_apply, val_main_v28_apply, val_main_v26_apply, val_main_v24_apply,
    val_main_v25_apply, val_main_c_3_apply, val_main_v27_apply, val_main_c_4_apply, val_main_v29_apply, val_main_c_5_apply,
    val_main_v39_apply, val_main_v37_apply, val_main_v32_apply]
  show IntOp.cmpi .sle (IntOp.subi (IntOp.addi (IntOp.muli (BitVec.ofNat 32 c.val) 16#32) 32#32) 1#32) (BitVec.ofNat 32 T.val) = _
  rw [last_word _ c.isLt, sle_at _ _ (by omega) (by omega)]

theorem weight_zero (T : Fin 16384) (hT : T.val < 31) (i : S4x4x16384x1023.Idx) (hi : (i 2).val = T.val) : val_main_v53 (F := Ideal) x0 x2 i = 0 := by
  rw [val_main_v53_apply, val_main_call1_v1_apply, val_main_call1_v2_apply, val_main_call1_v0_apply, val_main_cst_10_apply,
    show idx_main_call1_v1 i = ix2 T (⟨(i 3).val, (i 3).isLt⟩ : Fin 1023) from ext2 hi rfl, complete, decide_eq_false (by omega)]
  exact zero_val

theorem cmp_zero (T : Fin 16384) (hT : T.val < 31) (i : S16384x4x4x64.Idx) (hi : (i 0).val = T.val) : val_main_v56 (F := Ideal) x0 x2 x3 i = 0 := by
  rw [val_main_v56_apply, val_main_v55_apply]
  refine Finset.sum_eq_zero fun c _ => ?_
  rw [weight_zero x0 x2 T hT _ hi, mul_zero]

theorem cmp_score (hQ : ∀ i, x0 i = ((x0 i).toReal : EReal)) (hK : ∀ i, x2 i = ((x2 i).toReal : EReal)) (R : Fin 1024) (T : Fin 16384) (z : Fin 1023) :
    val_main_v41 (F := Ideal) x0 x2 (ix4 (grp R) (hd R) T z)
      = if z.val < (T.val - 15) / 16 then (cmpScore x0 x2 R T z.val : EReal) else ⊥ := by
  rw [val_main_v41_apply, val_main_call0_v1_apply, val_main_call0_v2_apply, val_main_call0_v0_apply, val_main_cst_6_apply,
    show idx_main_call0_v1 (ix4 (grp R) (hd R) T z) = ix2 T z from ext2 rfl rfl, complete]
  by_cases h : 16 * z.val + 31 ≤ T.val
  · rw [if_pos (by omega), decide_eq_true h]
    show val_main_v35 (F := Ideal) x0 x2 _ = _
    rw [val_main_v35_apply, val_main_v34_apply]
    refine cmp_score_real x0 x2 hQ hK R T z.val _ fun d => ?_
    rw [query x0 R T d _ rfl rfl rfl rfl, val_main_v33_apply]
    exact congrArg (fun y => x2 y * _) (ext3 rfl (Nat.mod_eq_of_lt (show z.val < 1024 by omega)).symm rfl)
  · rw [if_neg (by omega), decide_eq_false h]
    exact none_val

/-- The weights of the complete blocks: the exponentials over their sum. -/
theorem weight_at (hQ : ∀ i, x0 i = ((x0 i).toReal : EReal)) (hK : ∀ i, x2 i = ((x2 i).toReal : EReal)) (R : Fin 1024) (T : Fin 16384) (hT : 31 ≤ T.val) :
    ∃ μ : ℝ, ∀ z : Fin 1023, val_main_v53 (F := Ideal) x0 x2 (ix4 (grp R) (hd R) T z)
      = Ideal.div (Ideal.exp (val_main_v41 (F := Ideal) x0 x2 (ix4 (grp R) (hd R) T z) - (μ : EReal)))
          (∑ z' : Fin 1023, Ideal.exp (val_main_v41 (F := Ideal) x0 x2 (ix4 (grp R) (hd R) T z') - (μ : EReal))) := by
  have hx := fun z => cmp_score x0 x2 hQ hK R T z
  have hn : 0 < (T.val - 15) / 16 := by omega
  have hinj : ∀ z z' : Fin 1023, z.val < (T.val - 15) / 16 → z.val = z'.val → z = z' := fun z z' _ e => Fin.ext e
  have hsur : ∀ p < (T.val - 15) / 16, ∃ z : Fin 1023, z.val = p := fun p hp => ⟨⟨p, by omega⟩, rfl⟩
  obtain ⟨μ, hμ⟩ := max_real ((T.val - 15) / 16) hn (fun z : Fin 1023 => z.val) hsur (cmpScore x0 x2 R T) _ ⊥ rfl hx
  refine ⟨μ, fun z => ?_⟩
  have hmax : val_main_v44 (F := Ideal) x0 x2 (ix3 (grp R) (hd R) T) = (μ : EReal) := by
    rw [val_main_v44_apply, val_main_v43_apply, val_main_cst_8_apply]
    show max (Ideal.ofBits .f32 0xFF800000#32) _ = _
    rw [none_val, max_bot_left]
    unfold val_main_v42
    rw [max_row _ _ _ (by decide)]
    rw [val_main_cst_7_apply]
    refine Eq.trans ?_ hμ
    exact congrArg (fun b => Finset.fold max b _ _) none_val
  have hexp : ∀ z : Fin 1023, val_main_v48 (F := Ideal) x0 x2 (ix4 (grp R) (hd R) T z)
      = Ideal.exp (val_main_v41 (F := Ideal) x0 x2 (ix4 (grp R) (hd R) T z) - (μ : EReal)) := fun z => by
    rw [val_main_v48_apply, val_main_v47_apply, val_main_v46_apply, val_main_v45_apply,
      show idx_main_v45 (idx_main_v46 (ix4 (grp R) (hd R) T z)) = ix3 (grp R) (hd R) T from ext3 rfl rfl rfl, hmax]
    rfl
  have hsum : val_main_v49 (F := Ideal) x0 x2 (ix3 (grp R) (hd R) T)
      = ∑ z : Fin 1023, Ideal.exp (val_main_v41 (F := Ideal) x0 x2 (ix4 (grp R) (hd R) T z) - (μ : EReal)) := by
    rw [val_main_v49_apply, val_main_cst_9_apply]
    show Ideal.ofBits .f32 0x00000000#32 + _ = _
    rw [zero_val, zero_add]
    refine Finset.sum_congr rfl fun z _ => ?_
    rw [← hexp z]
    exact congrArg _ (ext4 rfl rfl rfl rfl)
  rw [val_main_v53_apply, val_main_call1_v1_apply, val_main_call1_v2_apply, val_main_call1_v0_apply, val_main_cst_10_apply,
    show idx_main_call1_v1 (ix4 (grp R) (hd R) T z) = ix2 T z from ext2 rfl rfl, complete]
  by_cases h : 16 * z.val + 31 ≤ T.val
  · rw [decide_eq_true h]
    show val_main_v52 (F := Ideal) x0 x2 _ = _
    rw [val_main_v52_apply, val_main_v51_apply, val_main_v50_apply,
      show idx_main_v50 (idx_main_v51 (ix4 (grp R) (hd R) T z)) = ix3 (grp R) (hd R) T from ext3 rfl rfl rfl, hsum, hexp z]
    rfl
  · rw [decide_eq_false h]
    refine Eq.trans ?_ (softmax_weight ((T.val - 15) / 16) hn (fun z : Fin 1023 => z.val) hinj hsur (cmpScore x0 x2 R T)
      (fun z => val_main_v41 (F := Ideal) x0 x2 (ix4 (grp R) (hd R) T z)) μ hx z).symm
    exact zero_val.trans (if_neg (show ¬ z.val < (T.val - 15) / 16 by omega)).symm

theorem cmp_mean (hQ : ∀ i, x0 i = ((x0 i).toReal : EReal)) (hK : ∀ i, x2 i = ((x2 i).toReal : EReal)) (R : Fin 1024) (T : Fin 16384)
    (i : S16384x4x4x64.Idx) (h0 : (i 0).val = T.val) (h1 : (i 1).val = R.val / 256) (h2 : (i 2).val = R.val / 64 % 4) (h3 : (i 3).val = R.val % 64) :
    val_main_v56 (F := Ideal) x0 x2 x3 i = mean ((T.val - 15) / 16) (cmpScore x0 x2 R T) (fun n => x3 (ix3 (kvg R) (lob n) (vrow R))) := by
  by_cases hT : T.val < 31
  · rw [cmp_zero x0 x2 x3 T hT i h0, show (T.val - 15) / 16 = 0 by omega]
    rfl
  obtain ⟨μ, hw⟩ := weight_at x0 x2 hQ hK R T (by omega)
  have hinj : ∀ z z' : Fin 1023, z.val < (T.val - 15) / 16 → z.val = z'.val → z = z' := fun z z' _ e => Fin.ext e
  have hsur : ∀ p < (T.val - 15) / 16, ∃ z : Fin 1023, z.val = p := fun p hp => ⟨⟨p, by omega⟩, rfl⟩
  rw [val_main_v56_apply, val_main_v55_apply,
    ← mean_softmax ((T.val - 15) / 16) (by omega) (fun z : Fin 1023 => z.val) hinj hsur (cmpScore x0 x2 R T) (fun n => x3 (ix3 (kvg R) (lob n) (vrow R)))
      (fun z => val_main_v41 (F := Ideal) x0 x2 (ix4 (grp R) (hd R) T z)) (fun z => x3 (ix3 (kvg R) (lob z.val) (vrow R))) μ
      (fun z => cmp_score x0 x2 hQ hK R T z) (fun z _ => rfl)]
  refine Finset.sum_congr rfl fun z _ => ?_
  rw [mul_comm, show ridx_main_v55 (idx_main_v56 i) z = ix4 (grp R) (hd R) T z from ext4 h1 h2 h0 rfl, hw z, val_main_v54_apply]
  exact congrArg (fun y => _ * x3 y) (ext3 h1 (Nat.mod_eq_of_lt (show z.val < 1024 by omega)).symm h3)

theorem weight_nonneg (hQ : ∀ i, x0 i = ((x0 i).toReal : EReal)) (hK : ∀ i, x2 i = ((x2 i).toReal : EReal)) (kv h : Fin 4) (T : Fin 16384) (z : Fin 1023) :
    0 ≤ val_main_v53 (F := Ideal) x0 x2 (ix4 kv h T z) := by
  by_cases hT : T.val < 31
  · exact (weight_zero x0 x2 T hT _ rfl).ge
  have e : (ix4 kv h T z : S4x4x16384x1023.Idx) = ix4 (grp ⟨256 * kv.val + 64 * h.val, by omega⟩) (hd ⟨256 * kv.val + 64 * h.val, by omega⟩) T z := by
    refine ext4 ?_ ?_ rfl rfl
    · show kv.val = (256 * kv.val + 64 * h.val) / 256
      omega
    · show h.val = (256 * kv.val + 64 * h.val) / 64 % 4
      omega
  obtain ⟨μ, hw⟩ := weight_at x0 x2 hQ hK ⟨256 * kv.val + 64 * h.val, by omega⟩ T (by omega)
  rw [e, hw z]
  refine le_of_le_of_eq ?_ (softmax_weight ((T.val - 15) / 16) (by omega) (fun z : Fin 1023 => z.val) (fun z z' _ e => Fin.ext e)
    (fun p hp => ⟨⟨p, by omega⟩, rfl⟩) (cmpScore x0 x2 ⟨256 * kv.val + 64 * h.val, by omega⟩ T)
    (fun z => val_main_v41 (F := Ideal) x0 x2 (ix4 (grp ⟨256 * kv.val + 64 * h.val, by omega⟩) (hd ⟨256 * kv.val + 64 * h.val, by omega⟩) T z)) μ
    (fun z => cmp_score x0 x2 hQ hK _ T z) z).symm
  split_ifs
  · exact EReal.coe_nonneg.mpr (div_nonneg (Real.exp_pos _).le (sum_pos_pos (n := (T.val - 15) / 16) (by omega) _).le)
  · exact le_rfl

theorem importance_nonneg (hQ : ∀ i, x0 i = ((x0 i).toReal : EReal)) (hK : ∀ i, x2 i = ((x2 i).toReal : EReal)) (kv : Fin 4) (T : Fin 16384) (j : Fin 256) :
    0 ≤ val_main_v58 (F := Ideal) x0 x2 (ix3 kv T j) := by
  rw [val_main_v58_apply]
  refine Finset.sum_nonneg fun z _ => mul_nonneg ?_ ?_
  · rw [val_main_v57_apply, val_main_cst_11_apply]
    refine add_nonneg zero_val.ge (Finset.sum_nonneg fun h _ => ?_)
    rw [show idx_main_v57 (lidx_main_v58 (ix3 kv T j) z) h = ix4 kv h T z from ext4 rfl rfl rfl rfl]
    exact weight_nonneg x0 x2 hQ hK kv h T z
  · rw [val_main_v23_apply]
    show (0 : EReal) ≤ (((_ : BitVec 1).toNat : ℝ) : EReal)
    exact_mod_cast Nat.zero_le _

theorem started (T : Fin 16384) (j : Fin 256) : val_main_v84 (F := Ideal) (ix2 T j) = BitVec.ofBool (decide (64 * j.val ≤ T.val)) := by
  rw [val_main_v84_apply, val_main_v82_apply, val_main_v80_apply, val_main_v78_apply, val_main_v79_apply, val_main_c_15_apply, val_main_v83_apply,
    val_main_v81_apply, val_main_v32_apply, val_main_v31_apply]
  show IntOp.cmpi .sle (BitVec.ofNat 32 j.val * BitVec.ofNat 32 64) (BitVec.ofNat 32 T.val) = _
  rw [mul_comm, ← BitVec.ofNat_mul, sle_at _ _ (by omega) (by omega)]

theorem bonus_nonneg (i : S16384x256.Idx) : 0 ≤ val_main_v85 (F := Ideal) i := by
  rw [val_main_v85_apply, val_main_call3_v0_apply, val_main_call3_v1_apply, val_main_cst_16_apply, val_main_cst_17_apply]
  show 0 ≤ if _ = 1#1 then Ideal.ofBits .f32 0x461C4000#32 else Ideal.ofBits .f32 0x00000000#32
  split_ifs
  · exact bonus_pos.le
  · exact zero_val.ge

/-- Where no importance is negative, the blocks up to the token's own come first. -/
theorem ordered (kv : Fin 4) (T : Fin 16384) (h : ∀ j, 0 ≤ val_main_v58 (F := Ideal) x0 x2 (ix3 kv T j)) : Ordered x0 x2 kv T := by
  have hlow : ∀ b : Fin 256, T.val / 64 < b.val → val_main_v90 (F := Ideal) x0 x2 (ix3 kv T b) < 0 := fun b hb => by
    rw [val_main_v90_apply, val_main_call4_v1_apply, show idx_main_call4_v1 (ix3 kv T b) = ix2 T b from ext2 rfl rfl, started,
      decide_eq_false (by omega), val_main_call4_v2_apply, val_main_call4_v0_apply, val_main_cst_18_apply]
    exact low_neg
  have hhigh : ∀ a : Fin 256, a.val ≤ T.val / 64 → 0 ≤ val_main_v90 (F := Ideal) x0 x2 (ix3 kv T a) := fun a ha => by
    rw [val_main_v90_apply, val_main_call4_v1_apply, show idx_main_call4_v1 (ix3 kv T a) = ix2 T a from ext2 rfl rfl, started,
      decide_eq_true (by omega)]
    show 0 ≤ val_main_v89 (F := Ideal) x0 x2 _
    rw [val_main_v89_apply, val_main_v88_apply, val_main_v87_apply, val_main_v86_apply]
    exact add_nonneg (h a) (bonus_nonneg _)
  exact fun a b ha hb => (hlow b hb).trans_le (hhigh a ha)

/-! The result. -/

theorem gate_at (R : Fin 1024) (T : Fin 16384) (b : Fin 3) (i : S16384x4x4x3.Idx) (h0 : (i 0).val = T.val) (h1 : (i 1).val = R.val / 256)
    (h2 : (i 2).val = R.val / 64 % 4) (h3 : (i 3).val = b.val) : val_main_v3 (F := Ideal) x1 i = x1 (ix2 T (gcol R b)) := by
  rw [val_main_v3_apply]
  refine congrArg x1 (ext2 ?_ ?_)
  · show ((((i 0).val * 4 + (i 1).val) * 4 + (i 2).val) * 3 + (i 3).val) / 48 = T.val
    omega
  · show ((((i 0).val * 4 + (i 1).val) * 4 + (i 2).val) * 3 + (i 3).val) % 48 = 3 * (R.val / 64) + b.val
    omega

/-- The reference's result at a token below 128. -/
theorem result_first (hQ : ∀ i, x0 i = ((x0 i).toReal : EReal)) (hKC : ∀ i, x2 i = ((x2 i).toReal : EReal)) (hKS : ∀ i, x4 i = ((x4 i).toReal : EReal)) (hKW : ∀ i, x6 i = ((x6 i).toReal : EReal))
    (R : Fin 1024) (T : Fin 16384) (hT : T.val < 128) :
    val_main_v203 (F := Ideal) x0 x1 x2 x3 x4 x5 x6 x7 (ix2 R T) = tokVal x0 x1 x2 x3 x4 x5 x6 x7 R T := by
  rw [val_main_v203_apply, val_main_v202_apply, val_main_v201_apply]
  have h0 : (idx_main_v201 (idx_main_v202 (ix2 R T)) 0).val = T.val := by
    show (T.val * 1024 + R.val) / 1024 = T.val
    omega
  have h1 : (idx_main_v201 (idx_main_v202 (ix2 R T)) 1).val = R.val / 256 := by
    show (T.val * 1024 + R.val) / 256 % 4 = R.val / 256
    omega
  have h2 : (idx_main_v201 (idx_main_v202 (ix2 R T)) 2).val = R.val / 64 % 4 := by
    show (T.val * 1024 + R.val) / 64 % 4 = R.val / 64 % 4
    omega
  have h3 : (idx_main_v201 (idx_main_v202 (ix2 R T)) 3).val = R.val % 64 := by
    show (T.val * 1024 + R.val) % 64 = R.val % 64
    omega
  generalize idx_main_v201 (idx_main_v202 (ix2 R T)) = i at h0 h1 h2 h3
  have ho : Ordered x0 x2 (grp R) T := ordered x0 x2 _ T fun j => importance_nonneg x0 x2 hQ hKC _ T j
  rw [val_main_v200_apply, val_main_v196_apply, val_main_v192_apply, val_main_v195_apply, val_main_v199_apply,
    cmp_mean x0 x2 x3 hQ hKC R T i h0 h1 h2 h3, sel_mean x0 x2 x4 x5 hQ hKS R T (by omega) ho i h0 h1 h2 h3, win_mean x0 x6 x7 hQ hKW R T hT i h0 h1 h2 h3,
    val_main_v191_apply, val_main_v190_apply, val_main_v194_apply, val_main_v193_apply, val_main_v198_apply, val_main_v197_apply,
    gate_at x1 R T 0 (idx_main_v190 (idx_main_v191 i)) h0 h1 h2 rfl, gate_at x1 R T 1 (idx_main_v193 (idx_main_v194 i)) h0 h1 h2 rfl,
    gate_at x1 R T 2 (idx_main_v197 (idx_main_v198 i)) h0 h1 h2 rfl]
  rfl

end Cert.Proof.Reference

end
-- ==== Proof.Value.Agree.lean ====
/- The value claim: at a token below 128 the idealized kernel's result is the reference's. -/
module

public import proofs.«01_k».proof.Defs
public import proofs.«01_k».proof.Proof.Value.Host
public import proofs.«01_k».proof.Proof.Value.Result
public import proofs.«01_k».proof.Proof.Gen.ReferenceIdeal.Run
public import Idealize.ShloMosaic.Lib.ReduceAll
public import Idealize.ShloMosaic.Lib.Claim

@[expose] public section

set_option maxRecDepth 16384

noncomputable section

namespace Cert.Proof

open Idealize.ShloMosaic Idealize.SL.Sem
open Cert.Proof.Value

/-! What the precondition and the mask say. -/

instance facts_pre : Cert.Pre_finite_scores.Facts where
  bcast_S_S16384x1024 := by decide
  reducesTo_S16384x1024_S_d0_1 := by decide
  h_S_ := by decide
  bcast_S_S4x1024x64 := by decide
  reducesTo_S4x1024x64_S_d0_1_2 := by decide
  bcast_S_S16384x256 := by decide
  reducesTo_S16384x256_S_d0_1 := by decide

instance facts_on : Cert.On_first_tokens.Facts where
  bcast_S16384_S1x16384_1 := by decide
  bcast_S_S1x16384 := by decide
  bcast_S1x16384_S1024x16384_0_1 := by decide

instance : Subsingleton Cert.Pre_finite_scores.S_.Idx := ⟨fun a b => funext fun d => d.elim0⟩

theorem inf_val : Ideal.ofBits .f32 0x7F800000#32 = ⊤ := by
  simp [Ideal.ofBits, Ideal.ieee]

theorem finite_of (x : EReal) (h : BitVec.ofBool (decide (max x (-x) < Ideal.ofBits .f32 0x7F800000#32)) = 1#1) : x ≠ ⊤ ∧ x ≠ ⊥ := by
  rw [inf_val] at h
  have h' : max x (-x) < ⊤ := by
    by_contra hn
    rw [decide_eq_false hn] at h
    exact absurd h (by decide)
  constructor
  · rintro rfl
    simp at h'
  · rintro rfl
    simp at h'

theorem pre_finite (a0 : FVec Ideal Cert.Pre_finite_scores.S16384x1024 .f32) (a1 : FVec Ideal Cert.Pre_finite_scores.S16384x48 .f32)
    (a2 a3 : FVec Ideal Cert.Pre_finite_scores.S4x1024x64 .f32) (a4 a5 a6 a7 : FVec Ideal Cert.Pre_finite_scores.S16384x256 .f32)
    (h : ∀ i, Cert.Pre_finite_scores.fn (F := Ideal) a0 a1 a2 a3 a4 a5 a6 a7 i = 1#1) :
    (∀ i, a0 i ≠ ⊤ ∧ a0 i ≠ ⊥) ∧ (∀ i, a2 i ≠ ⊤ ∧ a2 i ≠ ⊥) ∧ (∀ i, a4 i ≠ ⊤ ∧ a4 i ≠ ⊥) ∧ (∀ i, a6 i ≠ ⊤ ∧ a6 i ≠ ⊥) := by
  have e := h (fun d => d.elim0)
  obtain ⟨e1, e4⟩ := IntOp.andi_eq_one.1 e
  obtain ⟨e1, e3⟩ := IntOp.andi_eq_one.1 e1
  obtain ⟨e1, e2⟩ := IntOp.andi_eq_one.1 e1
  exact ⟨fun i => finite_of _ (Host.reduce_andi_all _ _ _ _ _ e1 i), fun i => finite_of _ (Host.reduce_andi_all _ _ _ _ _ e2 i),
    fun i => finite_of _ (Host.reduce_andi_all _ _ _ _ _ e3 i), fun i => finite_of _ (Host.reduce_andi_all _ _ _ _ _ e4 i)⟩

theorem on_first (a0 : FVec Ideal Cert.On_first_tokens.S16384x1024 .f32) (a1 : FVec Ideal Cert.On_first_tokens.S16384x48 .f32)
    (a2 a3 : FVec Ideal Cert.On_first_tokens.S4x1024x64 .f32) (a4 a5 a6 a7 : FVec Ideal Cert.On_first_tokens.S16384x256 .f32)
    (i : Cert.On_first_tokens.S1024x16384.Idx) (h : Cert.On_first_tokens.fn (F := Ideal) a0 a1 a2 a3 a4 a5 a6 a7 i = 1#1) : (i 1).val < 128 := by
  have hi : (i 1).val < 16384 := (i 1).isLt
  have e : IntOp.cmpi .slt (BitVec.ofNat 32 (i 1).val) (BitVec.ofNat 32 128) = 1#1 := h
  rw [WordCmp.cmpi_slt_ofNat (by omega) (by omega)] at e
  by_contra hn
  rw [decide_eq_false hn] at e
  exact absurd e (by decide)

/-! The two programs. -/

theorem reference_congr {b0 a0 : Vec Ideal Cert.ReferenceIdeal.S16384x1024 .f32} {b1 a1 : Vec Ideal Cert.ReferenceIdeal.S16384x48 .f32}
    {b2 a2 b3 a3 : Vec Ideal Cert.ReferenceIdeal.S4x1024x64 .f32} {b4 a4 b5 a5 b6 a6 b7 a7 : Vec Ideal Cert.ReferenceIdeal.S16384x256 .f32}
    (g0 : b0 = a0) (g1 : b1 = a1) (g2 : b2 = a2) (g3 : b3 = a3) (g4 : b4 = a4) (g5 : b5 = a5) (g6 : b6 = a6) (g7 : b7 = a7)
    (i : Cert.ReferenceIdeal.S1024x16384.Idx) :
    Cert.ReferenceIdeal.Read.val_main_v203 (F := Ideal) b0 b1 b2 b3 b4 b5 b6 b7 i
      = Cert.ReferenceIdeal.Read.val_main_v203 (F := Ideal) a0 a1 a2 a3 a4 a5 a6 a7 i := by
  rw [g0, g1, g2, g3, g4, g5, g6, g7]

theorem algebraic : Cert.algebraic_KernelIdeal_ReferenceIdeal_on_first_tokens_pre_finite_scores
    (hKernelIdeal := Cert.KernelIdeal.Gen.facts) (hReferenceIdeal := Cert.ReferenceIdeal.Gen.facts) := by
  intro m g m' g' hpre hag
  have hfin := fun c => pre_finite _ _ _ _ _ _ _ _ (congrFun (hpre c))
  refine ⟨fun c i => Cert.Proof.KernelIdeal.kVal m c (i 0) (i 1), ?_, ?_⟩
  · exact (θ_run Cert.KernelIdeal.defs _ _).mono (fun r h c => ⟨fun i hi => (h c).1 i (on_first _ _ _ _ _ _ _ _ i hi), (h c).2⟩)
      (Cert.Proof.KernelIdeal.value_first m g hfin)
  · refine (θ_run Cert.ReferenceIdeal.defs _ _).mono (fun r h c => ⟨fun i hi => ?_, (h c).2⟩) (Cert.ReferenceIdeal.Value.run (F := Ideal) m' g')
    obtain ⟨g0, g1, g2, g3, g4, g5, g6, g7⟩ := hag c
    have hT := on_first _ _ _ _ _ _ _ _ i hi
    have e := congrFun (((h c).1).trans (Cert.ReferenceIdeal.Read.val_main_v203_eq (StableHlo.launchContents m' c))) i
    refine e.trans ((reference_congr g0 g1 g2 g3 g4 g5 g6 g7 i).trans ?_)
    obtain ⟨h0, h2, h4, h6⟩ := hfin c
    have ei : i = ix2 (i 0) (i 1) := by
      funext d
      match d with
      | ⟨0, _⟩ => rfl
      | ⟨1, _⟩ => rfl
    exact (congrArg _ ei).trans (Cert.Proof.Reference.result_first _ _ _ _ _ _ _ _ (fun j => (EReal.coe_toReal (h0 j).1 (h0 j).2).symm)
      (fun j => (EReal.coe_toReal (h2 j).1 (h2 j).2).symm) (fun j => (EReal.coe_toReal (h4 j).1 (h4 j).2).symm) (fun j => (EReal.coe_toReal (h6 j).1 (h6 j).2).symm) (i 0) (i 1) hT)

end Cert.Proof

end
-- ==== Proof.Experts.Body.lean ====
/- The triple of the experts' kernel body: what one point leaves in its tile. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Experts

open Cert.Kernel2Ideal Cert.Kernel2Ideal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables, whole, as the body is handed them. -/
abbrev tab0 : Memref sig .tc .smem S136 .i32 := Memref.whole main_arg0
abbrev htab0 : tab0.IsWhole := Memref.isWhole_whole _
abbrev tab1 : Memref sig .tc .smem S1 .i32 := Memref.whole main_arg1
abbrev htab1 : tab1.IsWhole := Memref.isWhole_whole _

/-- A table's contents on core `c`, and the half of it that the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The word of the second table: how many blocks are used. -/
def usedWord (c : Dev nD) (xt1 : TabBuf (F := F) c tab1) : BitVec 32 :=
  View.readAt (Elt F) tab1.view (Rect.unit ![0] ![1] inb_S1_S1_0).toLoadRect xt1 (Shape.Idx.first (by decide))

/-- The rows as the body loads them. -/
abbrev X0 (x0 : Vec F S256x1024 .bf16) : Vec F S256x1024 .bf16 := View.ld x0 (Rect.unit ![0, 0] S256x1024.size inb_S256x1024_S256x1024_0_0)

/-- What a used block's result is, of the block's rows, row gates and weights. -/
def usedTile (x0 : Vec F S256x1024 .bf16) (x1 : Vec F S256x1 .f32) (x2 x3 : Vec F S1x1024x3584 .bf16) (x4 : Vec F S1x3584x1024 .bf16) : Vec F S256x1024 .bf16 :=
  k0_pay1
    (k0_pay6 (X0 x0)
      (k0_pay4 (X0 x0) (k0_pay3 (X0 x0) (View.ld x2 (Rect.unit ![0, 0, 0] S1x1024x512.size inb_S1x1024x3584_S1x1024x512_0_0_0)) (View.ld x3 (Rect.unit ![0, 0, 0] S1x1024x512.size inb_S1x1024x3584_S1x1024x512_0_0_0)) (View.ld x4 (Rect.unit ![0, 0, 0] S1x512x1024.size inb_S1x3584x1024_S1x512x1024_0_0_0)) (View.ld x2 (Rect.unit ![0, 0, 512] S1x1024x512.size inb_S1x1024x3584_S1x1024x512_0_0_512)) (View.ld x3 (Rect.unit ![0, 0, 512] S1x1024x512.size inb_S1x1024x3584_S1x1024x512_0_0_512)) (View.ld x4 (Rect.unit ![0, 512, 0] S1x512x1024.size inb_S1x3584x1024_S1x512x1024_0_512_0)))
        (View.ld x2 (Rect.unit ![0, 0, 1024] S1x1024x512.size inb_S1x1024x3584_S1x1024x512_0_0_1024)) (View.ld x3 (Rect.unit ![0, 0, 1024] S1x1024x512.size inb_S1x1024x3584_S1x1024x512_0_0_1024)) (View.ld x4 (Rect.unit ![0, 1024, 0] S1x512x1024.size inb_S1x3584x1024_S1x512x1024_0_1024_0)) (View.ld x2 (Rect.unit ![0, 0, 1536] S1x1024x512.size inb_S1x1024x3584_S1x1024x512_0_0_1536)) (View.ld x3 (Rect.unit ![0, 0, 1536] S1x1024x512.size inb_S1x1024x3584_S1x1024x512_0_0_1536)) (View.ld x4 (Rect.unit ![0, 1536, 0] S1x512x1024.size inb_S1x3584x1024_S1x512x1024_0_1536_0)))
      (k0_pay5 (X0 x0) (View.ld x2 (Rect.unit ![0, 0, 2048] S1x1024x512.size inb_S1x1024x3584_S1x1024x512_0_0_2048)))
      (View.ld x3 (Rect.unit ![0, 0, 2048] S1x1024x512.size inb_S1x1024x3584_S1x1024x512_0_0_2048)) (View.ld x4 (Rect.unit ![0, 2048, 0] S1x512x1024.size inb_S1x3584x1024_S1x512x1024_0_2048_0)) (View.ld x2 (Rect.unit ![0, 0, 2560] S1x1024x512.size inb_S1x1024x3584_S1x1024x512_0_0_2560)) (View.ld x3 (Rect.unit ![0, 0, 2560] S1x1024x512.size inb_S1x1024x3584_S1x1024x512_0_0_2560)) (View.ld x4 (Rect.unit ![0, 2560, 0] S1x512x1024.size inb_S1x3584x1024_S1x512x1024_0_2560_0)))
    (k0_pay7 (X0 x0) (View.ld x2 (Rect.unit ![0, 0, 3072] S1x1024x512.size inb_S1x1024x3584_S1x1024x512_0_0_3072)) (View.ld x3 (Rect.unit ![0, 0, 3072] S1x1024x512.size inb_S1x1024x3584_S1x1024x512_0_0_3072))) (View.ld x4 (Rect.unit ![0, 3072, 0] S1x512x1024.size inb_S1x3584x1024_S1x512x1024_0_3072_0))
    (View.ld x1 (Rect.unit ![0, 0] S256x1.size inb_S256x1_S256x1_0_0))

/-- What the body leaves at a point: the used block's result, or zeros past the used blocks. -/
def tile (i : grid0.Coords) (w : BitVec 32) (x0 : Vec F S256x1024 .bf16) (x1 : Vec F S256x1 .f32) (x2 x3 : Vec F S1x1024x3584 .bf16)
    (x4 : Vec F S1x3584x1024 .bf16) : Vec F S256x1024 .bf16 :=
  if k0_cond1 i w = 1#1 then usedTile x0 x1 x2 x3 x4 else k0_pay2

/-- A block is used when its number is below the count of used blocks. -/
theorem cond1_iff (i : grid0.Coords) (w : BitVec 32) : k0_cond1 i w = 1#1 ↔ (BitVec.ofNat 32 (i 0).val).toInt < w.toInt := by
  unfold k0_cond1
  simp only [scalar_cmpi_eq, cmpi_slt_eq, scalar_extui_ofBool]
  by_cases h : (BitVec.ofNat 32 (i 0).val).toInt < w.toInt <;> simp [h] <;> decide

/-- A block is past the used ones exactly when it is not one of them. -/
theorem cond2_iff (i : grid0.Coords) (w : BitVec 32) : k0_cond2 i w = 1#1 ↔ ¬ k0_cond1 i w = 1#1 := by
  rw [cond1_iff]
  unfold k0_cond2
  simp only [scalar_cmpi_eq, cmpi_sge_eq, scalar_extui_ofBool]
  by_cases h : w.toInt ≤ (BitVec.ofNat 32 (i 0).val).toInt <;> simp [h] <;> first | decide | omega

set_option maxHeartbeats 1000000 in
/-- The body, from whole buffers, leaves the inputs and the tables as they were and `tile` in the output's. -/
theorem body (c : Dev nD) (i : grid0.Coords) (arg3 : Memref sig .tc .vmem S256x1024 .bf16) (harg3 : arg3.IsWhole) (arg4 : Memref sig .tc .vmem S256x1 .f32) (harg4 : arg4.IsWhole)
    (arg5 : Memref sig .tc .vmem S1x1024x3584 .bf16) (harg5 : arg5.IsWhole) (arg6 : Memref sig .tc .vmem S1x1024x3584 .bf16) (harg6 : arg6.IsWhole)
    (arg7 : Memref sig .tc .vmem S1x3584x1024 .bf16) (harg7 : arg7.IsWhole) (arg8 : Memref sig .tc .vmem S256x1024 .bf16) (harg8 : arg8.IsWhole)
    (x0 : Vec F S256x1024 .bf16) (x1 : Vec F S256x1 .f32) (x2 x3 : Vec F S1x1024x3584 .bf16) (x4 : Vec F S1x3584x1024 .bf16)
    (xt0 : TabBuf (F := F) c tab0) (xt1 : TabBuf (F := F) c tab1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ tabPt c tab0 xt0 ∗ tabPt c tab1 xt1
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
              ∗ owns (c : Thread nD τ) arg8 fullShare (tile i (usedWord c xt1) x0 x1 x2 x3 x4) ∗ tabPt c tab0 xt0 ∗ tabPt c tab1 xt1) -∗ K ⟨⟩))
          ⊢ wp frame (wpE (defs₀ (F := F)) Variants.none c none) E
            (cc0_moe_experts i tab0 htab0 tab1 htab1 arg3 harg3 arg4 harg4 arg5 harg5 arg6 harg6 arg7 harg7 arg8 harg8) K := by
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    have hw : body.sl.r c xt1 = usedWord c xt1 := rfl
    have hv : k0_pay1 (body.sl.r_5 c arg3 harg3 arg5 harg5 arg6 harg6 arg7 harg7 x0 x2 x3 x4)
        (body.sl.r_6 c arg3 harg3 arg5 harg5 arg6 harg6 x0 x2 x3)
        (View.readAt (Elt F) arg7.view (Rect.unit (s := S1x3584x1024) ![0, 3072, 0] S1x512x1024.size inb_S1x3584x1024_S1x512x1024_0_3072_0).toLoadRect (harg7.unread x4))
        (View.readAt (Elt F) arg4.view (Rect.unit (s := S256x1) ![0, 0] S256x1.size inb_S256x1_S256x1_0_0).toLoadRect (harg4.unread x1)) = usedTile x0 x1 x2 x3 x4 := by
      unfold body.sl.r_5 body.sl.r_6 body.sl.r_4 body.sl.r_3 body.sl.r_2 body.sl.r_1 usedTile
      simp only [View.readAt_eq_ld, hf0, hf1, hf2, hf3, hf4]
    unfold tile
    rw [hw]
    by_cases hc : k0_cond1 i (usedWord c xt1) = 1#1
    · rw [dif_neg (fun h => (cond2_iff i _).mp h hc), dif_pos hc, if_pos hc]
      exact (View.read_writes_full _ _ _ _ _).trans hv
    · rw [dif_pos ((cond2_iff i _).mpr hc), if_neg hc]
      exact View.read_writes_full _ _ _ _ _
  isplitl [HT0]; · iexact HT0
  iexact HT1

end Cert.Proof.Experts

end
-- ==== Proof.Experts.Frame.lean ====
/- The experts' kernel as a pipeline over its 136 blocks: its run, and the frame at any float values. -/
module

public import proofs.«01_k».proof.Proof.Experts.Body
public import Idealize.ShloMosaic.Lib.Pipeline.Kit
public import Idealize.ShloMosaic.Lib.Claim

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations and then the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write the three casts of the weights alone. -/
theorem V_arg (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    repeat' apply And.intro
    all_goals exact StableHlo.devRef_ne_of_ne (by assumption)))
theorem V_main_arg0 (c : Dev nD) : V m c main_arg0 = m ((c : Thread nD τ).loc main_arg0) := V_arg m c _ (by decide) (by decide) (by decide)
theorem V_main_arg1 (c : Dev nD) : V m c main_arg1 = m ((c : Thread nD τ).loc main_arg1) := V_arg m c _ (by decide) (by decide) (by decide)
theorem V_main_arg2 (c : Dev nD) : V m c main_arg2 = m ((c : Thread nD τ).loc main_arg2) := V_arg m c _ (by decide) (by decide) (by decide)
theorem V_main_arg3 (c : Dev nD) : V m c main_arg3 = m ((c : Thread nD τ).loc main_arg3) := V_arg m c _ (by decide) (by decide) (by decide)
theorem V_main_arg4 (c : Dev nD) : V m c main_arg4 = m ((c : Thread nD τ).loc main_arg4) := V_arg m c _ (by decide) (by decide) (by decide)
theorem V_main_arg5 (c : Dev nD) : V m c main_arg5 = m ((c : Thread nD τ).loc main_arg5) := V_arg m c _ (by decide) (by decide) (by decide)
theorem V_main_arg6 (c : Dev nD) : V m c main_arg6 = m ((c : Thread nD τ).loc main_arg6) := V_arg m c _ (by decide) (by decide) (by decide)

/-! ## The prefetched tables, read off the launch memory -/

/-- The two tables' contents as the pipeline finds them: the blocks' experts and the count of used blocks. -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- What the tables' words have to satisfy: every block that they select lies inside its array. The precondition gives it. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- The halves of the two tables that the body is lent. -/
theorem PhiT0_eq (c : Dev nD) : (Pipeline.ΦT pre0 (tbl m) c : sProp 𝕄) = iprop(tabPt c tab0 (tbl m 0) ∗ tabPt c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block that window `w` has at point `t`, read off its array. The weights' blocks depend on the first table. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- A run that leaves every array as the pipeline's data have it leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-- The result's block is written back at every point, whatever the tables hold. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel's body at point `t`, on the buffers that the pipeline passes. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- The buffer of each window at point `t`; each is whole. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x3584 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3584x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .bf16 := spec0_5.stage ((cfgM m hO).slots t 5)
abbrev hs0_5 (hO : Ok m) (t : Fin (cfgM m hO).N) : (ms0_5 m hO t).IsWhole := hstage0_5 (((cfgM m hO).slots t 5).cast nbuf0_5)

/-! ## What the outputs hold after each point -/

/-- The tile that the body leaves at point `t`, from that point's blocks. -/
def outsAt0 (hO : Ok m) (c : Dev nD) (t : Fin (cfgM m hO).N) : Vec F S256x1024 .bf16 :=
  tile (grid0.coords t) (usedWord c (tbl m 1)) (iblk m hO c 0 t) (iblk m hO c 1 t) (iblk m hO c 2 t) (iblk m hO c 3 t) (iblk m hO c 4 t)

/-! ## The pipeline's proof data -/

/-- What holds around every point: an input's buffer keeps its block, the result's gets the tile, the tables are lent and
    given back, and nothing is owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The arrays at the start are those that the host operations leave. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's buffer holds its block when the body starts, whether it was fetched at this point or earlier. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is given at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body's triple at point `t`, on that point's blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- What the pipeline calls at point `t` is `bodyAt0`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output's window is idle at no point: one of the two conditions always holds. -/
theorem idle5 (hO : Ok m) (t : Fin (cfgM m hO).N) : (cfgM m hO).idle (5 : Fin 6) ((cfgM m hO).grid.coords t) = false := by
  show (!(k0_cond1 _ _ == 1#1) && !(k0_cond2 _ _ == 1#1)) = false
  by_cases h : k0_cond1 ((cfgM m hO).grid.coords t) ((tbl m).atD 1 ![0]) = 1#1
  · simp [h]
  · simp [(cond2_iff _ _).mpr h]

/-- The body's triple at every point. -/
theorem body_obligation (hO : Ok m) (c : Dev nD) : BodyObligation (dats (F := F) m hO 0 c) (defs₀ (F := F)) Variants.none () Set.univ := fun t => by
  rw [bigSep_W0, bigSep_W0, defs₀_row m hO]
  rw [idle5 m hO t]
  exact triple_restated (sound_body m hO c t) rfl .rfl fun _ => .rfl

/-! ## The run and the frame -/

set_option backward.isDefEq.respectTransparency.types false in
/-- Every weakly fair execution ends with the arrays as `dats` has them and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame at any float values: the arguments end as they were and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Proof.Experts

end
-- ==== Proof.Experts.Run.lean ====
/- The frames of the experts' kernel, of its idealization and of its reference, under the range of the experts' numbers. -/
module

public import proofs.«01_k».proof.Defs
public import proofs.«01_k».proof.Proof.Experts.Frame
public import proofs.«01_k».proof.Proof.Gen.Pre_experts_in_range
public import proofs.«01_k».proof.Proof.Gen.Kernel2
public import proofs.«01_k».proof.Proof.Gen.Reference2Ideal
public import proofs.«01_k».proof.Proof.Gen.Reference2Ideal.Run
public import Idealize.ShloMosaic.Lib.Affine
public import Idealize.ShloMosaic.Lib.ReduceAll

@[expose] public section

set_option maxRecDepth 16384

noncomputable section

namespace Cert.Proof.Experts

open Cert.Kernel2Ideal Cert.Kernel2Ideal.Gen
open Idealize.ShloMosaic Idealize.ShloMosaic.TcCoe Idealize.SL.Sem

variable {F : FTy → Type} [FloatOps F]

/-- Under the precondition every block's expert is one of the eight. -/
theorem expert_lt (a0 : IVec Cert.Pre_experts_in_range.S136 32) (a1 : IVec Cert.Pre_experts_in_range.S1 32)
    (a2 : FVec F Cert.Pre_experts_in_range.S34816x1024 .bf16) (a3 : FVec F Cert.Pre_experts_in_range.S34816x1 .f32)
    (a4 a5 : FVec F Cert.Pre_experts_in_range.S8x1024x3584 .f32) (a6 : FVec F Cert.Pre_experts_in_range.S8x3584x1024 .f32)
    (h : ∀ i, Cert.Pre_experts_in_range.fn (F := F) a0 a1 a2 a3 a4 a5 a6 i = 1#1) (i : Cert.Pre_experts_in_range.S136.Idx) :
    (a0 i).toNat < 8 := by
  have e := Host.reduce_andi_all _ _ _ _ _ (h (fun d => d.elim0)) i
  obtain ⟨e0, e8⟩ := IntOp.andi_eq_one.1 e
  have e0' : IntOp.cmpi .sge (a0 i) (0#32) = 1#1 := e0
  have e8' : IntOp.cmpi .slt (a0 i) (8#32) = 1#1 := e8
  rw [WordCmp.cmpi_sge_zero, WordCmp.ofBool_decide_eq_one_iff] at e0'
  rw [WordCmp.cmpi_slt_of_lt e0' (by decide), WordCmp.ofBool_decide_eq_one_iff] at e8'
  exact e8'

/-- The word of a block's expert, as an index map reads it. -/
theorem block_ok {B C : ℕ} {v : ℕ} (h : v < 8) (a : Fin 3) : ((![v, 0, 0] : Fin 3 → ℕ) a + 1) * (⟨3, ![1, B, C]⟩ : Shape).size a ≤ (⟨3, ![8, B, C]⟩ : Shape).size a := by
  fin_cases a
  · show (v + 1) * 1 ≤ 8
    omega
  · show (0 + 1) * B ≤ B
    omega
  · show (0 + 1) * C ≤ C
    omega

/-- Blocks whose experts are in range lie inside the weights. -/
theorem ok_of_lt (pf : pre0.Contents (Elt F)) (h : ∀ i : S136.Idx, BitVec.toNat (w := 32) (pf 0 i) < 8) : ok0 (F := F) pf :=
  ⟨fun i => ⟨block_ok (h _), .inr (Affine.block_words_dvd (h2 := by decide) (by decide))⟩,
    fun i => ⟨block_ok (h _), .inr (Affine.block_words_dvd (h2 := by decide) (by decide))⟩,
    fun i => ⟨block_ok (h _), .inr (Affine.block_words_dvd (h2 := by decide) (by decide))⟩⟩

theorem ok_of (m : (ℓ : Loc nD τ sig) → Buf (Elt F) ℓ)
    (h : ∀ i : S136.Idx, BitVec.toNat (w := 32) (m (((0 : Dev nD) : Thread nD τ).loc main_arg0) i) < 8) : Ok m :=
  ok_of_lt _ fun i => (congrArg (BitVec.toNat (w := 32)) (congrFun (V_main_arg0 m 0) i)).trans_lt (h i)

/-- The experts kernel's idealization runs, leaves its arguments as they were and every counter at zero. -/
theorem frame_pi : Cert.quiescent_Kernel2Ideal := fun m ρ hpre =>
  frame m ρ (ok_of m (expert_lt _ _ _ _ _ _ _ (congrFun (hpre 0))))

/-- The two programs' bodies are the same, -/
theorem defs₀_eq : Cert.Kernel2.defs₀ (F := Bits) = Cert.Kernel2Ideal.defs₀ (F := Bits) := by
  refine congrArg (Defs.onTc (nD := nD) (τ := τ) (sig := sig) (Val := Elt Bits) (Λ := Λ₀)) (funext fun l => funext fun a => ?_)
  match l, a with
  | 0, (t, s) => rfl

/-- and so are they with the pipeline's. -/
theorem defs_eq : Cert.Kernel2.defs (F := Bits) = Cert.Kernel2Ideal.defs (F := Bits) :=
  congrArg (Pipeline.defs (Cert.Kernel2Ideal.pcfgs (F := Bits))) defs₀_eq

/-- So does the kernel: it has the same text. -/
theorem frame_p : Cert.quiescent_Kernel2 (hKernel2 := Cert.Kernel2.Gen.facts) := fun m ρ hpre => by
  rw [defs_eq]
  exact frame (F := Bits) m ρ (ok_of m (expert_lt _ _ _ _ _ _ _ (congrFun (hpre 0))))

/-- So does the reference, from its run read back. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Experts

end
-- ==== Proof.Experts.Tile.lean ====
/- One tile of the experts' call at an index: a row through an expert, the sum over the hidden columns taken in seven chunks. -/
module

public import proofs.«01_k».proof.Proof.Experts.Body
public import Idealize.ShloMosaic.Lib.Pointwise
public import Idealize.ShloMosaic.Lib.MatmulPlain
public import Idealize.ShloMosaic.Lib.Pipeline.ValueKit

@[expose] public section

noncomputable section

namespace Cert.Proof.Experts

open Idealize.ShloMosaic

/-! What an expert makes of a row. -/

/-- One hidden unit: the gated product of the row's two projections. -/
def hid (x wg wu : Fin 1024 → EReal) : EReal :=
  (∑ k, x k * wg k) * Ideal.logistic (∑ k, x k * wg k) * ∑ k, x k * wu k
/-- One entry of the row's result: the hidden units projected back, times the row's gate. -/
def expert (x : Fin 1024 → EReal) (g : EReal) (wg wu : Fin 1024 → Fin 3584 → EReal) (wd : Fin 3584 → EReal) : EReal :=
  (∑ f, hid x (fun k => wg k f) (fun k => wu k f) * wd f) * g

/-- Unit `f` of chunk `c`, among the 3584. -/
abbrev unit (c : Fin 7) (f : Fin 512) : Fin 3584 := ⟨512 * c.val + f.val, by omega⟩

/-- A sum over the hidden units, chunk by chunk. -/
theorem sum_chunks (G : Fin 3584 → EReal) : ∑ f, G f = ∑ c : Fin 7, ∑ f : Fin 512, G (unit c f) := by
  rw [← Fintype.sum_prod_type']
  refine (Fintype.sum_equiv (finProdFinEquiv (m := 7) (n := 512)) _ _ fun p => ?_).symm
  refine congrArg G (Fin.ext ?_)
  show 512 * p.1.val + p.2.val = p.2.val + 512 * p.1.val
  omega

open Cert.Kernel2Ideal Cert.Kernel2Ideal.Gen
open Idealize.ShloMosaic.TcCoe Idealize.ShloMosaic.Tactic

/-- A chunk's hidden units projected back. -/
def down (a : FVec Ideal S256x512 .bf16) (wd : Vec Ideal S1x512x1024 .bf16) : FVec Ideal S256x1024 .f32 :=
  have d : FVec Ideal S512x1024 .bf16 := shapeCast S512x1024 wd shapeCasts_S1x512x1024_S512x1024
  have z : FVec Ideal S256x1024 .f32 := constant S256x1024 .f32 0x00000000#32
  matmul dot_S256x512_S512x1024_S256x1024_1_0_0_1_n_n none a d z

theorem down_at (a : FVec Ideal S256x512 .bf16) (wd : Vec Ideal S1x512x1024 .bf16) (r : Fin 256) (y : Fin 1024) :
    down a wd (ix2 r y) = ∑ f : Fin 512, a (ix2 r f) * wd (ix3 0 f y) := by
  pointwise [down]

theorem hid_at (x : Vec Ideal S256x1024 .bf16) (wg wu : Vec Ideal S1x1024x512 .bf16) (r : Fin 256) (f : Fin 512) :
    k0_pay7 x wg wu (ix2 r f) = hid (fun k => x (ix2 r k)) (fun k => wg (ix3 0 k f)) (fun k => wu (ix3 0 k f)) := by
  pointwise [k0_pay7]
  rfl

section
variable (x : Vec Ideal S256x1024 .bf16) (y0 : FVec Ideal S256x1024 .f32) (g0 u0 g1 u1 : Vec Ideal S1x1024x512 .bf16) (d0 d1 : Vec Ideal S1x512x1024 .bf16)

theorem pay3_eq : k0_pay3 x g0 u0 d0 g1 u1 d1
    = addf (addf (broadcast S256x1024 (Scalar.ofBits (F := Ideal) .f32 0x00000000#32)) (down (k0_pay7 x g0 u0) d0)) (down (k0_pay7 x g1 u1) d1) := rfl
theorem pay4_eq : k0_pay4 x y0 g0 u0 d0 g1 u1 d1 = addf (addf y0 (down (k0_pay7 x g0 u0) d0)) (down (k0_pay7 x g1 u1) d1) := rfl
theorem pay6_eq : k0_pay6 x y0 (k0_pay5 x g0) u0 d0 g1 u1 d1 = addf (addf y0 (down (k0_pay7 x g0 u0) d0)) (down (k0_pay7 x g1 u1) d1) := rfl
theorem pay1_at (a : FVec Ideal S256x512 .bf16) (g : Vec Ideal S256x1 .f32) (r : Fin 256) (y : Fin 1024) :
    k0_pay1 y0 a d0 g (ix2 r y) = (y0 (ix2 r y) + down a d0 (ix2 r y)) * g (ix2 r 0) := by
  rw [down_at]
  pointwise [k0_pay1]
theorem first_at (r : Fin 256) (y : Fin 1024) : broadcast S256x1024 (Scalar.ofBits (F := Ideal) .f32 0x00000000#32) (ix2 r y) = (0 : EReal) := by
  pointwise []
theorem add_at (y1 : FVec Ideal S256x1024 .f32) (i : S256x1024.Idx) : addf y0 y1 i = (y0 i + y1 i : EReal) := rfl
end

theorem unused_at (i : S256x1024.Idx) : k0_pay2 (F := Ideal) i = (0 : EReal) := by
  pointwise [k0_pay2]

variable (x0 : Vec Ideal S256x1024 .bf16) (x1 : Vec Ideal S256x1 .f32) (x2 x3 : Vec Ideal S1x1024x3584 .bf16) (x4 : Vec Ideal S1x3584x1024 .bf16)

theorem X0_eq : X0 x0 = x0 := View.ld_unit_zero (by funext a; fin_cases a <;> rfl) _ _
theorem X1_eq : View.ld x1 (Rect.unit (s := S256x1) ![0, 0] S256x1.size inb_S256x1_S256x1_0_0) = x1 := View.ld_unit_zero (by funext a; fin_cases a <;> rfl) _ _

/-- A chunk's columns of a projection's weights, -/
theorem cols_at (X : Vec Ideal S1x1024x3584 .bf16) (c : Fin 7) (o : ℕ) (ho : o = 512 * c.val) (inb : ∀ a, (![0, 0, o] : Fin 3 → ℕ) a + S1x1024x512.size a ≤ S1x1024x3584.size a)
    (k : Fin 1024) (f : Fin 512) : View.ld X (Rect.unit (s := S1x1024x3584) ![0, 0, o] S1x1024x512.size inb) (ix3 0 k f) = X (ix3 0 k (unit c f)) := by
  subst ho
  refine View.ld_unit_apply_of X _ _ _ _ _ fun a => ?_
  match a with
  | ⟨0, _⟩ => rfl
  | ⟨1, _⟩ => exact (Nat.zero_add _).symm
  | ⟨2, _⟩ => rfl
/-- and a chunk's rows of the last one's. -/
theorem rows_at (X : Vec Ideal S1x3584x1024 .bf16) (c : Fin 7) (o : ℕ) (ho : o = 512 * c.val) (inb : ∀ a, (![0, o, 0] : Fin 3 → ℕ) a + S1x512x1024.size a ≤ S1x3584x1024.size a)
    (f : Fin 512) (y : Fin 1024) : View.ld X (Rect.unit (s := S1x3584x1024) ![0, o, 0] S1x512x1024.size inb) (ix3 0 f y) = X (ix3 0 (unit c f) y) := by
  subst ho
  refine View.ld_unit_apply_of X _ _ _ _ _ fun a => ?_
  match a with
  | ⟨0, _⟩ => rfl
  | ⟨1, _⟩ => rfl
  | ⟨2, _⟩ => exact (Nat.zero_add _).symm

/-- A chunk's part of an entry. -/
theorem chunk_at (c : Fin 7) (o : ℕ) (ho : o = 512 * c.val) (inb2 inb3 : ∀ a, (![0, 0, o] : Fin 3 → ℕ) a + S1x1024x512.size a ≤ S1x1024x3584.size a)
    (inb4 : ∀ a, (![0, o, 0] : Fin 3 → ℕ) a + S1x512x1024.size a ≤ S1x3584x1024.size a) (r : Fin 256) (y : Fin 1024) :
    down (k0_pay7 x0 (View.ld x2 (Rect.unit (s := S1x1024x3584) ![0, 0, o] S1x1024x512.size inb2)) (View.ld x3 (Rect.unit (s := S1x1024x3584) ![0, 0, o] S1x1024x512.size inb3)))
        (View.ld x4 (Rect.unit (s := S1x3584x1024) ![0, o, 0] S1x512x1024.size inb4)) (ix2 r y)
      = ∑ f : Fin 512, hid (fun k => x0 (ix2 r k)) (fun k => x2 (ix3 0 k (unit c f))) (fun k => x3 (ix3 0 k (unit c f))) * x4 (ix3 0 (unit c f) y) := by
  rw [down_at]
  refine Finset.sum_congr rfl fun f _ => ?_
  rw [hid_at, rows_at x4 c o ho]
  simp only [cols_at x2 c o ho, cols_at x3 c o ho]

/-- An entry of a used block's result. -/
theorem used_at (r : Fin 256) (y : Fin 1024) : usedTile x0 x1 x2 x3 x4 (ix2 r y)
    = expert (fun k => x0 (ix2 r k)) (x1 (ix2 r 0)) (fun k f => x2 (ix3 0 k f)) (fun k f => x3 (ix3 0 k f)) (fun f => x4 (ix3 0 f y)) := by
  unfold usedTile
  rw [X0_eq, X1_eq, pay1_at, pay6_eq, pay4_eq, pay3_eq]
  rw [add_at, add_at, add_at, add_at, add_at, add_at]
  rw [first_at, chunk_at x0 x2 x3 x4 0 0 rfl, chunk_at x0 x2 x3 x4 1 512 rfl, chunk_at x0 x2 x3 x4 2 1024 rfl, chunk_at x0 x2 x3 x4 3 1536 rfl,
    chunk_at x0 x2 x3 x4 4 2048 rfl, chunk_at x0 x2 x3 x4 5 2560 rfl, chunk_at x0 x2 x3 x4 6 3072 rfl]
  unfold expert
  rw [sum_chunks, Fin.sum_univ_seven, zero_add]

end Cert.Proof.Experts

end
-- ==== Proof.Experts.Value.lean ====
/- The result of the experts' kernel at an index, from the tiles of all blocks. -/
module

public import proofs.«01_k».proof.Proof.Experts.Run
public import proofs.«01_k».proof.Proof.Experts.Tile
public import Idealize.ShloMosaic.Lib.StableHlo.ReadAt

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (hO : Ok m)

/-! The weights as the kernel takes them are the arguments. -/

theorem V_v0 (c : Dev nD) (e : Fin 8) (k : Fin 1024) (f : Fin 3584) : V m c main_v0 (ix3 e k f) = m ((c : Thread nD τ).loc main_arg4) (ix3 e k f) := by
  unfold V
  after_reads_at
theorem V_v1 (c : Dev nD) (e : Fin 8) (k : Fin 1024) (f : Fin 3584) : V m c main_v1 (ix3 e k f) = m ((c : Thread nD τ).loc main_arg5) (ix3 e k f) := by
  unfold V
  after_reads_at
theorem V_v2 (c : Dev nD) (e : Fin 8) (f : Fin 3584) (j : Fin 1024) : V m c main_v2 (ix3 e f j) = m ((c : Thread nD τ).loc main_arg6) (ix3 e f j) := by
  unfold V
  after_reads_at

/-! The blocks of a point. -/

abbrev blkOf (t : Fin (cfgM m hO).N) : Fin 136 := grid0.coords t 0

theorem word_at (pf : pre0.Contents (Elt Ideal)) (i : grid0.Coords) (h : ∀ a, (![(BitVec.ofNat 32 (i 0).val).toNat] : Fin 1 → ℕ) a + S1.size a ≤ S136.size a) :
    pf.at 0 (Rect.unit (s := S136) ![(BitVec.ofNat 32 (i 0).val).toNat] S1.size h) numel1_S1 = (pf 0 : IVec S136 32) (ix1 (i 0)) := by
  refine congrArg (pf 0 : IVec S136 32) (funext fun a => ?_)
  match a with
  | ⟨0, _⟩ =>
    refine Fin.ext ?_
    show (BitVec.ofNat 32 (i 0).val).toNat + 1 * 0 = (i 0).val
    have : (i 0).val < 136 := (i 0).isLt
    rw [BitVec.toNat_ofNat]
    omega

theorem index0 (t : Fin (cfgM m hO).N) : ((cfgM m hO).win 0).index t = ![(grid0.coords t 0).val, 0] :=
  (by decide +kernel : ∀ t : Fin grid0.N, cc0_transform_0 (grid0.coords t) = ![(grid0.coords t 0).val, 0]) t
theorem index1 (t : Fin (cfgM m hO).N) : ((cfgM m hO).win 1).index t = ![(grid0.coords t 0).val, 0] :=
  (by decide +kernel : ∀ t : Fin grid0.N, cc0_transform_1 (grid0.coords t) = ![(grid0.coords t 0).val, 0]) t
theorem index5 (t : Fin (cfgM m hO).N) : ((cfgM m hO).win 5).index t = ![(grid0.coords t 0).val, 0] :=
  (by decide +kernel : ∀ t : Fin grid0.N, cc0_transform_5 (grid0.coords t) = ![(grid0.coords t 0).val, 0]) t

/-- The word of the block's expert. -/
abbrev expertOf (t : Fin (cfgM m hO).N) : BitVec 32 := (tbl m 0 : IVec S136 32) (ix1 (blkOf m hO t))

theorem index2 (t : Fin (cfgM m hO).N) : ((cfgM m hO).win 2).index t = ![(expertOf m hO t).toNat, 0, 0] :=
  congrArg (fun w : BitVec 32 => (![w.toNat, 0, 0] : Fin 3 → ℕ)) (word_at (tbl m) (grid0.coords t) _)
theorem index3 (t : Fin (cfgM m hO).N) : ((cfgM m hO).win 3).index t = ![(expertOf m hO t).toNat, 0, 0] :=
  congrArg (fun w : BitVec 32 => (![w.toNat, 0, 0] : Fin 3 → ℕ)) (word_at (tbl m) (grid0.coords t) _)
theorem index4 (t : Fin (cfgM m hO).N) : ((cfgM m hO).win 4).index t = ![(expertOf m hO t).toNat, 0, 0] :=
  congrArg (fun w : BitVec 32 => (![w.toNat, 0, 0] : Fin 3 → ℕ)) (word_at (tbl m) (grid0.coords t) _)

variable (c : Dev nD) (t : Fin (cfgM m hO).N)

theorem iblk0_at (r : Fin 256) (k : Fin 1024) (n : Fin 34816) (hn : n.val = 256 * (grid0.coords t 0).val + r.val) :
    iblk m hO c 0 t (ix2 r k) = V m c main_arg2 (ix2 n k) := by
  blk_ext! [iblk, index0 m hO t]
theorem iblk1_at (r : Fin 256) (n : Fin 34816) (hn : n.val = 256 * (grid0.coords t 0).val + r.val) :
    iblk m hO c 1 t (ix2 r 0) = V m c main_arg3 (ix2 n 0) := by
  blk_ext! [iblk, index1 m hO t]
theorem iblk2_at (e : Fin 8) (he : e.val = (expertOf m hO t).toNat) (k : Fin 1024) (f : Fin 3584) :
    iblk m hO c 2 t (ix3 0 k f) = V m c main_v0 (ix3 e k f) := by
  blk_ext! [iblk, index2 m hO t]
theorem iblk3_at (e : Fin 8) (he : e.val = (expertOf m hO t).toNat) (k : Fin 1024) (f : Fin 3584) :
    iblk m hO c 3 t (ix3 0 k f) = V m c main_v1 (ix3 e k f) := by
  blk_ext! [iblk, index3 m hO t]
theorem iblk4_at (e : Fin 8) (he : e.val = (expertOf m hO t).toNat) (f : Fin 3584) (j : Fin 1024) :
    iblk m hO c 4 t (ix3 0 f j) = V m c main_v2 (ix3 e f j) := by
  blk_ext! [iblk, index4 m hO t]

/-- How many blocks are used. -/
def usedOf (c : Dev nD) : BitVec 32 := (m ((c : Thread nD τ).loc main_arg1) : IVec S1 32) (ix1 0)

theorem used_word : usedWord (F := Ideal) c (tbl m 1) = usedOf m 0 := by
  refine Eq.trans (b := (tbl m 1 : IVec S1 32) (ix1 0)) ?_ (congrFun (V_main_arg1 m 0) (ix1 0))
  refine congrArg (tbl m 1 : IVec S1 32) (funext fun a => ?_)
  match a with
  | ⟨0, _⟩ => exact Subsingleton.elim (α := Fin 1) _ _

/-- The expert of block `b`: its word, below 8. -/
def eOf (c : Dev nD) (b : Fin 136) : Fin 8 := ⟨BitVec.toNat (w := 32) ((m ((c : Thread nD τ).loc main_arg0) : IVec S136 32) (ix1 b)) % 8, by omega⟩

/-- The kernel's result: a used block's rows through the block's expert, zeros past the used blocks. -/
def kVal (c : Dev nD) (n : Fin 34816) (j : Fin 1024) : EReal :=
  if (BitVec.ofNat 32 (n.val / 256)).toInt < (usedOf m c).toInt then
    expert (fun k => m ((c : Thread nD τ).loc main_arg2) (ix2 n k)) (m ((c : Thread nD τ).loc main_arg3) (ix2 n 0))
      (fun k f => m ((c : Thread nD τ).loc main_arg4) (ix3 (eOf m c ⟨n.val / 256, by omega⟩) k f))
      (fun k f => m ((c : Thread nD τ).loc main_arg5) (ix3 (eOf m c ⟨n.val / 256, by omega⟩) k f))
      (fun f => m ((c : Thread nD τ).loc main_arg6) (ix3 (eOf m c ⟨n.val / 256, by omega⟩) f j))
  else 0

theorem expert_congr {x x' : Fin 1024 → EReal} {g g' : EReal} {wg wg' wu wu' : Fin 1024 → Fin 3584 → EReal} {wd wd' : Fin 3584 → EReal}
    (hx : ∀ k, x k = x' k) (hg : g = g') (hwg : ∀ k f, wg k f = wg' k f) (hwu : ∀ k f, wu k f = wu' k f) (hwd : ∀ f, wd f = wd' f) :
    expert x g wg wu wd = expert x' g' wg' wu' wd' := by
  rw [funext hx, hg, funext fun k => funext (hwg k), funext fun k => funext (hwu k), funext hwd]

/-- What a point leaves in its block of the result. -/
theorem block_val (h8 : ∀ i : S136.Idx, BitVec.toNat (w := 32) (m (((0 : Dev nD) : Thread nD τ).loc main_arg0) i) < 8) (r : Fin 256) (j : Fin 1024)
    (n : Fin 34816) (hn : n.val = 256 * (grid0.coords t 0).val + r.val) : outsAt0 m hO c t (ix2 r j) = kVal m c n j := by
  obtain rfl : c = 0 := Subsingleton.elim _ _
  have hb : (⟨n.val / 256, by omega⟩ : Fin 136) = blkOf m hO t := Fin.ext (by show n.val / 256 = (grid0.coords t 0).val; omega)
  have hd : n.val / 256 = (grid0.coords t 0).val := by omega
  have he : (eOf m 0 (blkOf m hO t)).val = (expertOf m hO t).toNat := by
    show BitVec.toNat (w := 32) _ % 8 = _
    rw [Nat.mod_eq_of_lt (h8 _)]
    exact congrArg (BitVec.toNat (w := 32)) (congrFun (V_main_arg0 m 0) _).symm
  unfold outsAt0 tile kVal
  rw [hb, hd, used_word]
  by_cases hc : k0_cond1 (grid0.coords t) (usedOf m 0) = 1#1
  · rw [if_pos hc, if_pos ((cond1_iff _ _).mp hc)]
    refine (used_at _ _ _ _ _ r j).trans (expert_congr (fun k => ?_) ?_ (fun k f => ?_) (fun k f => ?_) (fun f => ?_))
    · exact (iblk0_at m hO 0 t r k n hn).trans (congrFun (V_main_arg2 m 0) _)
    · exact (iblk1_at m hO 0 t r n hn).trans (congrFun (V_main_arg3 m 0) _)
    · exact (iblk2_at m hO 0 t _ he k f).trans (V_v0 m 0 _ k f)
    · exact (iblk3_at m hO 0 t _ he k f).trans (V_v1 m 0 _ k f)
    · exact (iblk4_at m hO 0 t _ he f j).trans (V_v2 m 0 _ f j)
  · rw [if_neg hc, if_neg (fun h => hc ((cond1_iff _ _).mpr h))]
    exact unused_at _

/-! The result's array after the run. -/

theorem covers5 : ((cfgM m hO).win 5).Covers := by
  refine ⟨(by decide : ∀ a : Fin 2, 0 < S256x1024.size a), fun β => ?_⟩
  have h0 : (β (0 : Fin 2)).val < 136 := (β (0 : Fin 2)).isLt.trans_eq (by show (34816 + 256 - 1) / 256 = 136; rfl)
  have h1 : (β (1 : Fin 2)).val < 1 := (β (1 : Fin 2)).isLt.trans_eq (by show (1024 + 1024 - 1) / 1024 = 1; rfl)
  have hk : ∀ b : Fin 136, ∃ t : Fin grid0.N, cc0_transform_5 (grid0.coords t) = ![b.val, 0] := by decide +kernel
  obtain ⟨t, ht⟩ := hk ⟨(β (0 : Fin 2)).val, h0⟩
  refine ⟨t, flush0_5 (adm m hO) t, fun a => ⟨?_, .inl rfl⟩⟩
  match a with
  | ⟨0, _⟩ => exact congrFun ht 0
  | ⟨1, _⟩ => exact (congrFun ht 1).trans (by show 0 = _; exact (Nat.lt_one_iff.mp h1).symm)

/-- Where the block places its index: row `256 * t + r`, column `j`. -/
theorem place5_row (r : Fin 256) (j : Fin 1024) :
    ((((cfgM m hO).win 5).blk t).view.emb (ix2 r j) (0 : Fin 2) : Fin _).val = 256 * (grid0.coords t 0).val + r.val := by
  have e := Pipeline.Window.rect_emb_val ((cfgM m hO).win 5) t (ix2 r j) (0 : Fin 2) rfl
  have e0 : ((cfgM m hO).win 5).index t (0 : Fin 2) = (grid0.coords t 0).val := congrFun (index5 m hO t) (0 : Fin 2)
  rw [e0] at e
  refine Eq.trans e ?_
  show (grid0.coords t 0).val * 256 + r.val = _
  omega

theorem place5_col (r : Fin 256) (j : Fin 1024) :
    ((((cfgM m hO).win 5).blk t).view.emb (ix2 r j) (1 : Fin 2) : Fin _).val = j.val := by
  have e := Pipeline.Window.rect_emb_val ((cfgM m hO).win 5) t (ix2 r j) (1 : Fin 2) rfl
  have e0 : ((cfgM m hO).win 5).index t (1 : Fin 2) = 0 := congrFun (index5 m hO t) (1 : Fin 2)
  rw [e0] at e
  refine Eq.trans e ?_
  show 0 * 1024 + j.val = _
  omega

set_option maxHeartbeats 1000000 in
theorem result_val (h8 : ∀ i : S136.Idx, BitVec.toNat (w := 32) (m (((0 : Dev nD) : Thread nD τ).loc main_arg0) i) < 8) (i : S34816x1024.Idx) :
    (dats (F := Ideal) m hO 0 c).arrAt 5 (cfgM m hO).N i = kVal m c (i 0) (i 1) := by
  refine (dats (F := Ideal) m hO 0 c).arrAt_forall_of_covers 5 (fun (i : S34816x1024.Idx) (v : EReal) => v = kVal m c (i 0) (i 1)) (covers5 m hO) (fun t hf y => ?_) i
  obtain ⟨r, j, rfl⟩ : ∃ (r : Fin 256) (j : Fin 1024), y = ix2 r j := ⟨y (0 : Fin 2), y (1 : Fin 2), by funext a; fin_cases a <;> rfl⟩
  rw [after0_5]
  refine Eq.trans (b := outsAt0 m hO c t (ix2 r j)) rfl ?_
  rw [block_val m hO c t h8 r j _ (place5_row m hO t r j)]
  exact congrArg (kVal m c _) (Fin.ext (place5_col m hO t r j).symm)

/-- Every weakly fair execution ends with the result as `kVal` has it, the arguments unchanged. -/
theorem value (ρ : Dev nD → PrngReg) (h8 : ∀ i : S136.Idx, BitVec.toNat (w := 32) (m (((0 : Dev nD) : Thread nD τ).loc main_arg0) i) < 8) :
    θ_run defs (onTc (τ := τ) (main (F := Ideal))) ⟨m, fun _ => 0, ρ⟩ (fun r => ∀ c : Dev nD,
      (∀ i : S34816x1024.Idx, r.2.mem ((c : Thread nD τ).loc main_v3) i = kVal m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨fun i => (congrFun (h.1 c |>.1 5) i).trans (result_val m (ok_of m h8) c h8 i), h.2 c⟩)
    (θ_run_and (run_main m ρ (ok_of m h8)) (unchanged m ρ (ok_of m h8)))

end Cert.Proof.Experts

end
-- ==== Proof.Experts.Ref.lean ====
/- The experts' reference at an index. -/
module

public import proofs.«01_k».proof.Proof.Experts.Tile
public import proofs.«01_k».proof.Proof.Gen.Reference2Ideal
public import proofs.«01_k».proof.Proof.Gen.Reference2Ideal.Read
public import Idealize.ShloMosaic.Lib.StableHlo.Predicate
public import Idealize.ShloMosaic.Lib.WordCmp

@[expose] public section

set_option maxRecDepth 16384

noncomputable section

namespace Cert.Proof.Experts.Reference

open Cert.Reference2Ideal Cert.Reference2Ideal.Gen Cert.Reference2Ideal.Read
open Idealize.ShloMosaic

theorem ext1 {a : ℕ} {i j : (⟨1, ![a]⟩ : Shape).Idx} (h0 : (i 0).val = (j 0).val) : i = j := by
  funext z
  match z with
  | ⟨0, _⟩ => exact Fin.ext h0
theorem ext2 {a b : ℕ} {i j : (⟨2, ![a, b]⟩ : Shape).Idx} (h0 : (i 0).val = (j 0).val) (h1 : (i 1).val = (j 1).val) : i = j := by
  funext z
  match z with
  | ⟨0, _⟩ => exact Fin.ext h0
  | ⟨1, _⟩ => exact Fin.ext h1
theorem ext3 {a b c : ℕ} {i j : (⟨3, ![a, b, c]⟩ : Shape).Idx} (h0 : (i 0).val = (j 0).val) (h1 : (i 1).val = (j 1).val)
    (h2 : (i 2).val = (j 2).val) : i = j := by
  funext z
  match z with
  | ⟨0, _⟩ => exact Fin.ext h0
  | ⟨1, _⟩ => exact Fin.ext h1
  | ⟨2, _⟩ => exact Fin.ext h2

theorem zero_val : Ideal.ofBits .f32 0x00000000#32 = 0 := by simp [Ideal.ofBits, Ideal.ieee]
theorem one_val : Ideal.ofBits .f32 0x3F800000#32 = 1 := by
  simp [Ideal.ofBits, Ideal.ieee]
  rw [← EReal.coe_mul]
  norm_num

/-! The experts' weights, gathered by block. -/

abbrev gp : GatherDims S8x1024x3584 S136x1 S136x1024x3584 := gather_S8x1024x3584_S136x1_S136x1024x3584_12_0_n_n_0_1_110243584
abbrev gq : GatherDims S8x3584x1024 S136x1 S136x3584x1024 := gather_S8x3584x1024_S136x1_S136x3584x1024_12_0_n_n_0_1_135841024

theorem gatherp_at (x : Vec Ideal S8x1024x3584 .f32) (idx : IVec S136x1 32) (b : Fin 136) (k : Fin 1024) (f : Fin 3584) (e : Fin 8)
    (he : idx (ix2 b 0) = BitVec.ofNat 32 e.val) : Host.gather gp x idx (ix3 b k f) = x (ix3 e k f) := by
  unfold Host.gather
  refine congrArg x (ext3 ?_ ?_ ?_)
  · show gp.start _ idx 0 + gp.batchCoord _ 0 + gp.offCoord _ 0 = e.val
    rw [gp.batchCoord_eq_zero _ _ (List.not_mem_nil), gp.offCoord_eq_zero _ _ (by decide)]
    unfold GatherDims.start
    have hz : (0 : Fin 3) ∈ gp.startIndexMap := by decide
    rw [dif_pos hz]
    have e1 : gp.siIdx (ix3 b k f) ⟨gp.startIndexMap.idxOf 0, List.idxOf_lt_length_iff.2 hz⟩ = ix2 b 0 := ext2 rfl rfl
    rw [e1, he, StableHlo.Predicate.toInt_ofNat_small e.val (by omega)]
    show min (Int.toNat (e.val : ℤ)) 7 + 0 + 0 = e.val
    simp only [Int.toNat_natCast]
    omega
  · show gp.start _ idx 1 + gp.batchCoord _ 1 + gp.offCoord _ 1 = k.val
    rw [gp.batchCoord_eq_zero _ _ (List.not_mem_nil)]
    unfold GatherDims.start GatherDims.offCoord
    rw [dif_neg (by decide), dif_pos (by decide), Nat.zero_add]
    rfl
  · show gp.start _ idx 2 + gp.batchCoord _ 2 + gp.offCoord _ 2 = f.val
    rw [gp.batchCoord_eq_zero _ _ (List.not_mem_nil)]
    unfold GatherDims.start GatherDims.offCoord
    rw [dif_neg (by decide), dif_pos (by decide), Nat.zero_add]
    rfl

theorem gatherq_at (x : Vec Ideal S8x3584x1024 .f32) (idx : IVec S136x1 32) (b : Fin 136) (f : Fin 3584) (j : Fin 1024) (e : Fin 8)
    (he : idx (ix2 b 0) = BitVec.ofNat 32 e.val) : Host.gather gq x idx (ix3 b f j) = x (ix3 e f j) := by
  unfold Host.gather
  refine congrArg x (ext3 ?_ ?_ ?_)
  · show gq.start _ idx 0 + gq.batchCoord _ 0 + gq.offCoord _ 0 = e.val
    rw [gq.batchCoord_eq_zero _ _ (List.not_mem_nil), gq.offCoord_eq_zero _ _ (by decide)]
    unfold GatherDims.start
    have hz : (0 : Fin 3) ∈ gq.startIndexMap := by decide
    rw [dif_pos hz]
    have e1 : gq.siIdx (ix3 b f j) ⟨gq.startIndexMap.idxOf 0, List.idxOf_lt_length_iff.2 hz⟩ = ix2 b 0 := ext2 rfl rfl
    rw [e1, he, StableHlo.Predicate.toInt_ofNat_small e.val (by omega)]
    show min (Int.toNat (e.val : ℤ)) 7 + 0 + 0 = e.val
    simp only [Int.toNat_natCast]
    omega
  · show gq.start _ idx 1 + gq.batchCoord _ 1 + gq.offCoord _ 1 = f.val
    rw [gq.batchCoord_eq_zero _ _ (List.not_mem_nil)]
    unfold GatherDims.start GatherDims.offCoord
    rw [dif_neg (by decide), dif_pos (by decide), Nat.zero_add]
    rfl
  · show gq.start _ idx 2 + gq.batchCoord _ 2 + gq.offCoord _ 2 = j.val
    rw [gq.batchCoord_eq_zero _ _ (List.not_mem_nil)]
    unfold GatherDims.start GatherDims.offCoord
    rw [dif_neg (by decide), dif_pos (by decide), Nat.zero_add]
    rfl

theorem not_neg (a : ℕ) (ha : a < 2 ^ 31) : IntOp.cmpi .slt (BitVec.ofNat 32 a) 0#32 = 0#1 := by
  show BitVec.ofBool (BitVec.slt _ _) = _
  have : BitVec.slt (BitVec.ofNat 32 a) 0#32 = false := by
    simp only [BitVec.slt, StableHlo.Predicate.toInt_ofNat_small a ha]
    simp
  rw [this]
  rfl

variable (x0 : Vec Ideal S136 .i32) (x1 : Vec Ideal S1 .i32) (x2 : Vec Ideal S34816x1024 .bf16) (x3 : Vec Ideal S34816x1 .f32)
  (x4 x5 : Vec Ideal S8x1024x3584 .f32) (x6 : Vec Ideal S8x3584x1024 .f32)

section
variable (b : Fin 136) (e : Fin 8) (he : x0 (ix1 b) = BitVec.ofNat 32 e.val)
include he

theorem start_at (X : Vec Ideal S136x1 .i32) (hX : X (ix2 b 0) = Scalar.select (IntOp.cmpi .slt (x0 (ix1 b)) 0#32) (IntOp.addi (x0 (ix1 b)) 8#32) (x0 (ix1 b))) :
    X (ix2 b 0) = BitVec.ofNat 32 e.val := by
  rw [hX, he, not_neg _ (by omega)]
  rfl

theorem wg_at (k : Fin 1024) (f : Fin 3584) : val_main_v8 (F := Ideal) x0 x4 (ix3 b k f) = x4 (ix3 e k f) := by
  unfold val_main_v8
  refine gatherp_at _ _ b k f e (start_at x0 b e he _ ?_)
  rw [val_main_v7_apply, show idx_main_v7 (ix2 b 0) = ix1 b from ext1 rfl]
  rfl
theorem wu_at (k : Fin 1024) (f : Fin 3584) : val_main_v15 (F := Ideal) x0 x5 (ix3 b k f) = x5 (ix3 e k f) := by
  unfold val_main_v15
  refine gatherp_at _ _ b k f e (start_at x0 b e he _ ?_)
  rw [val_main_v14_apply, show idx_main_v14 (ix2 b 0) = ix1 b from ext1 rfl]
  rfl
theorem wd_at (f : Fin 3584) (j : Fin 1024) : val_main_v22 (F := Ideal) x0 x6 (ix3 b f j) = x6 (ix3 e f j) := by
  unfold val_main_v22
  refine gatherq_at _ _ b f j e (start_at x0 b e he _ ?_)
  rw [val_main_v21_apply, show idx_main_v21 (ix2 b 0) = ix1 b from ext1 rfl]
  rfl
end

/-! The rows, block by block. -/

/-- Row `r` of block `b`. -/
abbrev row (b : Fin 136) (r : Fin 256) : Fin 34816 := ⟨256 * b.val + r.val, by omega⟩

theorem x_at (b : Fin 136) (r : Fin 256) (k : Fin 1024) : val_main_v1 (F := Ideal) x2 (ix3 b r k) = x2 (ix2 (row b r) k) := by
  have h : idx_main_v0 (ix3 b r k) = ix2 (row b r) k := by
    refine ext2 ?_ ?_
    · show ((b.val * 256 + r.val) * 1024 + k.val) / 1024 = 256 * b.val + r.val
      omega
    · show ((b.val * 256 + r.val) * 1024 + k.val) % 1024 = k.val
      omega
  rw [val_main_v1_apply, val_main_v0_apply, h]
  rfl

theorem gate_at (b : Fin 136) (r : Fin 256) (j : Fin 1024) : val_main_v29 (F := Ideal) x3 (ix3 b r j) = x3 (ix2 (row b r) 0) := by
  have h : idx_main_v28 (idx_main_v29 (ix3 b r j)) = ix2 (row b r) 0 := by
    refine ext2 ?_ rfl
    show ((b.val * 256 + r.val) * 1 + 0) / 1 = 256 * b.val + r.val
    omega
  rw [val_main_v29_apply, val_main_v28_apply, h]

variable (b : Fin 136) (e : Fin 8) (he : x0 (ix1 b) = BitVec.ofNat 32 e.val)
include he

theorem hid_at (r : Fin 256) (f : Fin 3584) : val_main_v26 (F := Ideal) x0 x2 x4 x5 (ix3 b r f)
    = hid (fun k => x2 (ix2 (row b r) k)) (fun k => x4 (ix3 e k f)) (fun k => x5 (ix3 e k f)) := by
  have hg : val_main_v23 (F := Ideal) x0 x2 x4 (ix3 b r f) = ∑ k, x2 (ix2 (row b r) k) * x4 (ix3 e k f) := by
    rw [val_main_v23_apply]
    refine Finset.sum_congr rfl fun k _ => ?_
    rw [show lidx_main_v23 (ix3 b r f) k = ix3 b r k from ext3 rfl rfl rfl, show ridx_main_v23 (ix3 b r f) k = ix3 b k f from ext3 rfl rfl rfl,
      x_at, wg_at x0 x4 b e he]
  have hu : val_main_v25 (F := Ideal) x0 x2 x5 (ix3 b r f) = ∑ k, x2 (ix2 (row b r) k) * x5 (ix3 e k f) := by
    rw [val_main_v25_apply]
    refine Finset.sum_congr rfl fun k _ => ?_
    rw [show lidx_main_v25 (ix3 b r f) k = ix3 b r k from ext3 rfl rfl rfl, show ridx_main_v25 (ix3 b r f) k = ix3 b k f from ext3 rfl rfl rfl,
      x_at, wu_at x0 x5 b e he]
  rw [val_main_v26_apply, val_main_v24_apply, val_main_call0_v5_apply, val_main_call0_v3_apply, val_main_call0_v1_apply, val_main_call0_v0_apply,
    val_main_call0_v2_apply, val_main_call0_v4_apply, val_main_call0_cst_apply, val_main_call0_cst_0_apply, hg, hu]
  unfold hid Ideal.logistic
  show _ * Ideal.div (Ideal.ofBits .f32 0x3F800000#32) (Ideal.ofBits .f32 0x3F800000#32 + Ideal.exp (-_)) * _ = _
  rw [one_val]

theorem used_at (r : Fin 256) (j : Fin 1024) : val_main_v30 (F := Ideal) x0 x2 x3 x4 x5 x6 (ix3 b r j)
    = expert (fun k => x2 (ix2 (row b r) k)) (x3 (ix2 (row b r) 0)) (fun k f => x4 (ix3 e k f)) (fun k f => x5 (ix3 e k f)) (fun f => x6 (ix3 e f j)) := by
  rw [val_main_v30_apply, gate_at, val_main_v27_apply]
  unfold expert
  show _ * _ = _ * _
  congr 1
  refine Finset.sum_congr rfl fun f _ => ?_
  rw [show lidx_main_v27 (ix3 b r j) f = ix3 b r f from ext3 rfl rfl rfl, show ridx_main_v27 (ix3 b r j) f = ix3 b f j from ext3 rfl rfl rfl,
    hid_at x0 x2 x4 x5 b e he, wd_at x0 x6 b e he]

/-- An entry of the reference's result. -/
theorem result_at (r : Fin 256) (j : Fin 1024) : val_main_v38 (F := Ideal) x0 x1 x2 x3 x4 x5 x6 (ix2 (row b r) j)
    = if (BitVec.ofNat 32 b.val).toInt < (x1 (ix1 0)).toInt then
        expert (fun k => x2 (ix2 (row b r) k)) (x3 (ix2 (row b r) 0)) (fun k f => x4 (ix3 e k f)) (fun k f => x5 (ix3 e k f)) (fun f => x6 (ix3 e f j))
      else 0 := by
  have h : idx_main_v37 (ix2 (row b r) j) = ix3 b r j := by
    refine ext3 ?_ ?_ ?_
    · show ((256 * b.val + r.val) * 1024 + j.val) / 262144 = b.val
      omega
    · show ((256 * b.val + r.val) * 1024 + j.val) / 1024 % 256 = r.val
      omega
    · show ((256 * b.val + r.val) * 1024 + j.val) % 1024 = j.val
      omega
  have hw : val_main_v33 (F := Ideal) x1 (idx_main_v34 (idx_main_call1_v1 (ix3 b r j))) = x1 (ix1 0) := by
    unfold val_main_v33
    refine shapeCast_apply x1 shapeCasts_S1_S_ _ (ix1 0) ?_
    exact congrArg Fin.val (Subsingleton.elim (α := Fin 1) _ _)
  have hc : val_main_call1_v1 (F := Ideal) x1 (ix3 b r j) = IntOp.cmpi .slt (BitVec.ofNat 32 b.val) (x1 (ix1 0)) := by
    rw [val_main_call1_v1_apply, val_main_v35_apply, val_main_v34_apply, hw, val_main_v32_apply, val_main_v31_apply]
    rfl
  rw [val_main_v38_apply, val_main_v37_apply, h, val_main_v36_apply, used_at x0 x2 x3 x4 x5 x6 b e he, hc, val_main_call1_v2_apply, val_main_call1_v0_apply, val_main_cst_apply]
  show Scalar.select (BitVec.ofBool (BitVec.slt _ _)) _ (Ideal.ofBits .f32 0x00000000#32) = _
  rw [zero_val]
  unfold BitVec.slt
  by_cases hlt : (BitVec.ofNat 32 b.val).toInt < (x1 (ix1 0)).toInt
  · rw [if_pos hlt, decide_eq_true hlt]
    rfl
  · rw [if_neg hlt, decide_eq_false hlt]
    rfl

end Cert.Proof.Experts.Reference

end
-- ==== Proof.Experts.Agree.lean ====
/- The value claim of the experts' call: the idealized kernel's result is the reference's. -/
module

public import proofs.«01_k».proof.Defs
public import proofs.«01_k».proof.Proof.Experts.Value
public import proofs.«01_k».proof.Proof.Experts.Ref
public import proofs.«01_k».proof.Proof.Gen.Reference2Ideal.Run

@[expose] public section

set_option maxRecDepth 16384

noncomputable section

namespace Cert.Proof.Experts

open Idealize.ShloMosaic Idealize.ShloMosaic.TcCoe Idealize.SL.Sem

theorem reference_congr {b0 a0 : IVec Cert.Reference2Ideal.S136 32} {b1 a1 : IVec Cert.Reference2Ideal.S1 32}
    {b2 a2 : FVec Ideal Cert.Reference2Ideal.S34816x1024 .bf16} {b3 a3 : FVec Ideal Cert.Reference2Ideal.S34816x1 .f32}
    {b4 a4 b5 a5 : FVec Ideal Cert.Reference2Ideal.S8x1024x3584 .f32} {b6 a6 : FVec Ideal Cert.Reference2Ideal.S8x3584x1024 .f32}
    (g0 : b0 = a0) (g1 : b1 = a1) (g2 : b2 = a2) (g3 : b3 = a3) (g4 : b4 = a4) (g5 : b5 = a5) (g6 : b6 = a6)
    (i : Cert.Reference2Ideal.S34816x1024.Idx) :
    Cert.Reference2Ideal.Read.val_main_v38 (F := Ideal) b0 b1 b2 b3 b4 b5 b6 i
      = Cert.Reference2Ideal.Read.val_main_v38 (F := Ideal) a0 a1 a2 a3 a4 a5 a6 i := by
  rw [g0, g1, g2, g3, g4, g5, g6]

/-- The reference at the kernel's arguments has the kernel's value. -/
theorem reference_val (m : (ℓ : Loc Cert.Kernel2Ideal.nD Cert.Kernel2Ideal.τ Cert.Kernel2Ideal.sig) → Buf (Elt Ideal) ℓ) (c : Dev Cert.Kernel2Ideal.nD)
    (h8 : ∀ i : Cert.Kernel2Ideal.S136.Idx, BitVec.toNat (w := 32) (m ((c : Thread Cert.Kernel2Ideal.nD Cert.Kernel2Ideal.τ).loc Cert.Kernel2Ideal.main_arg0) i) < 8)
    (n : Fin 34816) (j : Fin 1024) :
    Cert.Reference2Ideal.Read.val_main_v38 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
      (m ((c : Thread Cert.Kernel2Ideal.nD Cert.Kernel2Ideal.τ).loc Cert.Kernel2Ideal.main_arg5))
      (m ((c : Thread Cert.Kernel2Ideal.nD Cert.Kernel2Ideal.τ).loc Cert.Kernel2Ideal.main_arg6)) (ix2 n j) = kVal m c n j := by
  have hb : n.val / 256 < 136 := by omega
  have hr : n.val % 256 < 256 := Nat.mod_lt _ (by decide)
  have hn : n = Reference.row ⟨n.val / 256, hb⟩ ⟨n.val % 256, hr⟩ := Fin.ext (Nat.div_add_mod n.val 256).symm
  have he : (m ((c : Thread Cert.Kernel2Ideal.nD Cert.Kernel2Ideal.τ).loc Cert.Kernel2Ideal.main_arg0) : IVec Cert.Kernel2Ideal.S136 32) (ix1 ⟨n.val / 256, hb⟩)
      = BitVec.ofNat 32 (eOf m c ⟨n.val / 256, hb⟩).val := by
    have h := h8 (ix1 ⟨n.val / 256, hb⟩)
    refine BitVec.eq_of_toNat_eq ?_
    rw [BitVec.toNat_ofNat]
    show _ = (BitVec.toNat (w := 32) _ % 8) % 2 ^ 32
    rw [Nat.mod_eq_of_lt h, Nat.mod_eq_of_lt (lt_trans h (by norm_num))]
  have key := Reference.result_at _ (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2))
    (m ((c : Thread Cert.Kernel2Ideal.nD Cert.Kernel2Ideal.τ).loc Cert.Kernel2Ideal.main_arg3))
    (m ((c : Thread Cert.Kernel2Ideal.nD Cert.Kernel2Ideal.τ).loc Cert.Kernel2Ideal.main_arg4))
    (m ((c : Thread Cert.Kernel2Ideal.nD Cert.Kernel2Ideal.τ).loc Cert.Kernel2Ideal.main_arg5))
    (m ((c : Thread Cert.Kernel2Ideal.nD Cert.Kernel2Ideal.τ).loc Cert.Kernel2Ideal.main_arg6)) ⟨n.val / 256, hb⟩ _ he ⟨n.val % 256, hr⟩ j
  rw [← hn] at key
  exact key

theorem algebraic : Cert.algebraic_Kernel2Ideal_Reference2Ideal (hKernel2Ideal := Cert.Kernel2Ideal.Gen.facts)
    (hReference2Ideal := Cert.Reference2Ideal.Gen.facts) (hPre_experts_in_range := Cert.Pre_experts_in_range.Gen.facts) := by
  intro m g m' g' hpre hag
  have h8 := fun c => expert_lt _ _ _ _ _ _ _ (congrFun (hpre c))
  refine ⟨fun c i => kVal m c (i 0) (i 1), ?_, ?_⟩
  · exact (θ_run Cert.Kernel2Ideal.defs _ _).mono (fun r h c => ⟨funext (h c).1, (h c).2⟩) (value m g (h8 0))
  · refine (θ_run Cert.Reference2Ideal.defs _ _).mono (fun r h c => ⟨funext fun i => ?_, (h c).2⟩) (Cert.Reference2Ideal.Value.run (F := Ideal) m' g')
    obtain ⟨g0, g1, g2, g3, g4, g5, g6⟩ := hag c
    have e := congrFun (((h c).1).trans (Cert.Reference2Ideal.Read.val_main_v38_eq _ _ _ _ _ _ _)) i
    refine e.trans ((reference_congr g0 g1 g2 g3 g4 g5 g6 i).trans ?_)
    have ei : i = ix2 (i 0) (i 1) := by
      funext d
      match d with
      | ⟨0, _⟩ => rfl
      | ⟨1, _⟩ => rfl
    exact (congrArg _ ei).trans (reference_val m c (h8 c) (i 0) (i 1))

end Cert.Proof.Experts

end
-- ==== Proof.Dense.Tile.lean ====
/- One tile of the dense layer at an index: the root mean squares, the gated hidden units, their projection back. -/
module

public import proofs.«01_k».proof.Proof.Gen.Kernel3Ideal.Frame
public import Idealize.ShloMosaic.Lib.Pointwise
public import Idealize.ShloMosaic.Lib.MatmulPlain
public import Idealize.ShloMosaic.Lib.Pipeline.ValueKit

@[expose] public section

noncomputable section

namespace Cert.Proof.Dense

open Idealize.ShloMosaic

/-! What the layer makes of a row. -/

/-- A row over its root mean square, times `g`. -/
def rms (y g : Fin 1024 → EReal) (j : Fin 1024) : EReal :=
  y j * Ideal.rsqrt (Ideal.div (∑ k, y k * y k) (Ideal.ofBits .f32 0x44800000#32) + Ideal.ofBits .f32 0x358637BD#32) * g j
/-- The row scaled and shifted. -/
def pre (x g scale shift : Fin 1024 → EReal) (j : Fin 1024) : EReal := rms x g j * (1 + scale j) + shift j
/-- One hidden unit: the gated product of the row's two projections. -/
def hid (h wg wu : Fin 1024 → EReal) : EReal :=
  (∑ k, h k * wg k) * Ideal.logistic (∑ k, h k * wg k) * ∑ k, h k * wu k
/-- The hidden units projected back. -/
def ffn (h : Fin 1024 → EReal) (wg wu : Fin 1024 → Fin 2816 → EReal) (wd : Fin 2816 → Fin 1024 → EReal) (j : Fin 1024) : EReal :=
  ∑ f, hid h (fun k => wg k f) (fun k => wu k f) * wd f j
/-- An entry of the layer's result: the row, plus what comes back over its root mean square and gated. -/
def layer (x g scale shift g' gate : Fin 1024 → EReal) (wg wu : Fin 1024 → Fin 2816 → EReal) (wd : Fin 2816 → Fin 1024 → EReal) (j : Fin 1024) : EReal :=
  x j + gate j * rms (ffn (pre x g scale shift) wg wu wd) g' j

open Cert.Kernel3Ideal Cert.Kernel3Ideal.Gen
open Idealize.ShloMosaic.TcCoe Idealize.ShloMosaic.Tactic

variable (x : Vec Ideal S512x1024 .f32) (v : Vec Ideal S8x1024 .f32) (wg wu : Vec Ideal S1024x2816 .bf16) (wd : Vec Ideal S2816x1024 .bf16)

theorem hid_at (r : Fin 512) (f : Fin 2816) : k0_pay4 x v wg wu (ix2 r f)
    = hid (pre (fun k => x (ix2 r k)) (fun k => v (ix2 0 k)) (fun k => v (ix2 1 k)) (fun k => v (ix2 2 k))) (fun k => wg (ix2 k f)) (fun k => wu (ix2 k f)) := by
  pointwise [k0_pay4, k0_pay3]
  rfl

theorem out_at (a : FVec Ideal S512x2816 .bf16) (r : Fin 512) (j : Fin 1024) : k0_pay1 x (k0_pay3 v) a wd (ix2 r j)
    = x (ix2 r j) + v (ix2 4 j) * rms (fun j => ∑ f : Fin 2816, a (ix2 r f) * wd (ix2 f j)) (fun k => v (ix2 3 k)) j := by
  pointwise [k0_pay1, k0_pay3]
  rfl

/-- An entry of a tile's result. -/
theorem tile_at (x5 : Vec Ideal S896x1024 .f32) (r : Fin 512) (j : Fin 1024) : out0_6 x v wg wu wd x5 (ix2 r j)
    = layer (fun k => x (ix2 r k)) (fun k => v (ix2 0 k)) (fun k => v (ix2 1 k)) (fun k => v (ix2 2 k)) (fun k => v (ix2 3 k)) (fun k => v (ix2 4 k))
      (fun k f => wg (ix2 k f)) (fun k f => wu (ix2 k f)) (fun f k => wd (ix2 f k)) j := by
  have hz : (![0, 0] : Fin 2 → ℕ) = fun _ => 0 := by funext a; fin_cases a <;> rfl
  unfold out0_6
  rw [View.canon_unit_zero hz, View.ld_unit_zero hz, View.ld_unit_zero hz, View.ld_unit_zero hz, View.ld_unit_zero hz, View.ld_unit_zero hz, out_at]
  simp only [hid_at]
  rfl

/-- An entry of a tile of the cast weights. -/
theorem cast_at (x5 : Vec Ideal S896x1024 .f32) (r : Fin 896) (j : Fin 1024) : out0_7 x v wg wu wd x5 (ix2 r j) = x5 (ix2 r j) := by
  have hz : (![0, 0] : Fin 2 → ℕ) = fun _ => 0 := by funext a; fin_cases a <;> rfl
  unfold out0_7
  rw [View.canon_unit_zero hz, View.ld_unit_zero hz]
  pointwise [k0_pay2]

end Cert.Proof.Dense

end
-- ==== Proof.Dense.Value.lean ====
/- The results of the dense layer's kernel at an index, from the tiles of all its points; its runs. -/
module

public import proofs.«01_k».proof.Defs
public import proofs.«01_k».proof.Proof.Dense.Tile
public import proofs.«01_k».proof.Proof.Gen.Kernel3
public import proofs.«01_k».proof.Proof.Gen.Kernel3Ideal.Value
public import proofs.«01_k».proof.Proof.Gen.Reference3Ideal.Run
public import Idealize.ShloMosaic.Lib.StableHlo.ReadAt

@[expose] public section

set_option maxRecDepth 16384

noncomputable section

namespace Cert.Proof.Dense

open Cert.Kernel3Ideal Cert.Kernel3Ideal.Gen
open Idealize.ShloMosaic Idealize.ShloMosaic.TcCoe Idealize.ShloMosaic.Tactic
open Idealize.SL.Sem

/-! The three programs run. -/

/-- The dense layer's idealization runs, leaves its arguments as they were and every counter at zero. -/
theorem frame_pi : Cert.quiescent_Kernel3Ideal := fun m ρ _ => frame m ρ

/-- The two programs' bodies are the same, -/
theorem defs₀_eq : Cert.Kernel3.defs₀ (F := Bits) = Cert.Kernel3Ideal.defs₀ (F := Bits) := by
  refine congrArg (Defs.onTc (nD := nD) (τ := τ) (sig := sig) (Val := Elt Bits) (Λ := Λ₀)) (funext fun l => funext fun a => ?_)
  match l, a with
  | 0, (t, s) => rfl

/-- and so are they with the pipeline's. -/
theorem defs_eq : Cert.Kernel3.defs (F := Bits) = Cert.Kernel3Ideal.defs (F := Bits) :=
  congrArg (Pipeline.defs (Cert.Kernel3Ideal.pcfgs (F := Bits))) defs₀_eq

/-- So does the kernel: it has the same text. -/
theorem frame_p : Cert.quiescent_Kernel3 (hKernel3 := Cert.Kernel3.Gen.facts) := fun m ρ _ => by
  rw [defs_eq]
  exact frame (F := Bits) m ρ

/-- So does the reference, from its run read back. -/
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

variable (m : (ℓ : Loc nD τ sig) → Buf (Elt Ideal) ℓ) (c : Dev nD)

/-! The arrays the kernel takes, from the arguments. -/

theorem V_v13 (k : Fin 1024) (f : Fin 2816) : V m c main_v13 (ix2 k f) = m ((c : Thread nD τ).loc main_arg4) (ix2 k f) := by
  unfold V
  after_reads_at
theorem V_v14 (k : Fin 1024) (f : Fin 2816) : V m c main_v14 (ix2 k f) = m ((c : Thread nD τ).loc main_arg5) (ix2 k f) := by
  unfold V
  after_reads_at
theorem V_v15 (f : Fin 2816) (j : Fin 1024) : V m c main_v15 (ix2 f j) = m ((c : Thread nD τ).loc main_arg6) (ix2 f j) := by
  unfold V
  after_reads_at
theorem V_v16 (n : Fin 28672) (j : Fin 1024) : V m c main_v16 (ix2 (⟨n.val, by omega⟩ : Fin 57344) j)
    = m ((c : Thread nD τ).loc main_arg7) (ix4 0 ⟨n.val / 3584, by omega⟩ ⟨n.val % 3584, Nat.mod_lt _ (by decide)⟩ j) := by
  unfold V
  after_reads_at
  refine congrArg (m ((c : Thread nD τ).loc main_arg7)) (funext fun a => ?_)
  match a with
  | ⟨0, _⟩ => exact Fin.ext (Nat.div_eq_of_lt n.isLt)
  | ⟨1, _⟩ => exact Fin.ext (by show n.val / 3584 % 8 = n.val / 3584; omega)
  | ⟨2, _⟩ => rfl
  | ⟨3, _⟩ => rfl
theorem V_pre (k : Fin 1024) : V m c main_v12 (ix2 0 k) = m ((c : Thread nD τ).loc main_arg1) (ix1 k) := by
  unfold V
  after_reads_at
  after_reads_at
theorem V_scale (k : Fin 1024) : V m c main_v12 (ix2 1 k) = m ((c : Thread nD τ).loc main_arg2) (ix1 ⟨1024 + k.val, by omega⟩) := by
  unfold V
  after_reads_at
  after_reads_at
theorem V_shift (k : Fin 1024) : V m c main_v12 (ix2 2 k) = m ((c : Thread nD τ).loc main_arg2) (ix1 ⟨k.val, by omega⟩) := by
  unfold V
  after_reads_at
  after_reads_at
theorem V_post (k : Fin 1024) : V m c main_v12 (ix2 3 k) = m ((c : Thread nD τ).loc main_arg3) (ix1 k) := by
  unfold V
  after_reads_at
  after_reads_at
theorem V_gate (k : Fin 1024) : V m c main_v12 (ix2 4 k) = m ((c : Thread nD τ).loc main_arg2) (ix1 ⟨2048 + k.val, by omega⟩) := by
  unfold V
  after_reads_at
  after_reads_at

/-! The blocks of a point. -/

variable (t : Fin cfg0.N)

theorem index0 : (cfg0.win 0).index t = ![(grid0.coords t 0).val, 0] :=
  (by decide +kernel : ∀ t : Fin grid0.N, cc0_transform_0 (grid0.coords t) = ![(grid0.coords t 0).val, 0]) t
theorem index1 : (cfg0.win 1).index t = ![0, 0] := rfl
theorem index2 : (cfg0.win 2).index t = ![0, 0] := rfl
theorem index3 : (cfg0.win 3).index t = ![0, 0] := rfl
theorem index4 : (cfg0.win 4).index t = ![0, 0] := rfl
theorem index5 : (cfg0.win 5).index t = ![(grid0.coords t 0).val, 0] :=
  (by decide +kernel : ∀ t : Fin grid0.N, cc0_transform_5 (grid0.coords t) = ![(grid0.coords t 0).val, 0]) t
theorem index6 : (cfg0.win 6).index t = ![(grid0.coords t 0).val, 0] :=
  (by decide +kernel : ∀ t : Fin grid0.N, cc0_transform_6 (grid0.coords t) = ![(grid0.coords t 0).val, 0]) t
theorem index7 : (cfg0.win 7).index t = ![(grid0.coords t 0).val, 0] :=
  (by decide +kernel : ∀ t : Fin grid0.N, cc0_transform_7 (grid0.coords t) = ![(grid0.coords t 0).val, 0]) t

theorem iblk0_at (r : Fin 512) (k : Fin 1024) (n : Fin 16384) (hn : n.val = 512 * (grid0.coords t 0).val + r.val) :
    iblk m c 0 t (ix2 r k) = V m c main_arg0 (ix2 n k) := by
  blk_ext! [iblk, index0 t]
theorem iblk1_at (r : Fin 8) (k : Fin 1024) : iblk m c 1 t (ix2 r k) = V m c main_v12 (ix2 r k) := by
  blk_ext! [iblk, index1 t]
theorem iblk2_at (k : Fin 1024) (f : Fin 2816) : iblk m c 2 t (ix2 k f) = V m c main_v13 (ix2 k f) := by
  blk_ext! [iblk, index2 t]
theorem iblk3_at (k : Fin 1024) (f : Fin 2816) : iblk m c 3 t (ix2 k f) = V m c main_v14 (ix2 k f) := by
  blk_ext! [iblk, index3 t]
theorem iblk4_at (f : Fin 2816) (j : Fin 1024) : iblk m c 4 t (ix2 f j) = V m c main_v15 (ix2 f j) := by
  blk_ext! [iblk, index4 t]
theorem iblk5_at (r : Fin 896) (j : Fin 1024) (n : Fin 28672) (hn : n.val = 896 * (grid0.coords t 0).val + r.val) :
    iblk m c 5 t (ix2 r j) = V m c main_v16 (ix2 (⟨n.val, by omega⟩ : Fin 57344) j) := by
  blk_ext! [iblk, index5 t]

/-- The kernel's result, -/
def kVal (n : Fin 16384) (j : Fin 1024) : EReal :=
  layer (fun k => m ((c : Thread nD τ).loc main_arg0) (ix2 n k)) (fun k => m ((c : Thread nD τ).loc main_arg1) (ix1 k))
    (fun k => m ((c : Thread nD τ).loc main_arg2) (ix1 ⟨1024 + k.val, by omega⟩)) (fun k => m ((c : Thread nD τ).loc main_arg2) (ix1 ⟨k.val, by omega⟩))
    (fun k => m ((c : Thread nD τ).loc main_arg3) (ix1 k)) (fun k => m ((c : Thread nD τ).loc main_arg2) (ix1 ⟨2048 + k.val, by omega⟩))
    (fun k f => m ((c : Thread nD τ).loc main_arg4) (ix2 k f)) (fun k f => m ((c : Thread nD τ).loc main_arg5) (ix2 k f))
    (fun f k => m ((c : Thread nD τ).loc main_arg6) (ix2 f k)) j
/-- and the weights it casts. -/
def castVal (n : Fin 28672) (j : Fin 1024) : EReal :=
  m ((c : Thread nD τ).loc main_arg7) (ix4 0 ⟨n.val / 3584, by omega⟩ ⟨n.val % 3584, Nat.mod_lt _ (by decide)⟩ j)

theorem layer_congr {x x' g g' sc sc' sh sh' p p' ga ga' : Fin 1024 → EReal} {wg wg' wu wu' : Fin 1024 → Fin 2816 → EReal} {wd wd' : Fin 2816 → Fin 1024 → EReal}
    (hx : ∀ k, x k = x' k) (hg : ∀ k, g k = g' k) (hsc : ∀ k, sc k = sc' k) (hsh : ∀ k, sh k = sh' k) (hp : ∀ k, p k = p' k) (hga : ∀ k, ga k = ga' k)
    (hwg : ∀ k f, wg k f = wg' k f) (hwu : ∀ k f, wu k f = wu' k f) (hwd : ∀ f k, wd f k = wd' f k) (j : Fin 1024) :
    layer x g sc sh p ga wg wu wd j = layer x' g' sc' sh' p' ga' wg' wu' wd' j := by
  rw [funext hx, funext hg, funext hsc, funext hsh, funext hp, funext hga, funext fun k => funext (hwg k), funext fun k => funext (hwu k), funext fun f => funext (hwd f)]

/-- What a point leaves in its block of the result, -/
theorem block6_val (r : Fin 512) (j : Fin 1024) (n : Fin 16384) (hn : n.val = 512 * (grid0.coords t 0).val + r.val) :
    out0_6 (iblk m c 0 t) (iblk m c 1 t) (iblk m c 2 t) (iblk m c 3 t) (iblk m c 4 t) (iblk m c 5 t) (ix2 r j) = kVal m c n j := by
  refine (tile_at _ _ _ _ _ _ r j).trans (layer_congr (fun k => ?_) (fun k => ?_) (fun k => ?_) (fun k => ?_) (fun k => ?_) (fun k => ?_) (fun k f => ?_) (fun k f => ?_) (fun f k => ?_) j)
  · exact (iblk0_at m c t r k n hn).trans (congrFun (V_main_arg0 m c) _)
  · exact (iblk1_at m c t 0 k).trans (V_pre m c k)
  · exact (iblk1_at m c t 1 k).trans (V_scale m c k)
  · exact (iblk1_at m c t 2 k).trans (V_shift m c k)
  · exact (iblk1_at m c t 3 k).trans (V_post m c k)
  · exact (iblk1_at m c t 4 k).trans (V_gate m c k)
  · exact (iblk2_at m c t k f).trans (V_v13 m c k f)
  · exact (iblk3_at m c t k f).trans (V_v14 m c k f)
  · exact (iblk4_at m c t f k).trans (V_v15 m c f k)

/-- and in its block of the cast weights. -/
theorem block7_val (r : Fin 896) (j : Fin 1024) (n : Fin 28672) (hn : n.val = 896 * (grid0.coords t 0).val + r.val) :
    out0_7 (iblk m c 0 t) (iblk m c 1 t) (iblk m c 2 t) (iblk m c 3 t) (iblk m c 4 t) (iblk m c 5 t) (ix2 r j) = castVal m c n j :=
  (cast_at _ _ _ _ _ _ r j).trans ((iblk5_at m c t r j n hn).trans (V_v16 m c n j))

/-! The results' arrays after the run. -/

theorem covers6 : (cfg0.win 6).Covers := by decide +kernel
theorem covers7 : (cfg0.win 7).Covers := by decide +kernel

/-- Where a block places its index: row `512 * t + r` of the result, -/
theorem place6_row (r : Fin 512) (j : Fin 1024) : (((cfg0.win 6).blk t).view.emb (ix2 r j) (0 : Fin 2) : Fin _).val = 512 * (grid0.coords t 0).val + r.val := by
  have e := Pipeline.Window.rect_emb_val (cfg0.win 6) t (ix2 r j) (0 : Fin 2) rfl
  have e0 : (cfg0.win 6).index t (0 : Fin 2) = (grid0.coords t 0).val := congrFun (index6 t) (0 : Fin 2)
  rw [e0] at e
  refine Eq.trans e ?_
  show (grid0.coords t 0).val * 512 + r.val = _
  omega
theorem place6_col (r : Fin 512) (j : Fin 1024) : (((cfg0.win 6).blk t).view.emb (ix2 r j) (1 : Fin 2) : Fin _).val = j.val := by
  have e := Pipeline.Window.rect_emb_val (cfg0.win 6) t (ix2 r j) (1 : Fin 2) rfl
  have e0 : (cfg0.win 6).index t (1 : Fin 2) = 0 := congrFun (index6 t) (1 : Fin 2)
  rw [e0] at e
  refine Eq.trans e ?_
  show 0 * 1024 + j.val = _
  omega
/-- row `896 * t + r` of the cast weights. -/
theorem place7_row (r : Fin 896) (j : Fin 1024) : (((cfg0.win 7).blk t).view.emb (ix2 r j) (0 : Fin 2) : Fin _).val = 896 * (grid0.coords t 0).val + r.val := by
  have e := Pipeline.Window.rect_emb_val (cfg0.win 7) t (ix2 r j) (0 : Fin 2) rfl
  have e0 : (cfg0.win 7).index t (0 : Fin 2) = (grid0.coords t 0).val := congrFun (index7 t) (0 : Fin 2)
  rw [e0] at e
  refine Eq.trans e ?_
  show (grid0.coords t 0).val * 896 + r.val = _
  omega
theorem place7_col (r : Fin 896) (j : Fin 1024) : (((cfg0.win 7).blk t).view.emb (ix2 r j) (1 : Fin 2) : Fin _).val = j.val := by
  have e := Pipeline.Window.rect_emb_val (cfg0.win 7) t (ix2 r j) (1 : Fin 2) rfl
  have e0 : (cfg0.win 7).index t (1 : Fin 2) = 0 := congrFun (index7 t) (1 : Fin 2)
  rw [e0] at e
  refine Eq.trans e ?_
  show 0 * 1024 + j.val = _
  omega

/-- The result's array, from its blocks, -/
theorem result_of (K : Fin 16384 → Fin 1024 → EReal) (H : ∀ (t : Fin cfg0.N) (r : Fin 512) (j : Fin 1024) (n : Fin 16384), n.val = 512 * (grid0.coords t 0).val + r.val →
      out0_6 (iblk m c 0 t) (iblk m c 1 t) (iblk m c 2 t) (iblk m c 3 t) (iblk m c 4 t) (iblk m c 5 t) (ix2 r j) = K n j)
    (i : S16384x1024.Idx) : (dats (F := Ideal) m 0 c).arrAt 6 cfg0.N i = K (i 0) (i 1) := by
  refine (dats (F := Ideal) m 0 c).arrAt_forall_of_covers 6 (fun (i : S16384x1024.Idx) (v : EReal) => v = K (i 0) (i 1)) covers6 (fun t hf y => ?_) i
  blk_simp
  rw [after0_6]
  obtain ⟨r, j, rfl⟩ : ∃ (r : Fin 512) (j : Fin 1024), y = ix2 r j := ⟨y (0 : Fin 2), y (1 : Fin 2), by funext a; fin_cases a <;> rfl⟩
  refine (H t r j _ (place6_row t r j)).trans ?_
  exact congrArg (K _) (Fin.ext (place6_col t r j).symm)

/-- and the cast weights' array. -/
theorem cast_of (K : Fin 28672 → Fin 1024 → EReal) (H : ∀ (t : Fin cfg0.N) (r : Fin 896) (j : Fin 1024) (n : Fin 28672), n.val = 896 * (grid0.coords t 0).val + r.val →
      out0_7 (iblk m c 0 t) (iblk m c 1 t) (iblk m c 2 t) (iblk m c 3 t) (iblk m c 4 t) (iblk m c 5 t) (ix2 r j) = K n j)
    (i : S28672x1024.Idx) : (dats (F := Ideal) m 0 c).arrAt 7 cfg0.N i = K (i 0) (i 1) := by
  refine (dats (F := Ideal) m 0 c).arrAt_forall_of_covers 7 (fun (i : S28672x1024.Idx) (v : EReal) => v = K (i 0) (i 1)) covers7 (fun t hf y => ?_) i
  blk_simp
  rw [after0_7]
  obtain ⟨r, j, rfl⟩ : ∃ (r : Fin 896) (j : Fin 1024), y = ix2 r j := ⟨y (0 : Fin 2), y (1 : Fin 2), by funext a; fin_cases a <;> rfl⟩
  refine (H t r j _ (place7_row t r j)).trans ?_
  exact congrArg (K _) (Fin.ext (place7_col t r j).symm)

/-- Every weakly fair execution ends with the results as `kVal` and `castVal` have them, the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v17_0) = (fun i : S16384x1024.Idx => kVal m c (i 0) (i 1))
      ∧ r.2.mem ((c.tc : Thread nD τ).loc main_v17_1) = (fun i : S28672x1024.Idx => castVal m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (funext (result_of m c _ (block6_val m c))), (h c).2.1.trans (funext (cast_of m c _ (block7_val m c))), (h c).2.2⟩) (Cert.Kernel3Ideal.Value.run_blocks m ρ)

end Cert.Proof.Dense

end
-- ==== Proof.Dense.Ref.lean ====
/- The dense layer's reference at an index. -/
module

public import proofs.«01_k».proof.Proof.Dense.Tile
public import proofs.«01_k».proof.Proof.Experts.Ref
public import proofs.«01_k».proof.Proof.Gen.Reference3Ideal
public import proofs.«01_k».proof.Proof.Gen.Reference3Ideal.Read

@[expose] public section

set_option maxRecDepth 16384

noncomputable section

namespace Cert.Proof.Dense.Reference

open Cert.Reference3Ideal Cert.Reference3Ideal.Gen Cert.Reference3Ideal.Read
open Idealize.ShloMosaic
open Cert.Proof.Experts.Reference (ext1 ext2 zero_val one_val)

variable (x0 : Vec Ideal S16384x1024 .f32) (x1 : Vec Ideal S1024 .f32) (x2 : Vec Ideal S3072 .f32) (x3 : Vec Ideal S1024 .f32)
  (x4 x5 : Vec Ideal S1024x2816 .f32) (x6 : Vec Ideal S2816x1024 .f32)

/-! The three parts of the modulation. -/

abbrev shift (k : Fin 1024) : EReal := x2 (ix1 ⟨k.val, by omega⟩)
abbrev scale (k : Fin 1024) : EReal := x2 (ix1 ⟨1024 + k.val, by omega⟩)
abbrev gate (k : Fin 1024) : EReal := x2 (ix1 ⟨2048 + k.val, by omega⟩)

/-- The row as the hidden units take it. -/
abbrev rowOf (n : Fin 16384) : Fin 1024 → EReal := pre (fun k => x0 (ix2 n k)) (fun k => x1 (ix1 k)) (scale x2) (shift x2)

theorem pre_at (n : Fin 16384) (k : Fin 1024) : val_main_v23 (F := Ideal) x0 x1 x2 (ix2 n k) = rowOf x0 x1 x2 n k := by
  have hs : val_main_v4 (F := Ideal) x0 (ix1 n) = ∑ k, x0 (ix2 n k) * x0 (ix2 n k) := by
    rw [val_main_v4_apply, val_main_cst_apply]
    show Ideal.ofBits .f32 0x00000000#32 + _ = _
    rw [zero_val, zero_add]
    refine Finset.sum_congr rfl fun k _ => ?_
    rw [val_main_v3_apply, show idx_main_v4 (ix1 n) k = ix2 n k from ext2 rfl rfl]
    rfl
  rw [val_main_v23_apply, val_main_v20_apply, val_main_v15_apply, val_main_v12_apply, val_main_v11_apply, val_main_v10_apply, val_main_v9_apply,
    val_main_v7_apply, val_main_v5_apply, val_main_v6_apply, val_main_v8_apply, val_main_cst_0_apply, val_main_cst_1_apply,
    val_main_v14_apply, val_main_v13_apply, val_main_v19_apply, val_main_v18_apply, val_main_v17_apply, val_main_v16_apply, val_main_cst_2_apply,
    val_main_v1_apply, val_main_v22_apply, val_main_v21_apply, val_main_v0_apply,
    show idx_main_v5 (idx_main_v11 (ix2 n k)) = ix1 n from ext1 rfl, hs,
    show idx_main_v13 (idx_main_v14 (ix2 n k)) = ix1 k from ext1 rfl,
    show idx_main_v1 (idx_main_v18 (idx_main_v19 (ix2 n k))) = ix1 ⟨1024 + k.val, by omega⟩ from ext1 rfl,
    show idx_main_v0 (idx_main_v21 (idx_main_v22 (ix2 n k))) = ix1 ⟨k.val, by omega⟩ from ext1 rfl]
  unfold rowOf pre rms
  show _ * (Ideal.ofBits .f32 0x3F800000#32 + _) + _ = _
  rw [one_val]
  rfl

theorem hid_at (n : Fin 16384) (f : Fin 2816) : val_main_v27 (F := Ideal) x0 x1 x2 x4 x5 (ix2 n f)
    = hid (rowOf x0 x1 x2 n) (fun k => x4 (ix2 k f)) (fun k => x5 (ix2 k f)) := by
  have hg : val_main_v24 (F := Ideal) x0 x1 x2 x4 (ix2 n f) = ∑ k, rowOf x0 x1 x2 n k * x4 (ix2 k f) := by
    rw [val_main_v24_apply]
    refine Finset.sum_congr rfl fun k _ => ?_
    rw [show lidx_main_v24 (ix2 n f) k = ix2 n k from ext2 rfl rfl, show ridx_main_v24 (ix2 n f) k = ix2 k f from ext2 rfl rfl, pre_at]
  have hu : val_main_v26 (F := Ideal) x0 x1 x2 x5 (ix2 n f) = ∑ k, rowOf x0 x1 x2 n k * x5 (ix2 k f) := by
    rw [val_main_v26_apply]
    refine Finset.sum_congr rfl fun k _ => ?_
    rw [show lidx_main_v26 (ix2 n f) k = ix2 n k from ext2 rfl rfl, show ridx_main_v26 (ix2 n f) k = ix2 k f from ext2 rfl rfl, pre_at]
  rw [val_main_v27_apply, val_main_v25_apply, val_main_call0_v5_apply, val_main_call0_v3_apply, val_main_call0_v1_apply, val_main_call0_v0_apply,
    val_main_call0_v2_apply, val_main_call0_v4_apply, val_main_call0_cst_apply, val_main_call0_cst_0_apply, hg, hu]
  unfold hid Ideal.logistic
  show _ * Ideal.div (Ideal.ofBits .f32 0x3F800000#32) (Ideal.ofBits .f32 0x3F800000#32 + Ideal.exp (-_)) * _ = _
  rw [one_val]

theorem ffn_at (n : Fin 16384) (j : Fin 1024) : val_main_v28 (F := Ideal) x0 x1 x2 x4 x5 x6 (ix2 n j)
    = ffn (rowOf x0 x1 x2 n) (fun k f => x4 (ix2 k f)) (fun k f => x5 (ix2 k f)) (fun f k => x6 (ix2 f k)) j := by
  rw [val_main_v28_apply]
  unfold ffn
  refine Finset.sum_congr rfl fun f _ => ?_
  rw [show lidx_main_v28 (ix2 n j) f = ix2 n f from ext2 rfl rfl, show ridx_main_v28 (ix2 n j) f = ix2 f j from ext2 rfl rfl, hid_at]

/-- An entry of the reference's result. -/
theorem result_at (n : Fin 16384) (j : Fin 1024) : val_main_v45 (F := Ideal) x0 x1 x2 x3 x4 x5 x6 (ix2 n j)
    = layer (fun k => x0 (ix2 n k)) (fun k => x1 (ix1 k)) (scale x2) (shift x2) (fun k => x3 (ix1 k)) (gate x2)
      (fun k f => x4 (ix2 k f)) (fun k f => x5 (ix2 k f)) (fun f k => x6 (ix2 f k)) j := by
  have hs : val_main_v30 (F := Ideal) x0 x1 x2 x4 x5 x6 (ix1 n)
      = ∑ k, ffn (rowOf x0 x1 x2 n) (fun k f => x4 (ix2 k f)) (fun k f => x5 (ix2 k f)) (fun f k => x6 (ix2 f k)) k
        * ffn (rowOf x0 x1 x2 n) (fun k f => x4 (ix2 k f)) (fun k f => x5 (ix2 k f)) (fun f k => x6 (ix2 f k)) k := by
    rw [val_main_v30_apply, val_main_cst_3_apply]
    show Ideal.ofBits .f32 0x00000000#32 + _ = _
    rw [zero_val, zero_add]
    refine Finset.sum_congr rfl fun k _ => ?_
    rw [val_main_v29_apply, show idx_main_v30 (ix1 n) k = ix2 n k from ext2 rfl rfl, ffn_at]
    rfl
  rw [val_main_v45_apply, val_main_v44_apply, val_main_v43_apply, val_main_v42_apply, val_main_v2_apply, val_main_v41_apply, val_main_v40_apply,
    val_main_v39_apply, val_main_v38_apply, val_main_v37_apply, val_main_v36_apply, val_main_v35_apply, val_main_v34_apply, val_main_v33_apply,
    val_main_v32_apply, val_main_v31_apply, val_main_cst_4_apply, val_main_cst_5_apply,
    show idx_main_v31 (idx_main_v37 (ix2 n j)) = ix1 n from ext1 rfl, hs, ffn_at,
    show idx_main_v39 (idx_main_v40 (ix2 n j)) = ix1 j from ext1 rfl,
    show idx_main_v2 (idx_main_v42 (idx_main_v43 (ix2 n j))) = ix1 ⟨2048 + j.val, by omega⟩ from ext1 rfl]
  rfl

/-- An entry of the cast weights: the first layer's, its experts' rows in order. -/
theorem cast_at (x7 : Vec Ideal S2x8x3584x1024 .f32) (n : Fin 28672) (j : Fin 1024) : val_main_v49 (F := Ideal) x7 (ix2 n j)
    = x7 (ix4 0 ⟨n.val / 3584, by omega⟩ ⟨n.val % 3584, Nat.mod_lt _ (by decide)⟩ j) := by
  rw [val_main_v49_apply, val_main_v48_apply, val_main_v47_apply, val_main_v46_apply]
  show x7 _ = _
  refine congrArg x7 (funext fun a => ?_)
  have h0 : ((n.val * 1024 + j.val) / 3670016 * 3584 + (n.val * 1024 + j.val) / 1024 % 3584) * 1024 + (n.val * 1024 + j.val) % 1024
      = n.val * 1024 + j.val := by omega
  match a with
  | ⟨0, _⟩ => rfl
  | ⟨1, _⟩ =>
    refine Fin.ext ?_
    show (((n.val * 1024 + j.val) / 3670016 * 3584 + (n.val * 1024 + j.val) / 1024 % 3584) * 1024 + (n.val * 1024 + j.val) % 1024) / 3670016 % 8 = n.val / 3584
    rw [h0]
    omega
  | ⟨2, _⟩ =>
    refine Fin.ext ?_
    show (((n.val * 1024 + j.val) / 3670016 * 3584 + (n.val * 1024 + j.val) / 1024 % 3584) * 1024 + (n.val * 1024 + j.val) % 1024) / 1024 % 3584 = n.val % 3584
    rw [h0]
    omega
  | ⟨3, _⟩ =>
    refine Fin.ext ?_
    show (((n.val * 1024 + j.val) / 3670016 * 3584 + (n.val * 1024 + j.val) / 1024 % 3584) * 1024 + (n.val * 1024 + j.val) % 1024) % 1024 = j.val
    rw [h0]
    omega

end Cert.Proof.Dense.Reference

end
-- ==== Proof.Dense.Agree.lean ====
/- The value claim of the dense layer: the idealized kernel's two results are the reference's. -/
module

public import proofs.«01_k».proof.Defs
public import proofs.«01_k».proof.Proof.Dense.Value
public import proofs.«01_k».proof.Proof.Dense.Ref

@[expose] public section

set_option maxRecDepth 16384

noncomputable section

namespace Cert.Proof.Dense

open Idealize.ShloMosaic Idealize.ShloMosaic.TcCoe Idealize.SL.Sem

theorem reference_congr {b0 a0 : FVec Ideal Cert.Reference3Ideal.S16384x1024 .f32} {b1 a1 : FVec Ideal Cert.Reference3Ideal.S1024 .f32}
    {b2 a2 : FVec Ideal Cert.Reference3Ideal.S3072 .f32} {b3 a3 : FVec Ideal Cert.Reference3Ideal.S1024 .f32}
    {b4 a4 b5 a5 : FVec Ideal Cert.Reference3Ideal.S1024x2816 .f32} {b6 a6 : FVec Ideal Cert.Reference3Ideal.S2816x1024 .f32}
    (g0 : b0 = a0) (g1 : b1 = a1) (g2 : b2 = a2) (g3 : b3 = a3) (g4 : b4 = a4) (g5 : b5 = a5) (g6 : b6 = a6)
    (i : Cert.Reference3Ideal.S16384x1024.Idx) :
    Cert.Reference3Ideal.Read.val_main_v45 (F := Ideal) b0 b1 b2 b3 b4 b5 b6 i
      = Cert.Reference3Ideal.Read.val_main_v45 (F := Ideal) a0 a1 a2 a3 a4 a5 a6 i := by
  rw [g0, g1, g2, g3, g4, g5, g6]

theorem eq_ix2 {a b : ℕ} (i : (⟨2, ![a, b]⟩ : Shape).Idx) : i = ix2 (i 0) (i 1) := by
  funext d
  match d with
  | ⟨0, _⟩ => rfl
  | ⟨1, _⟩ => rfl

/-- The reference at the kernel's arguments has the kernel's value, -/
theorem reference_val (m : (ℓ : Loc Cert.Kernel3Ideal.nD Cert.Kernel3Ideal.τ Cert.Kernel3Ideal.sig) → Buf (Elt Ideal) ℓ) (c : Dev Cert.Kernel3Ideal.nD)
    (n : Fin 16384) (j : Fin 1024) : Cert.Reference3Ideal.Read.val_main_v45 (F := Ideal)
      (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4))
      (m ((c : Thread Cert.Kernel3Ideal.nD Cert.Kernel3Ideal.τ).loc Cert.Kernel3Ideal.main_arg5))
      (m ((c : Thread Cert.Kernel3Ideal.nD Cert.Kernel3Ideal.τ).loc Cert.Kernel3Ideal.main_arg6)) (ix2 n j) = kVal m c n j :=
  Reference.result_at _ _ _ _ _ _ _ n j

/-- and casts the weights the kernel casts. -/
theorem reference_cast (m : (ℓ : Loc Cert.Kernel3Ideal.nD Cert.Kernel3Ideal.τ Cert.Kernel3Ideal.sig) → Buf (Elt Ideal) ℓ) (c : Dev Cert.Kernel3Ideal.nD)
    (n : Fin 28672) (j : Fin 1024) : Cert.Reference3Ideal.Read.val_main_v49 (F := Ideal)
      (m ((c : Thread Cert.Kernel3Ideal.nD Cert.Kernel3Ideal.τ).loc Cert.Kernel3Ideal.main_arg7)) (ix2 n j) = castVal m c n j :=
  Reference.cast_at _ n j

theorem cast_congr {b a : FVec Ideal Cert.Reference3Ideal.S2x8x3584x1024 .f32} (g : b = a) (i : Cert.Reference3Ideal.S28672x1024.Idx) :
    Cert.Reference3Ideal.Read.val_main_v49 (F := Ideal) b i = Cert.Reference3Ideal.Read.val_main_v49 (F := Ideal) a i := by
  rw [g]

theorem algebraic : Cert.algebraic_Kernel3Ideal_Reference3Ideal (hKernel3Ideal := Cert.Kernel3Ideal.Gen.facts)
    (hReference3Ideal := Cert.Reference3Ideal.Gen.facts) := by
  intro m g m' g' hpre hag
  refine ⟨fun c i => kVal m c (i 0) (i 1), fun c i => castVal m c (i 0) (i 1), value m g, ?_⟩
  refine (θ_run Cert.Reference3Ideal.defs _ _).mono (fun r h c => ⟨funext fun i => ?_, funext fun i => ?_, (h c).2.2⟩)
    (Cert.Reference3Ideal.Value.run (F := Ideal) m' g')
  · obtain ⟨g0, g1, g2, g3, g4, g5, g6, g7⟩ := hag c
    have e := congrFun (((h c).1).trans (Cert.Reference3Ideal.Read.val_main_v45_eq m' c)) i
    refine e.trans ((reference_congr g0 g1 g2 g3 g4 g5 g6 i).trans ?_)
    exact (congrArg _ (eq_ix2 i)).trans (reference_val m c (i 0) (i 1))
  · obtain ⟨g0, g1, g2, g3, g4, g5, g6, g7⟩ := hag c
    have e := congrFun (((h c).2.1).trans (Cert.Reference3Ideal.Read.val_main_v49_eq _)) i
    refine e.trans ((cast_congr g7 i).trans ?_)
    exact (congrArg _ (eq_ix2 i)).trans (reference_cast m c (i 0) (i 1))

end Cert.Proof.Dense

end
-- ==== Proof.lean ====
module

public import proofs.«01_k».proof.Defs
public import proofs.«01_k».proof.Proof.Frame.KernelRun
public import proofs.«01_k».proof.Proof.Frame.KernelIdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Agree
public import proofs.«01_k».proof.Proof.Experts.Run
public import proofs.«01_k».proof.Proof.Experts.Agree
public import proofs.«01_k».proof.Proof.Dense.Value
public import proofs.«01_k».proof.Proof.Dense.Agree
public import Idealize.ShloMosaic.Adequacy
public import Idealize.ShloMosaic.Init

@[expose] public section

noncomputable section

namespace Cert.Proof

open Idealize.ShloMosaic Idealize.SL.Sem

/-- The kernel runs, leaves its arguments as they were and every counter at zero. -/
theorem frame_p : Cert.quiescent_Kernel := fun m ρ _ => Cert.Proof.Kernel.frame m ρ

/-- So does its idealization. -/
theorem frame_pi : Cert.quiescent_KernelIdeal := fun m ρ _ => Cert.Proof.KernelIdeal.frame m ρ

/-- So does the reference, from its run read back. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants have the values the table gives them. -/
theorem preserves : Cert.preserves_Kernel_KernelIdeal :=
  ⟨IdealRules.named_const.statement Cert.KernelIdeal.κ "mask" .f32 0xF149F2CA#32 ⊥ rfl,
    IdealRules.named_const.statement Cert.KernelIdeal.κ "scale" .f32 0x3E38AA3B#32 ((8⁻¹ * (Real.log 2)⁻¹ : ℝ) : EReal) rfl⟩

theorem frame_pi_pre : Cert.quiescent_KernelIdeal_pre_finite_scores := fun m ρ _ => Cert.Proof.KernelIdeal.frame m ρ

theorem frame_ri_pre : Cert.quiescent_ReferenceIdeal_pre_finite_scores := fun m ρ _ => frame_ri m ρ trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    facts_pre, Cert.Pre_experts_in_range.Gen.facts, facts_on,
    frame_p, frame_pi, frame_pi_pre, frame_ri, frame_ri_pre,
    Experts.frame_p, Experts.frame_pi, Experts.frame_ri, fun m ρ _ => Experts.frame_ri m ρ trivial,
    Dense.frame_p, Dense.frame_pi, Dense.frame_ri,
    preserves, algebraic, trivial, Experts.algebraic, trivial, Dense.algebraic⟩

end Cert.Proof

end
